-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_3)) (v2 : (c : Dev Cert.KernelIdeal.nD) → Buf (Elt Ideal) ((c.tc : Thread Cert.KernelIdeal.nD Cert.KernelIdeal.τ).loc Cert.KernelIdeal.main_v6_4)) (v3 : (c : Dev Cert.KernelIdeal.nD) → Buf (Elt Ideal) ((c.tc : Thread Cert.KernelIdeal.nD Cert.KernelIdeal.τ).loc Cert.KernelIdeal.main_v6_7)) (v4 : (c : Dev Cert.KernelIdeal.nD) → Buf (Elt Ideal) ((c.tc : Thread Cert.KernelIdeal.nD Cert.KernelIdeal.τ).loc Cert.KernelIdeal.main_v6_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_3) = v1 c
          ∧ r.2.mem ((c.tc : Thread Cert.KernelIdeal.nD Cert.KernelIdeal.τ).loc Cert.KernelIdeal.main_v6_4) = v2 c
          ∧ r.2.mem ((c.tc : Thread Cert.KernelIdeal.nD Cert.KernelIdeal.τ).loc Cert.KernelIdeal.main_v6_7) = v3 c
          ∧ r.2.mem ((c.tc : Thread Cert.KernelIdeal.nD Cert.KernelIdeal.τ).loc Cert.KernelIdeal.main_v6_8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v184) = v2 c
          ∧ r.2.mem ((c.tc : Thread Cert.ReferenceIdeal.nD Cert.ReferenceIdeal.τ).loc Cert.ReferenceIdeal.main_v185) = v3 c
          ∧ r.2.mem ((c.tc : Thread Cert.ReferenceIdeal.nD Cert.ReferenceIdeal.τ).loc Cert.ReferenceIdeal.main_v186) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v34) = v0 c
          ∧ r.2.mem ((c.tc : Thread Cert.Reference14Ideal.nD Cert.Reference14Ideal.τ).loc Cert.Reference14Ideal.main_v36) = v1 c
          ∧ r.2.mem ((c.tc : Thread Cert.Reference14Ideal.nD Cert.Reference14Ideal.τ).loc Cert.Reference14Ideal.main_v17) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v2) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v6) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v12) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
-- ==== Pre_finite.lean ====
abbrev S4352x3072 : Shape := ⟨2, ![4352, 3072]⟩
abbrev S4352x8 : Shape := ⟨2, ![4352, 8]⟩
abbrev S1x3072 : Shape := ⟨2, ![1, 3072]⟩
abbrev S34x8x384x384 : Shape := ⟨4, ![34, 8, 384, 384]⟩
abbrev S34x8x1x384 : Shape := ⟨4, ![34, 8, 1, 384]⟩
abbrev S34x8x1x1 : Shape := ⟨4, ![34, 8, 1, 1]⟩
abbrev S_ : Shape := ⟨0, ![]⟩

class Facts : Prop where
  bcast_S_S4352x3072 : S_.BroadcastsInDim S4352x3072 (![] : Fin 0 → Fin S4352x3072.rank)
  reducesTo_S4352x3072_S_d0_1 : S4352x3072.ReducesTo [0, 1] S_
  h_S_ : 0 < S_.numel
  bcast_S_S4352x8 : S_.BroadcastsInDim S4352x8 (![] : Fin 0 → Fin S4352x8.rank)
  reducesTo_S4352x8_S_d0_1 : S4352x8.ReducesTo [0, 1] S_
  bcast_S_S1x3072 : S_.BroadcastsInDim S1x3072 (![] : Fin 0 → Fin S1x3072.rank)
  reducesTo_S1x3072_S_d0_1 : S1x3072.ReducesTo [0, 1] S_
  bcast_S_S34x8x384x384 : S_.BroadcastsInDim S34x8x384x384 (![] : Fin 0 → Fin S34x8x384x384.rank)
  reducesTo_S34x8x384x384_S_d0_1_2_3 : S34x8x384x384.ReducesTo [0, 1, 2, 3] S_
  bcast_S_S34x8x1x384 : S_.BroadcastsInDim S34x8x1x384 (![] : Fin 0 → Fin S34x8x1x384.rank)
  reducesTo_S34x8x1x384_S_d0_1_2_3 : S34x8x1x384.ReducesTo [0, 1, 2, 3] S_
  bcast_S_S34x8x1x1 : S_.BroadcastsInDim S34x8x1x1 (![] : Fin 0 → Fin S34x8x1x1.rank)
  reducesTo_S34x8x1x1_S_d0_1_2_3 : S34x8x1x1.ReducesTo [0, 1, 2, 3] S_

variable [Facts]

def fn_part3 {F : FTy → Type} [FloatOps F] (main_arg12 : FVec F S4352x3072 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S4352x3072 .f32 := Host.absf main_arg12
  let main_cst_22 : FVec F S_ .f32 := constant S_ .f32 0x7F800000#32
  let main_v49 : FVec F S4352x3072 .f32 := broadcastInDim S4352x3072 ![] bcast_S_S4352x3072 main_cst_22
  let main_v50 : IVec S4352x3072 1 := cmpf .olt main_v48 main_v49
  let main_c_23 : IVec S_ 1 := constantI S_ 1 1#1
  let main_v51 : IVec S_ 1 := (fun x v => Host.reduce IntOp.andi x v reducesTo_S4352x3072_S_d0_1 h_S_) main_v50 main_c_23
  let main_v52 : IVec S_ 1 := andi main_v3 main_v7
  let main_v53 : IVec S_ 1 := andi main_v52 main_v11
  let main_v54 : IVec S_ 1 := andi main_v53 main_v15
  let main_v55 : IVec S_ 1 := andi main_v54 main_v19
  let main_v56 : IVec S_ 1 := andi main_v55 main_v23
  let main_v57 : IVec S_ 1 := andi main_v56 main_v27
  let main_v58 : IVec S_ 1 := andi main_v57 main_v31
  let main_v59 : IVec S_ 1 := andi main_v58 main_v35
  let main_v60 : IVec S_ 1 := andi main_v59 main_v39
  let main_v61 : IVec S_ 1 := andi main_v60 main_v43
  let main_v62 : IVec S_ 1 := andi main_v61 main_v47
  let main_v63 : IVec S_ 1 := andi main_v62 main_v51
  main_v63

def fn_part2 {F : FTy → Type} [FloatOps F] (main_arg8 : FVec F S1x3072 .f32) (main_arg9 : FVec F S34x8x384x384 .f32) (main_arg10 : FVec F S34x8x1x384 .f32) (main_arg11 : FVec F S34x8x1x1 .f32) (main_arg12 : FVec F S4352x3072 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x3072 .f32 := Host.absf main_arg8
  let main_cst_14 : FVec F S_ .f32 := constant S_ .f32 0x7F800000#32
  let main_v33 : FVec F S1x3072 .f32 := broadcastInDim S1x3072 ![] bcast_S_S1x3072 main_cst_14
  let main_v34 : IVec S1x3072 1 := cmpf .olt main_v32 main_v33
  let main_c_15 : IVec S_ 1 := constantI S_ 1 1#1
  let main_v35 : IVec S_ 1 := (fun x v => Host.reduce IntOp.andi x v reducesTo_S1x3072_S_d0_1 h_S_) main_v34 main_c_15
  let main_v36 : FVec F S34x8x384x384 .f32 := Host.absf main_arg9
  let main_cst_16 : FVec F S_ .f32 := constant S_ .f32 0x7F800000#32
  let main_v37 : FVec F S34x8x384x384 .f32 := broadcastInDim S34x8x384x384 ![] bcast_S_S34x8x384x384 main_cst_16
  let main_v38 : IVec S34x8x384x384 1 := cmpf .olt main_v36 main_v37
  let main_c_17 : IVec S_ 1 := constantI S_ 1 1#1
  let main_v39 : IVec S_ 1 := (fun x v => Host.reduce IntOp.andi x v reducesTo_S34x8x384x384_S_d0_1_2_3 h_S_) main_v38 main_c_17
  let main_v40 : FVec F S34x8x1x384 .f32 := Host.absf main_arg10
  let main_cst_18 : FVec F S_ .f32 := constant S_ .f32 0x7F800000#32
  let main_v41 : FVec F S34x8x1x384 .f32 := broadcastInDim S34x8x1x384 ![] bcast_S_S34x8x1x384 main_cst_18
  let main_v42 : IVec S34x8x1x384 1 := cmpf .olt main_v40 main_v41
  let main_c_19 : IVec S_ 1 := constantI S_ 1 1#1
  let main_v43 : IVec S_ 1 := (fun x v => Host.reduce IntOp.andi x v reducesTo_S34x8x1x384_S_d0_1_2_3 h_S_) main_v42 main_c_19
  let main_v44 : FVec F S34x8x1x1 .f32 := Host.absf main_arg11
  let main_cst_20 : FVec F S_ .f32 := constant S_ .f32 0x7F800000#32
  let main_v45 : FVec F S34x8x1x1 .f32 := broadcastInDim S34x8x1x1 ![] bcast_S_S34x8x1x1 main_cst_20
  let main_v46 : IVec S34x8x1x1 1 := cmpf .olt main_v44 main_v45
  let main_c_21 : IVec S_ 1 := constantI S_ 1 1#1
  let main_v47 : IVec S_ 1 := (fun x v => Host.reduce IntOp.andi x v reducesTo_S34x8x1x1_S_d0_1_2_3 h_S_) main_v46 main_c_21
  fn_part3 (F := F) main_arg12 main_v3 main_v7 main_v11 main_v15 main_v19 main_v23 main_v27 main_v31 main_v35 main_v39 main_v43 main_v47

def fn_part1 {F : FTy → Type} [FloatOps F] (main_arg4 : FVec F S4352x8 .f32) (main_arg5 : FVec F S4352x3072 .f32) (main_arg6 : FVec F S4352x3072 .f32) (main_arg7 : FVec F S1x3072 .f32) (main_arg8 : FVec F S1x3072 .f32) (main_arg9 : FVec F S34x8x384x384 .f32) (main_arg10 : FVec F S34x8x1x384 .f32) (main_arg11 : FVec F S34x8x1x1 .f32) (main_arg12 : FVec F S4352x3072 .f32) (main_v3 : IVec S_ 1) (main_v7 : IVec S_ 1) (main_v11 : IVec S_ 1) (main_v15 : IVec S_ 1) : IVec S_ 1 :=
  let main_v16 : FVec F S4352x8 .f32 := Host.absf main_arg4
  let main_cst_6 : FVec F S_ .f32 := constant S_ .f32 0x7F800000#32
  let main_v17 : FVec F S4352x8 .f32 := broadcastInDim S4352x8 ![] bcast_S_S4352x8 main_cst_6
  let main_v18 : IVec S4352x8 1 := cmpf .olt main_v16 main_v17
  let main_c_7 : IVec S_ 1 := constantI S_ 1 1#1
  let main_v19 : IVec S_ 1 := (fun x v => Host.reduce IntOp.andi x v reducesTo_S4352x8_S_d0_1 h_S_) main_v18 main_c_7
  let main_v20 : FVec F S4352x3072 .f32 := Host.absf main_arg5
  let main_cst_8 : FVec F S_ .f32 := constant S_ .f32 0x7F800000#32
  let main_v21 : FVec F S4352x3072 .f32 := broadcastInDim S4352x3072 ![] bcast_S_S4352x3072 main_cst_8
  let main_v22 : IVec S4352x3072 1 := cmpf .olt main_v20 main_v21
  let main_c_9 : IVec S_ 1 := constantI S_ 1 1#1
  let main_v23 : IVec S_ 1 := (fun x v => Host.reduce IntOp.andi x v reducesTo_S4352x3072_S_d0_1 h_S_) main_v22 main_c_9
  let main_v24 : FVec F S4352x3072 .f32 := Host.absf main_arg6
  let main_cst_10 : FVec F S_ .f32 := constant S_ .f32 0x7F800000#32
  let main_v25 : FVec F S4352x3072 .f32 := broadcastInDim S4352x3072 ![] bcast_S_S4352x3072 main_cst_10
  let main_v26 : IVec S4352x3072 1 := cmpf .olt main_v24 main_v25
  let main_c_11 : IVec S_ 1 := constantI S_ 1 1#1
  let main_v27 : IVec S_ 1 := (fun x v => Host.reduce IntOp.andi x v reducesTo_S4352x3072_S_d0_1 h_S_) main_v26 main_c_11
  let main_v28 : FVec F S1x3072 .f32 := Host.absf main_arg7
  let main_cst_12 : FVec F S_ .f32 := constant S_ .f32 0x7F800000#32
  let main_v29 : FVec F S1x3072 .f32 := broadcastInDim S1x3072 ![] bcast_S_S1x3072 main_cst_12
  let main_v30 : IVec S1x3072 1 := cmpf .olt main_v28 main_v29
  let main_c_13 : IVec S_ 1 := constantI S_ 1 1#1
  let main_v31 : IVec S_ 1 := (fun x v => Host.reduce IntOp.andi x v reducesTo_S1x3072_S_d0_1 h_S_) main_v30 main_c_13
  fn_part2 (F := F) main_arg8 main_arg9 main_arg10 main_arg11 main_arg12 main_v3 main_v7 main_v11 main_v15 main_v19 main_v23 main_v27 main_v31

def fn {F : FTy → Type} [FloatOps F] (main_arg0 : FVec F S4352x3072 .f32) (main_arg1 : FVec F S4352x3072 .f32) (main_arg2 : FVec F S4352x3072 .f32) (main_arg3 : FVec F S4352x8 .f32) (main_arg4 : FVec F S4352x8 .f32) (main_arg5 : FVec F S4352x3072 .f32) (main_arg6 : FVec F S4352x3072 .f32) (main_arg7 : FVec F S1x3072 .f32) (main_arg8 : FVec F S1x3072 .f32) (main_arg9 : FVec F S34x8x384x384 .f32) (main_arg10 : FVec F S34x8x1x384 .f32) (main_arg11 : FVec F S34x8x1x1 .f32) (main_arg12 : FVec F S4352x3072 .f32) : IVec S_ 1 :=
  let main_v0 : FVec F S4352x3072 .f32 := Host.absf main_arg0
  let main_cst : FVec F S_ .f32 := constant S_ .f32 0x7F800000#32
  let main_v1 : FVec F S4352x3072 .f32 := broadcastInDim S4352x3072 ![] bcast_S_S4352x3072 main_cst
  let main_v2 : IVec S4352x3072 1 := cmpf .olt main_v0 main_v1
  let main_c : IVec S_ 1 := constantI S_ 1 1#1
  let main_v3 : IVec S_ 1 := (fun x v => Host.reduce IntOp.andi x v reducesTo_S4352x3072_S_d0_1 h_S_) main_v2 main_c
  let main_v4 : FVec F S4352x3072 .f32 := Host.absf main_arg1
  let main_cst_0 : FVec F S_ .f32 := constant S_ .f32 0x7F800000#32
  let main_v5 : FVec F S4352x3072 .f32 := broadcastInDim S4352x3072 ![] bcast_S_S4352x3072 main_cst_0
  let main_v6 : IVec S4352x3072 1 := cmpf .olt main_v4 main_v5
  let main_c_1 : IVec S_ 1 := constantI S_ 1 1#1
  let main_v7 : IVec S_ 1 := (fun x v => Host.reduce IntOp.andi x v reducesTo_S4352x3072_S_d0_1 h_S_) main_v6 main_c_1
  let main_v8 : FVec F S4352x3072 .f32 := Host.absf main_arg2
  let main_cst_2 : FVec F S_ .f32 := constant S_ .f32 0x7F800000#32
  let main_v9 : FVec F S4352x3072 .f32 := broadcastInDim S4352x3072 ![] bcast_S_S4352x3072 main_cst_2
  let main_v10 : IVec S4352x3072 1 := cmpf .olt main_v8 main_v9
  let main_c_3 : IVec S_ 1 := constantI S_ 1 1#1
  let main_v11 : IVec S_ 1 := (fun x v => Host.reduce IntOp.andi x v reducesTo_S4352x3072_S_d0_1 h_S_) main_v10 main_c_3
  let main_v12 : FVec F S4352x8 .f32 := Host.absf main_arg3
  let main_cst_4 : FVec F S_ .f32 := constant S_ .f32 0x7F800000#32
  let main_v13 : FVec F S4352x8 .f32 := broadcastInDim S4352x8 ![] bcast_S_S4352x8 main_cst_4
  let main_v14 : IVec S4352x8 1 := cmpf .olt main_v12 main_v13
  let main_c_5 : IVec S_ 1 := constantI S_ 1 1#1
  let main_v15 : IVec S_ 1 := (fun x v => Host.reduce IntOp.andi x v reducesTo_S4352x8_S_d0_1 h_S_) main_v14 main_c_5
  fn_part1 (F := F) main_arg4 main_arg5 main_arg6 main_arg7 main_arg8 main_arg9 main_arg10 main_arg11 main_arg12 main_v3 main_v7 main_v11 main_v15
-- ==== Kernel.lean ====
abbrev S4352x3072 : Shape := ⟨2, ![4352, 3072]⟩
abbrev S4352x8 : Shape := ⟨2, ![4352, 8]⟩
abbrev S1x3072 : Shape := ⟨2, ![1, 3072]⟩
abbrev S34x8x384x384 : Shape := ⟨4, ![34, 8, 384, 384]⟩
abbrev S34x8x1x384 : Shape := ⟨4, ![34, 8, 1, 384]⟩
abbrev S34x8x1x1 : Shape := ⟨4, ![34, 8, 1, 1]⟩
abbrev S4352x8x1 : Shape := ⟨3, ![4352, 8, 1]⟩
abbrev S4352x8x2 : Shape := ⟨3, ![4352, 8, 2]⟩
abbrev S8x4352x2 : Shape := ⟨3, ![8, 4352, 2]⟩
abbrev S34x128x8x2 : Shape := ⟨4, ![34, 128, 8, 2]⟩
abbrev S34x8x2x128 : Shape := ⟨4, ![34, 8, 2, 128]⟩
abbrev S8x1x384 : Shape := ⟨3, ![8, 1, 384]⟩
abbrev S128x384 : Shape := ⟨2, ![128, 384]⟩
abbrev S1x128x2 : Shape := ⟨3, ![1, 128, 2]⟩
abbrev S1x1x2x128 : Shape := ⟨4, ![1, 1, 2, 128]⟩
abbrev S1x384 : Shape := ⟨2, ![1, 384]⟩
abbrev S1x1x384x384 : Shape := ⟨4, ![1, 1, 384, 384]⟩
abbrev S1x1x1x384 : Shape := ⟨4, ![1, 1, 1, 384]⟩
abbrev S1x1x1x1 : Shape := ⟨4, ![1, 1, 1, 1]⟩
abbrev S8x384x384 : Shape := ⟨3, ![8, 384, 384]⟩
abbrev S384x384 : Shape := ⟨2, ![384, 384]⟩
abbrev S1x384x384 : Shape := ⟨3, ![1, 384, 384]⟩
abbrev S1x1x384 : Shape := ⟨3, ![1, 1, 384]⟩
abbrev S1x1 : Shape := ⟨2, ![1, 1]⟩
abbrev S128x2 : Shape := ⟨2, ![128, 2]⟩
abbrev S2x128 : Shape := ⟨2, ![2, 128]⟩
abbrev S1x2 : Shape := ⟨2, ![1, 2]⟩
abbrev S128 : Shape := ⟨1, ![128]⟩
abbrev S128x1 : Shape := ⟨2, ![128, 1]⟩
abbrev S2x1 : Shape := ⟨2, ![2, 1]⟩
abbrev S1x128 : Shape := ⟨2, ![1, 128]⟩
abbrev S128x128 : Shape := ⟨2, ![128, 128]⟩
abbrev S1 : Shape := ⟨1, ![1]⟩
abbrev S384 : Shape := ⟨1, ![384]⟩
abbrev S1x1x1 : Shape := ⟨3, ![1, 1, 1]⟩

abbrev nBuf : Space → Nat
  | .hbm => 28
  | .vmem => 44
  | .smem => 0
  | _ => 0

abbrev bufTy : (tb : Table) → Fin (tcTables nBuf tb) → BufTy
  | .hbm, ⟨0, _⟩ => ⟨S4352x3072, .f32⟩
  | .hbm, ⟨1, _⟩ => ⟨S4352x3072, .f32⟩
  | .hbm, ⟨2, _⟩ => ⟨S4352x3072, .f32⟩
  | .hbm, ⟨3, _⟩ => ⟨S4352x8, .f32⟩
  | .hbm, ⟨4, _⟩ => ⟨S4352x8, .f32⟩
  | .hbm, ⟨5, _⟩ => ⟨S4352x3072, .f32⟩
  | .hbm, ⟨6, _⟩ => ⟨S4352x3072, .f32⟩
  | .hbm, ⟨7, _⟩ => ⟨S1x3072, .f32⟩
  | .hbm, ⟨8, _⟩ => ⟨S1x3072, .f32⟩
  | .hbm, ⟨9, _⟩ => ⟨S34x8x384x384, .f32⟩
  | .hbm, ⟨10, _⟩ => ⟨S34x8x1x384, .f32⟩
  | .hbm, ⟨11, _⟩ => ⟨S34x8x1x1, .f32⟩
  | .hbm, ⟨12, _⟩ => ⟨S4352x3072, .f32⟩
  | .hbm, ⟨13, _⟩ => ⟨S4352x8x1, .f32⟩
  | .hbm, ⟨14, _⟩ => ⟨S4352x8x1, .f32⟩
  | .hbm, ⟨15, _⟩ => ⟨S4352x8x2, .f32⟩
  | .hbm, ⟨16, _⟩ => ⟨S8x4352x2, .f32⟩
  | .hbm, ⟨17, _⟩ => ⟨S34x128x8x2, .f32⟩
  | .hbm, ⟨18, _⟩ => ⟨S34x8x2x128, .f32⟩
  | .hbm, ⟨19, _⟩ => ⟨S4352x3072, .f32⟩
  | .hbm, ⟨20, _⟩ => ⟨S4352x3072, .f32⟩
  | .hbm, ⟨21, _⟩ => ⟨S4352x3072, .f32⟩
  | .hbm, ⟨22, _⟩ => ⟨S4352x3072, .f32⟩
  | .hbm, ⟨23, _⟩ => ⟨S4352x3072, .bf16⟩
  | .hbm, ⟨24, _⟩ => ⟨S8x4352x2, .f32⟩
  | .hbm, ⟨25, _⟩ => ⟨S34x8x2x128, .f32⟩
  | .hbm, ⟨26, _⟩ => ⟨S8x1x384, .f32⟩
  | .hbm, ⟨27, _⟩ => ⟨S8x1x384, .f32⟩
  | .local _ .vmem, ⟨0, _⟩ => ⟨S128x384, .f32⟩
  | .local _ .vmem, ⟨1, _⟩ => ⟨S128x384, .f32⟩
  | .local _ .vmem, ⟨2, _⟩ => ⟨S128x384, .f32⟩
  | .local _ .vmem, ⟨3, _⟩ => ⟨S128x384, .f32⟩
  | .local _ .vmem, ⟨4, _⟩ => ⟨S128x384, .f32⟩
  | .local _ .vmem, ⟨5, _⟩ => ⟨S128x384, .f32⟩
  | .local _ .vmem, ⟨6, _⟩ => ⟨S1x128x2, .f32⟩
  | .local _ .vmem, ⟨7, _⟩ => ⟨S1x128x2, .f32⟩
  | .local _ .vmem, ⟨8, _⟩ => ⟨S1x1x2x128, .f32⟩
  | .local _ .vmem, ⟨9, _⟩ => ⟨S1x1x2x128, .f32⟩
  | .local _ .vmem, ⟨10, _⟩ => ⟨S128x384, .f32⟩
  | .local _ .vmem, ⟨11, _⟩ => ⟨S128x384, .f32⟩
  | .local _ .vmem, ⟨12, _⟩ => ⟨S128x384, .f32⟩
  | .local _ .vmem, ⟨13, _⟩ => ⟨S128x384, .f32⟩
  | .local _ .vmem, ⟨14, _⟩ => ⟨S1x384, .f32⟩
  | .local _ .vmem, ⟨15, _⟩ => ⟨S1x384, .f32⟩
  | .local _ .vmem, ⟨16, _⟩ => ⟨S1x384, .f32⟩
  | .local _ .vmem, ⟨17, _⟩ => ⟨S1x384, .f32⟩
  | .local _ .vmem, ⟨18, _⟩ => ⟨S1x1x384x384, .f32⟩
  | .local _ .vmem, ⟨19, _⟩ => ⟨S1x1x384x384, .f32⟩
  | .local _ .vmem, ⟨20, _⟩ => ⟨S1x1x1x384, .f32⟩
  | .local _ .vmem, ⟨21, _⟩ => ⟨S1x1x1x384, .f32⟩
  | .local _ .vmem, ⟨22, _⟩ => ⟨S1x1x1x1, .f32⟩
  | .local _ .vmem, ⟨23, _⟩ => ⟨S1x1x1x1, .f32⟩
  | .local _ .vmem, ⟨24, _⟩ => ⟨S128x384, .f32⟩
  | .local _ .vmem, ⟨25, _⟩ => ⟨S128x384, .f32⟩
  | .local _ .vmem, ⟨26, _⟩ => ⟨S128x384, .f32⟩
  | .local _ .vmem, ⟨27, _⟩ => ⟨S128x384, .f32⟩
  | .local _ .vmem, ⟨28, _⟩ => ⟨S128x384, .f32⟩
  | .local _ .vmem, ⟨29, _⟩ => ⟨S128x384, .f32⟩
  | .local _ .vmem, ⟨30, _⟩ => ⟨S128x384, .f32⟩
  | .local _ .vmem, ⟨31, _⟩ => ⟨S128x384, .f32⟩
  | .local _ .vmem, ⟨32, _⟩ => ⟨S128x384, .f32⟩
  | .local _ .vmem, ⟨33, _⟩ => ⟨S128x384, .f32⟩
  | .local _ .vmem, ⟨34, _⟩ => ⟨S128x384, .bf16⟩
  | .local _ .vmem, ⟨35, _⟩ => ⟨S128x384, .bf16⟩
  | .local _ .vmem, ⟨36, _⟩ => ⟨S1x128x2, .f32⟩
  | .local _ .vmem, ⟨37, _⟩ => ⟨S1x128x2, .f32⟩
  | .local _ .vmem, ⟨38, _⟩ => ⟨S1x1x2x128, .f32⟩
  | .local _ .vmem, ⟨39, _⟩ => ⟨S1x1x2x128, .f32⟩
  | .local _ .vmem, ⟨40, _⟩ => ⟨S8x1x384, .f32⟩
  | .local _ .vmem, ⟨41, _⟩ => ⟨S8x1x384, .f32⟩
  | .local _ .vmem, ⟨42, _⟩ => ⟨S8x384x384, .f32⟩
  | .local _ .vmem, ⟨43, _⟩ => ⟨S8x1x384, .f32⟩
  | _, _ => ⟨S4352x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v6_3 : Ref sig .tc := ⟨.hbm, 22, rfl⟩
abbrev main_v6_4 : Ref sig .tc := ⟨.hbm, 23, rfl⟩
abbrev main_v6_5 : Ref sig .tc := ⟨.hbm, 24, rfl⟩
abbrev main_v6_6 : Ref sig .tc := ⟨.hbm, 25, rfl⟩
abbrev main_v6_7 : Ref sig .tc := ⟨.hbm, 26, rfl⟩
abbrev main_v6_8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg21_0 : Ref sig .tc := ⟨.vmem, 41, rfl⟩
abbrev cc0_scratch0 : Ref sig .tc := ⟨.vmem, 42, rfl⟩
abbrev cc0_scratch1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem21_0 : DmaSem sig := 41

abbrev nD : Nat := 1
abbrev τ : Topo := Topo.v7x

variable {F : FTy → Type} [FloatOps F]

abbrev grid0 : Pipeline.Grid := ⟨3, ![2, 17, 8], ![false, false, false]⟩

def k0_cond2 (i : grid0.Coords) : BitVec 1 :=
  let arg1 : BitVec 32 := BitVec.ofNat 32 (i 1).val
  let c0_i32_3 : BitVec 32 := 0#32
  let v7 : BitVec 1 := Scalar.cmpi .eq arg1 c0_i32_3
  let v8 : BitVec 32 := Scalar.extui v7
  let c0_i32_4 : BitVec 32 := 0#32
  let v9 : BitVec 1 := Scalar.cmpi .ne v8 c0_i32_4
  v9

def k0_off1 (i : grid0.Coords) : Fin 3 → Nat :=
  let arg2 : BitVec 32 := BitVec.ofNat 32 (i 2).val
  let v443 : Index := Scalar.indexCast arg2
  let c0_162 : Index := 0#32
  let c0_163 : Index := 0#32
  ![v443.toNat, 0, 0]
def k0_off2 (i : grid0.Coords) : Fin 3 → Nat :=
  let arg2 : BitVec 32 := BitVec.ofNat 32 (i 2).val
  let v448 : Index := Scalar.indexCast arg2
  let c0_165 : Index := 0#32
  let c0_166 : Index := 0#32
  ![v448.toNat, 0, 0]
def k0_off3 (i : grid0.Coords) : Fin 3 → Nat :=
  let arg2 : BitVec 32 := BitVec.ofNat 32 (i 2).val
  let v197 : Index := Scalar.indexCast arg2
  let c0_75 : Index := 0#32
  let c0_76 : Index := 0#32
  ![v197.toNat, 0, 0]
def k0_off4 (i : grid0.Coords) : Fin 3 → Nat :=
  let arg2 : BitVec 32 := BitVec.ofNat 32 (i 2).val
  let v200 : Index := Scalar.indexCast arg2
  let c0_77 : Index := 0#32
  let c0_78 : Index := 0#32
  ![v200.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  let c0_i32_0 : BitVec 32 := 0#32
  ![arg2.toNat, v2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  let c0_i32_0 : BitVec 32 := 0#32
  let c0_i32_1 : BitVec 32 := 0#32
  ![v2.toNat, arg2.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  let c0_i32_0 : BitVec 32 := 0#32
  let c0_i32_1 : BitVec 32 := 0#32
  ![v2.toNat, arg2.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  let c0_i32_0 : BitVec 32 := 0#32
  let c0_i32_1 : BitVec 32 := 0#32
  ![v2.toNat, arg2.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  let c0_i32_0 : BitVec 32 := 0#32
  let c0_i32_1 : BitVec 32 := 0#32
  ![v2.toNat, arg2.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_18 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  let c0_i32_0 : BitVec 32 := 0#32
  ![arg2.toNat, v2.toNat, c0_i32.toNat]

def cc0_transform_19 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  let c0_i32_0 : BitVec 32 := 0#32
  let c0_i32_1 : BitVec 32 := 0#32
  ![v2.toNat, arg2.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1x384x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x1x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x1x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S128x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S128x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S128x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S128x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S128x384 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S128x384 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S1x128x2 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]

abbrev stage0_19 : Fin 2 → Memref sig .tc .vmem S1x1x2x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 1 → Memref sig .tc .vmem S8x1x384 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false, false]

abbrev stage0_21 : Fin 1 → Memref sig .tc .vmem S8x1x384 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false, false]
-- ==== KernelIdeal.lean ====
abbrev S4352x3072 : Shape := ⟨2, ![4352, 3072]⟩
abbrev S4352x8 : Shape := ⟨2, ![4352, 8]⟩
abbrev S1x3072 : Shape := ⟨2, ![1, 3072]⟩
abbrev S34x8x384x384 : Shape := ⟨4, ![34, 8, 384, 384]⟩
abbrev S34x8x1x384 : Shape := ⟨4, ![34, 8, 1, 384]⟩
abbrev S34x8x1x1 : Shape := ⟨4, ![34, 8, 1, 1]⟩
abbrev S4352x8x1 : Shape := ⟨3, ![4352, 8, 1]⟩
abbrev S4352x8x2 : Shape := ⟨3, ![4352, 8, 2]⟩
abbrev S8x4352x2 : Shape := ⟨3, ![8, 4352, 2]⟩
abbrev S34x128x8x2 : Shape := ⟨4, ![34, 128, 8, 2]⟩
abbrev S34x8x2x128 : Shape := ⟨4, ![34, 8, 2, 128]⟩
abbrev S8x1x384 : Shape := ⟨3, ![8, 1, 384]⟩
abbrev S128x384 : Shape := ⟨2, ![128, 384]⟩
abbrev S1x128x2 : Shape := ⟨3, ![1, 128, 2]⟩
abbrev S1x1x2x128 : Shape := ⟨4, ![1, 1, 2, 128]⟩
abbrev S1x384 : Shape := ⟨2, ![1, 384]⟩
abbrev S1x1x384x384 : Shape := ⟨4, ![1, 1, 384, 384]⟩
abbrev S1x1x1x384 : Shape := ⟨4, ![1, 1, 1, 384]⟩
abbrev S1x1x1x1 : Shape := ⟨4, ![1, 1, 1, 1]⟩
abbrev S8x384x384 : Shape := ⟨3, ![8, 384, 384]⟩
abbrev S384x384 : Shape := ⟨2, ![384, 384]⟩
abbrev S1x384x384 : Shape := ⟨3, ![1, 384, 384]⟩
abbrev S1x1x384 : Shape := ⟨3, ![1, 1, 384]⟩
abbrev S1x1 : Shape := ⟨2, ![1, 1]⟩
abbrev S128x2 : Shape := ⟨2, ![128, 2]⟩
abbrev S2x128 : Shape := ⟨2, ![2, 128]⟩
abbrev S1x2 : Shape := ⟨2, ![1, 2]⟩
abbrev S128 : Shape := ⟨1, ![128]⟩
abbrev S128x1 : Shape := ⟨2, ![128, 1]⟩
abbrev S2x1 : Shape := ⟨2, ![2, 1]⟩
abbrev S1x128 : Shape := ⟨2, ![1, 128]⟩
abbrev S128x128 : Shape := ⟨2, ![128, 128]⟩
abbrev S1 : Shape := ⟨1, ![1]⟩
abbrev S384 : Shape := ⟨1, ![384]⟩
abbrev S1x1x1 : Shape := ⟨3, ![1, 1, 1]⟩

abbrev nBuf : Space → Nat
  | .hbm => 28
  | .vmem => 44
  | .smem => 0
  | _ => 0

abbrev bufTy : (tb : Table) → Fin (tcTables nBuf tb) → BufTy
  | .hbm, ⟨0, _⟩ => ⟨S4352x3072, .f32⟩
  | .hbm, ⟨1, _⟩ => ⟨S4352x3072, .f32⟩
  | .hbm, ⟨2, _⟩ => ⟨S4352x3072, .f32⟩
  | .hbm, ⟨3, _⟩ => ⟨S4352x8, .f32⟩
  | .hbm, ⟨4, _⟩ => ⟨S4352x8, .f32⟩
  | .hbm, ⟨5, _⟩ => ⟨S4352x3072, .f32⟩
  | .hbm, ⟨6, _⟩ => ⟨S4352x3072, .f32⟩
  | .hbm, ⟨7, _⟩ => ⟨S1x3072, .f32⟩
  | .hbm, ⟨8, _⟩ => ⟨S1x3072, .f32⟩
  | .hbm, ⟨9, _⟩ => ⟨S34x8x384x384, .f32⟩
  | .hbm, ⟨10, _⟩ => ⟨S34x8x1x384, .f32⟩
  | .hbm, ⟨11, _⟩ => ⟨S34x8x1x1, .f32⟩
  | .hbm, ⟨12, _⟩ => ⟨S4352x3072, .f32⟩
  | .hbm, ⟨13, _⟩ => ⟨S4352x8x1, .f32⟩
  | .hbm, ⟨14, _⟩ => ⟨S4352x8x1, .f32⟩
  | .hbm, ⟨15, _⟩ => ⟨S4352x8x2, .f32⟩
  | .hbm, ⟨16, _⟩ => ⟨S8x4352x2, .f32⟩
  | .hbm, ⟨17, _⟩ => ⟨S34x128x8x2, .f32⟩
  | .hbm, ⟨18, _⟩ => ⟨S34x8x2x128, .f32⟩
  | .hbm, ⟨19, _⟩ => ⟨S4352x3072, .f32⟩
  | .hbm, ⟨20, _⟩ => ⟨S4352x3072, .f32⟩
  | .hbm, ⟨21, _⟩ => ⟨S4352x3072, .f32⟩
  | .hbm, ⟨22, _⟩ => ⟨S4352x3072, .f32⟩
  | .hbm, ⟨23, _⟩ => ⟨S4352x3072, .bf16⟩
  | .hbm, ⟨24, _⟩ => ⟨S8x4352x2, .f32⟩
  | .hbm, ⟨25, _⟩ => ⟨S34x8x2x128, .f32⟩
  | .hbm, ⟨26, _⟩ => ⟨S8x1x384, .f32⟩
  | .hbm, ⟨27, _⟩ => ⟨S8x1x384, .f32⟩
  | .local _ .vmem, ⟨0, _⟩ => ⟨S128x384, .f32⟩
  | .local _ .vmem, ⟨1, _⟩ => ⟨S128x384, .f32⟩
  | .local _ .vmem, ⟨2, _⟩ => ⟨S128x384, .f32⟩
  | .local _ .vmem, ⟨3, _⟩ => ⟨S128x384, .f32⟩
  | .local _ .vmem, ⟨4, _⟩ => ⟨S128x384, .f32⟩
  | .local _ .vmem, ⟨5, _⟩ => ⟨S128x384, .f32⟩
  | .local _ .vmem, ⟨6, _⟩ => ⟨S1x128x2, .f32⟩
  | .local _ .vmem, ⟨7, _⟩ => ⟨S1x128x2, .f32⟩
  | .local _ .vmem, ⟨8, _⟩ => ⟨S1x1x2x128, .f32⟩
  | .local _ .vmem, ⟨9, _⟩ => ⟨S1x1x2x128, .f32⟩
  | .local _ .vmem, ⟨10, _⟩ => ⟨S128x384, .f32⟩
  | .local _ .vmem, ⟨11, _⟩ => ⟨S128x384, .f32⟩
  | .local _ .vmem, ⟨12, _⟩ => ⟨S128x384, .f32⟩
  | .local _ .vmem, ⟨13, _⟩ => ⟨S128x384, .f32⟩
  | .local _ .vmem, ⟨14, _⟩ => ⟨S1x384, .f32⟩
  | .local _ .vmem, ⟨15, _⟩ => ⟨S1x384, .f32⟩
  | .local _ .vmem, ⟨16, _⟩ => ⟨S1x384, .f32⟩
  | .local _ .vmem, ⟨17, _⟩ => ⟨S1x384, .f32⟩
  | .local _ .vmem, ⟨18, _⟩ => ⟨S1x1x384x384, .f32⟩
  | .local _ .vmem, ⟨19, _⟩ => ⟨S1x1x384x384, .f32⟩
  | .local _ .vmem, ⟨20, _⟩ => ⟨S1x1x1x384, .f32⟩
  | .local _ .vmem, ⟨21, _⟩ => ⟨S1x1x1x384, .f32⟩
  | .local _ .vmem, ⟨22, _⟩ => ⟨S1x1x1x1, .f32⟩
  | .local _ .vmem, ⟨23, _⟩ => ⟨S1x1x1x1, .f32⟩
  | .local _ .vmem, ⟨24, _⟩ => ⟨S128x384, .f32⟩
  | .local _ .vmem, ⟨25, _⟩ => ⟨S128x384, .f32⟩
  | .local _ .vmem, ⟨26, _⟩ => ⟨S128x384, .f32⟩
  | .local _ .vmem, ⟨27, _⟩ => ⟨S128x384, .f32⟩
  | .local _ .vmem, ⟨28, _⟩ => ⟨S128x384, .f32⟩
  | .local _ .vmem, ⟨29, _⟩ => ⟨S128x384, .f32⟩
  | .local _ .vmem, ⟨30, _⟩ => ⟨S128x384, .f32⟩
  | .local _ .vmem, ⟨31, _⟩ => ⟨S128x384, .f32⟩
  | .local _ .vmem, ⟨32, _⟩ => ⟨S128x384, .f32⟩
  | .local _ .vmem, ⟨33, _⟩ => ⟨S128x384, .f32⟩
  | .local _ .vmem, ⟨34, _⟩ => ⟨S128x384, .bf16⟩
  | .local _ .vmem, ⟨35, _⟩ => ⟨S128x384, .bf16⟩
  | .local _ .vmem, ⟨36, _⟩ => ⟨S1x128x2, .f32⟩
  | .local _ .vmem, ⟨37, _⟩ => ⟨S1x128x2, .f32⟩
  | .local _ .vmem, ⟨38, _⟩ => ⟨S1x1x2x128, .f32⟩
  | .local _ .vmem, ⟨39, _⟩ => ⟨S1x1x2x128, .f32⟩
  | .local _ .vmem, ⟨40, _⟩ => ⟨S8x1x384, .f32⟩
  | .local _ .vmem, ⟨41, _⟩ => ⟨S8x1x384, .f32⟩
  | .local _ .vmem, ⟨42, _⟩ => ⟨S8x384x384, .f32⟩
  | .local _ .vmem, ⟨43, _⟩ => ⟨S8x1x384, .f32⟩
  | _, _ => ⟨S4352x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev main_v6_2 : Ref sig .tc := ⟨.hbm, 21, rfl⟩
abbrev main_v6_3 : Ref sig .tc := ⟨.hbm, 22, rfl⟩
abbrev main_v6_4 : Ref sig .tc := ⟨.hbm, 23, rfl⟩
abbrev main_v6_5 : Ref sig .tc := ⟨.hbm, 24, rfl⟩
abbrev main_v6_6 : Ref sig .tc := ⟨.hbm, 25, rfl⟩
abbrev main_v6_7 : Ref sig .tc := ⟨.hbm, 26, rfl⟩
abbrev main_v6_8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg21_0 : Ref sig .tc := ⟨.vmem, 41, rfl⟩
abbrev cc0_scratch0 : Ref sig .tc := ⟨.vmem, 42, rfl⟩
abbrev cc0_scratch1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem21_0 : DmaSem sig := 41

abbrev nD : Nat := 1
abbrev τ : Topo := Topo.v7x

variable {F : FTy → Type} [FloatOps F]

abbrev grid0 : Pipeline.Grid := ⟨3, ![2, 17, 8], ![false, false, false]⟩

def k0_cond2 (i : grid0.Coords) : BitVec 1 :=
  let arg1 : BitVec 32 := BitVec.ofNat 32 (i 1).val
  let c0_i32_3 : BitVec 32 := 0#32
  let v7 : BitVec 1 := Scalar.cmpi .eq arg1 c0_i32_3
  let v8 : BitVec 32 := Scalar.extui v7
  let c0_i32_4 : BitVec 32 := 0#32
  let v9 : BitVec 1 := Scalar.cmpi .ne v8 c0_i32_4
  v9

def k0_off1 (i : grid0.Coords) : Fin 3 → Nat :=
  let arg2 : BitVec 32 := BitVec.ofNat 32 (i 2).val
  let v443 : Index := Scalar.indexCast arg2
  let c0_162 : Index := 0#32
  let c0_163 : Index := 0#32
  ![v443.toNat, 0, 0]
def k0_off2 (i : grid0.Coords) : Fin 3 → Nat :=
  let arg2 : BitVec 32 := BitVec.ofNat 32 (i 2).val
  let v448 : Index := Scalar.indexCast arg2
  let c0_165 : Index := 0#32
  let c0_166 : Index := 0#32
  ![v448.toNat, 0, 0]
def k0_off3 (i : grid0.Coords) : Fin 3 → Nat :=
  let arg2 : BitVec 32 := BitVec.ofNat 32 (i 2).val
  let v197 : Index := Scalar.indexCast arg2
  let c0_75 : Index := 0#32
  let c0_76 : Index := 0#32
  ![v197.toNat, 0, 0]
def k0_off4 (i : grid0.Coords) : Fin 3 → Nat :=
  let arg2 : BitVec 32 := BitVec.ofNat 32 (i 2).val
  let v200 : Index := Scalar.indexCast arg2
  let c0_77 : Index := 0#32
  let c0_78 : Index := 0#32
  ![v200.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  let c0_i32_0 : BitVec 32 := 0#32
  ![arg2.toNat, v2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  let c0_i32_0 : BitVec 32 := 0#32
  let c0_i32_1 : BitVec 32 := 0#32
  ![v2.toNat, arg2.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  let c0_i32_0 : BitVec 32 := 0#32
  let c0_i32_1 : BitVec 32 := 0#32
  ![v2.toNat, arg2.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  let c0_i32_0 : BitVec 32 := 0#32
  let c0_i32_1 : BitVec 32 := 0#32
  ![v2.toNat, arg2.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  let c0_i32_0 : BitVec 32 := 0#32
  let c0_i32_1 : BitVec 32 := 0#32
  ![v2.toNat, arg2.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  ![v2.toNat, arg2.toNat]

def cc0_transform_18 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  let c0_i32_0 : BitVec 32 := 0#32
  ![arg2.toNat, v2.toNat, c0_i32.toNat]

def cc0_transform_19 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let v0 : BitVec 32 := Scalar.muli arg0 c17_i32
  let c16_i32 : BitVec 32 := 16#32
  let v1 : BitVec 32 := Scalar.subi c16_i32 arg1
  let v2 : BitVec 32 := Scalar.addi v0 v1
  let c0_i32 : BitVec 32 := 0#32
  let c0_i32_0 : BitVec 32 := 0#32
  let c0_i32_1 : BitVec 32 := 0#32
  ![v2.toNat, arg2.toNat, c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1x384x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x1x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x1x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S128x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S128x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S128x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S128x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S128x384 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S128x384 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S1x128x2 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]

abbrev stage0_19 : Fin 2 → Memref sig .tc .vmem S1x1x2x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 1 → Memref sig .tc .vmem S8x1x384 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false, false]

abbrev stage0_21 : Fin 1 → Memref sig .tc .vmem S8x1x384 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false, false]
-- ==== ReferenceIdeal.lean ====
abbrev S4352x3072 : Shape := ⟨2, ![4352, 3072]⟩
abbrev S4352x8 : Shape := ⟨2, ![4352, 8]⟩
abbrev S1x3072 : Shape := ⟨2, ![1, 3072]⟩
abbrev S34x8x384x384 : Shape := ⟨4, ![34, 8, 384, 384]⟩
abbrev S34x8x1x384 : Shape := ⟨4, ![34, 8, 1, 384]⟩
abbrev S34x8x1x1 : Shape := ⟨4, ![34, 8, 1, 1]⟩
abbrev S34x128x8x384 : Shape := ⟨4, ![34, 128, 8, 384]⟩
abbrev S34x128x8x1 : Shape := ⟨4, ![34, 128, 8, 1]⟩
abbrev S34x128x8 : Shape := ⟨3, ![34, 128, 8]⟩
abbrev S34x8x384 : Shape := ⟨3, ![34, 8, 384]⟩
abbrev S34x8 : Shape := ⟨2, ![34, 8]⟩
abbrev S_ : Shape := ⟨0, ![]⟩
abbrev S128x128 : Shape := ⟨2, ![128, 128]⟩
abbrev S1x128x128x1 : Shape := ⟨4, ![1, 128, 128, 1]⟩
abbrev S34x128x1x8 : Shape := ⟨4, ![34, 128, 1, 8]⟩
abbrev S34x1x128x8 : Shape := ⟨4, ![34, 1, 128, 8]⟩
abbrev S34x128x128x8 : Shape := ⟨4, ![34, 128, 128, 8]⟩
abbrev S34x1x8 : Shape := ⟨3, ![34, 1, 8]⟩
abbrev S34x8x128x128 : Shape := ⟨4, ![34, 8, 128, 128]⟩
abbrev S34x8x384x128 : Shape := ⟨4, ![34, 8, 384, 128]⟩
abbrev S34x1x8x384 : Shape := ⟨4, ![34, 1, 8, 384]⟩
abbrev S8x384 : Shape := ⟨2, ![8, 384]⟩
abbrev S1x1x8x384 : Shape := ⟨4, ![1, 1, 8, 384]⟩
abbrev S3072 : Shape := ⟨1, ![3072]⟩
abbrev S34x8x128x384 : Shape := ⟨4, ![34, 8, 128, 384]⟩
abbrev S8x1x384 : Shape := ⟨3, ![8, 1, 384]⟩

abbrev nBuf : Space → Nat
  | .hbm => 273
  | .vmem => 0
  | .smem => 0
  | _ => 0

abbrev hbmTy0_0 (i : Nat) : BufTy := match i % 128 with
  | 0 => ⟨S4352x3072, .f32⟩
  | 1 => ⟨S4352x3072, .f32⟩
  | 2 => ⟨S4352x3072, .f32⟩
  | 3 => ⟨S4352x8, .f32⟩
  | 4 => ⟨S4352x8, .f32⟩
  | 5 => ⟨S4352x3072, .f32⟩
  | 6 => ⟨S4352x3072, .f32⟩
  | 7 => ⟨S1x3072, .f32⟩
  | 8 => ⟨S1x3072, .f32⟩
  | 9 => ⟨S34x8x384x384, .f32⟩
  | 10 => ⟨S34x8x1x384, .f32⟩
  | 11 => ⟨S34x8x1x1, .f32⟩
  | 12 => ⟨S4352x3072, .f32⟩
  | 13 => ⟨S34x128x8x384, .f32⟩
  | 14 => ⟨S34x128x8x384, .f32⟩
  | 15 => ⟨S34x128x8x1, .f32⟩
  | 16 => ⟨S34x128x8, .f32⟩
  | 17 => ⟨S34x128x8x1, .f32⟩
  | 18 => ⟨S34x128x8, .f32⟩
  | 19 => ⟨S34x8x384, .f32⟩
  | 20 => ⟨S34x8, .f32⟩
  | 21 => ⟨S34x128x8x384, .f32⟩
  | 22 => ⟨S_, .f32⟩
  | 23 => ⟨S34x128x8x384, .f32⟩
  | 24 => ⟨S34x128x8x384, .f32⟩
  | 25 => ⟨S_, .i1⟩
  | 26 => ⟨S128x128, .i1⟩
  | 27 => ⟨S128x128, .i32⟩
  | 28 => ⟨S_, .i32⟩
  | 29 => ⟨S128x128, .i32⟩
  | 30 => ⟨S128x128, .i32⟩
  | 31 => ⟨S128x128, .i32⟩
  | 32 => ⟨S128x128, .i1⟩
  | 33 => ⟨S_, .i1⟩
  | 34 => ⟨S128x128, .i1⟩
  | 35 => ⟨S128x128, .i1⟩
  | 36 => ⟨S1x128x128x1, .i1⟩
  | 37 => ⟨S34x128x1x8, .f32⟩
  | 38 => ⟨S34x1x128x8, .f32⟩
  | 39 => ⟨S34x128x128x8, .f32⟩
  | 40 => ⟨S34x128x128x8, .f32⟩
  | 41 => ⟨S34x128x128x8, .f32⟩
  | 42 => ⟨S34x1x128x8, .f32⟩
  | 43 => ⟨S34x128x128x8, .f32⟩
  | 44 => ⟨S34x128x128x8, .f32⟩
  | 45 => ⟨S_, .f32⟩
  | 46 => ⟨S_, .f32⟩
  | 47 => ⟨S34x128x128x8, .i1⟩
  | 48 => ⟨S34x128x128x8, .f32⟩
  | 49 => ⟨S34x128x128x8, .f32⟩
  | 50 => ⟨S34x1x8, .f32⟩
  | 51 => ⟨S34x128x8, .f32⟩
  | 52 => ⟨S34x128x8, .f32⟩
  | 53 => ⟨S_, .f32⟩
  | 54 => ⟨S34x128x8, .f32⟩
  | 55 => ⟨S34x128x8, .f32⟩
  | 56 => ⟨S34x128x1x8, .f32⟩
  | 57 => ⟨S34x128x128x8, .f32⟩
  | 58 => ⟨S34x128x128x8, .f32⟩
  | 59 => ⟨S34x128x128x8, .f32⟩
  | 60 => ⟨S34x128x8, .f32⟩
  | 61 => ⟨S34x128x8, .f32⟩
  | 62 => ⟨S34x8x128x128, .f32⟩
  | 63 => ⟨S34x128x128x8, .f32⟩
  | 64 => ⟨S34x128x128x8, .f32⟩
  | 65 => ⟨S34x8x384x128, .f32⟩
  | 66 => ⟨S34x128x8x384, .f32⟩
  | 67 => ⟨S34x128x8x1, .f32⟩
  | 68 => ⟨S34x8x384x128, .f32⟩
  | 69 => ⟨S34x128x8x384, .f32⟩
  | 70 => ⟨S34x128x8x384, .f32⟩
  | 71 => ⟨S34x128x8x384, .f32⟩
  | 72 => ⟨S34x128x8x384, .f32⟩
  | 73 => ⟨S_, .f32⟩
  | 74 => ⟨S34x128x8, .f32⟩
  | 75 => ⟨S34x1x8x384, .f32⟩
  | 76 => ⟨S34x128x8x384, .f32⟩
  | 77 => ⟨S34x128x8x384, .f32⟩
  | 78 => ⟨S_, .f32⟩
  | 79 => ⟨S34x128x8, .f32⟩
  | 80 => ⟨S34x128x8, .f32⟩
  | 81 => ⟨S34x128x8, .f32⟩
  | 82 => ⟨S34x128x8, .f32⟩
  | 83 => ⟨S_, .f32⟩
  | 84 => ⟨S34x128x8, .f32⟩
  | 85 => ⟨S34x128x8, .i1⟩
  | 86 => ⟨S34x128x8, .f32⟩
  | 87 => ⟨S34x128x8, .f32⟩
  | 88 => ⟨S34x128x8, .f32⟩
  | 89 => ⟨S34x128x8, .i1⟩
  | 90 => ⟨S34x128x8, .i1⟩
  | 91 => ⟨S_, .f32⟩
  | 92 => ⟨S34x128x8, .f32⟩
  | 93 => ⟨S_, .f32⟩
  | 94 => ⟨S34x128x8, .f32⟩
  | 95 => ⟨S_, .f32⟩
  | 96 => ⟨S34x128x8, .f32⟩
  | 97 => ⟨S34x128x8, .f32⟩
  | 98 => ⟨S34x128x8, .f32⟩
  | 99 => ⟨S34x128x8x1, .f32⟩
  | 100 => ⟨S34x128x8x384, .f32⟩
  | 101 => ⟨S34x128x8x384, .f32⟩
  | 102 => ⟨S34x128x8x1, .f32⟩
  | 103 => ⟨S_, .f32⟩
  | 104 => ⟨S34x128x8x1, .f32⟩
  | 105 => ⟨S34x128x8x1, .f32⟩
  | 106 => ⟨S_, .f32⟩
  | 107 => ⟨S34x128x8, .f32⟩
  | 108 => ⟨S34x128x8x1, .f32⟩
  | 109 => ⟨S_, .f32⟩
  | 110 => ⟨S34x128x8x1, .f32⟩
  | 111 => ⟨S34x128x8x1, .f32⟩
  | 112 => ⟨S34x128x8x384, .f32⟩
  | 113 => ⟨S34x128x8x384, .f32⟩
  | 114 => ⟨S34x128x8x384, .f32⟩
  | 115 => ⟨S_, .f32⟩
  | 116 => ⟨S34x128x8x384, .f32⟩
  | 117 => ⟨S34x128x8x384, .f32⟩
  | 118 => ⟨S_, .f32⟩
  | 119 => ⟨S34x128x8, .f32⟩
  | 120 => ⟨S34x128x8x1, .f32⟩
  | 121 => ⟨S_, .f32⟩
  | 122 => ⟨S34x128x8x1, .f32⟩
  | 123 => ⟨S34x128x8x1, .f32⟩
  | 124 => ⟨S34x128x8x384, .f32⟩
  | 125 => ⟨S34x128x8x384, .f32⟩
  | 126 => ⟨S_, .f32⟩
  | 127 => ⟨S34x128x8x1, .f32⟩
  | _ => ⟨S4352x3072, .f32⟩

abbrev hbmTy0_1 (i : Nat) : BufTy := match i % 128 with
  | 0 => ⟨S34x128x8x1, .f32⟩
  | 1 => ⟨S34x128x8x1, .f32⟩
  | 2 => ⟨S34x128x8x1, .f32⟩
  | 3 => ⟨S_, .f32⟩
  | 4 => ⟨S34x128x8x1, .f32⟩
  | 5 => ⟨S34x128x8x1, .f32⟩
  | 6 => ⟨S34x128x8x384, .f32⟩
  | 7 => ⟨S34x128x8x384, .f32⟩
  | 8 => ⟨S8x384, .f32⟩
  | 9 => ⟨S1x1x8x384, .f32⟩
  | 10 => ⟨S34x128x8x384, .f32⟩
  | 11 => ⟨S34x128x8x384, .f32⟩
  | 12 => ⟨S4352x3072, .f32⟩
  | 13 => ⟨S4352x3072, .f32⟩
  | 14 => ⟨S4352x3072, .f32⟩
  | 15 => ⟨S_, .f32⟩
  | 16 => ⟨S4352x3072, .f32⟩
  | 17 => ⟨S4352x3072, .f32⟩
  | 18 => ⟨S_, .f32⟩
  | 19 => ⟨S4352x3072, .f32⟩
  | 20 => ⟨S4352x3072, .f32⟩
  | 21 => ⟨S_, .f32⟩
  | 22 => ⟨S4352x3072, .f32⟩
  | 23 => ⟨S4352x3072, .f32⟩
  | 24 => ⟨S4352x3072, .f32⟩
  | 25 => ⟨S4352x3072, .f32⟩
  | 26 => ⟨S4352x3072, .f32⟩
  | 27 => ⟨S4352x3072, .f32⟩
  | 28 => ⟨S4352x3072, .f32⟩
  | 29 => ⟨S4352x3072, .f32⟩
  | 30 => ⟨S4352x3072, .f32⟩
  | 31 => ⟨S_, .f32⟩
  | 32 => ⟨S4352x3072, .f32⟩
  | 33 => ⟨S4352x3072, .f32⟩
  | 34 => ⟨S_, .f32⟩
  | 35 => ⟨S4352x3072, .f32⟩
  | 36 => ⟨S4352x3072, .f32⟩
  | 37 => ⟨S_, .f32⟩
  | 38 => ⟨S4352x3072, .f32⟩
  | 39 => ⟨S4352x3072, .f32⟩
  | 40 => ⟨S4352x3072, .f32⟩
  | 41 => ⟨S4352x3072, .f32⟩
  | 42 => ⟨S4352x3072, .f32⟩
  | 43 => ⟨S4352x3072, .f32⟩
  | 44 => ⟨S4352x3072, .f32⟩
  | 45 => ⟨S4352x3072, .f32⟩
  | 46 => ⟨S4352x3072, .f32⟩
  | 47 => ⟨S4352x3072, .f32⟩
  | 48 => ⟨S4352x3072, .f32⟩
  | 49 => ⟨S4352x3072, .f32⟩
  | 50 => ⟨S4352x3072, .f32⟩
  | 51 => ⟨S4352x3072, .f32⟩
  | 52 => ⟨S_, .f32⟩
  | 53 => ⟨S3072, .f32⟩
  | 54 => ⟨S1x3072, .f32⟩
  | 55 => ⟨S4352x3072, .f32⟩
  | 56 => ⟨S4352x3072, .f32⟩
  | 57 => ⟨S4352x3072, .f32⟩
  | 58 => ⟨S4352x3072, .f32⟩
  | 59 => ⟨S34x128x8x384, .f32⟩
  | 60 => ⟨S34x128x8x384, .f32⟩
  | 61 => ⟨S_, .f32⟩
  | 62 => ⟨S8x384, .f32⟩
  | 63 => ⟨S1x1x8x384, .f32⟩
  | 64 => ⟨S34x128x8x384, .f32⟩
  | 65 => ⟨S34x128x8x384, .f32⟩
  | 66 => ⟨S_, .f32⟩
  | 67 => ⟨S8x384, .f32⟩
  | 68 => ⟨S1x3072, .f32⟩
  | 69 => ⟨S34x128x8x384, .f32⟩
  | 70 => ⟨S_, .f32⟩
  | 71 => ⟨S34x128x8, .f32⟩
  | 72 => ⟨S34x128x8x1, .f32⟩
  | 73 => ⟨S34x128x8x384, .f32⟩
  | 74 => ⟨S34x128x8x384, .f32⟩
  | 75 => ⟨S34x128x8x1, .f32⟩
  | 76 => ⟨S34x128x8x384, .f32⟩
  | 77 => ⟨S_, .f32⟩
  | 78 => ⟨S34x128x8, .f32⟩
  | 79 => ⟨S34x128x8x1, .f32⟩
  | 80 => ⟨S_, .f32⟩
  | 81 => ⟨S34x128x8x1, .f32⟩
  | 82 => ⟨S34x128x8x1, .f32⟩
  | 83 => ⟨S_, .f32⟩
  | 84 => ⟨S34x128x8, .f32⟩
  | 85 => ⟨S34x128x8x384, .f32⟩
  | 86 => ⟨S34x128x8x384, .f32⟩
  | 87 => ⟨S34x128x8x384, .f32⟩
  | 88 => ⟨S_, .f32⟩
  | 89 => ⟨S34x128x8, .f32⟩
  | 90 => ⟨S34x128x8x1, .f32⟩
  | 91 => ⟨S34x128x8x384, .f32⟩
  | 92 => ⟨S34x128x8x1, .f32⟩
  | 93 => ⟨S_, .f32⟩
  | 94 => ⟨S34x128x8x1, .f32⟩
  | 95 => ⟨S34x128x8x1, .f32⟩
  | 96 => ⟨S_, .f32⟩
  | 97 => ⟨S34x128x8, .f32⟩
  | 98 => ⟨S34x128x8x384, .f32⟩
  | 99 => ⟨S34x128x8x384, .f32⟩
  | 100 => ⟨S34x128x8x384, .f32⟩
  | 101 => ⟨S34x128x8x384, .f32⟩
  | 102 => ⟨S34x128x8x384, .f32⟩
  | 103 => ⟨S_, .f32⟩
  | 104 => ⟨S34x128x8, .f32⟩
  | 105 => ⟨S34x128x8x1, .f32⟩
  | 106 => ⟨S34x128x8x1, .f32⟩
  | 107 => ⟨S34x128x8x384, .f32⟩
  | 108 => ⟨S34x128x8x384, .f32⟩
  | 109 => ⟨S_, .f32⟩
  | 110 => ⟨S34x128x8, .f32⟩
  | 111 => ⟨S34x128x8, .f32⟩
  | 112 => ⟨S_, .f32⟩
  | 113 => ⟨S34x128x8, .f32⟩
  | 114 => ⟨S34x128x8, .f32⟩
  | 115 => ⟨S34x128x8, .f32⟩
  | 116 => ⟨S34x128x8, .f32⟩
  | 117 => ⟨S34x128x8, .f32⟩
  | 118 => ⟨S34x128x8, .f32⟩
  | 119 => ⟨S34x128x8x384, .f32⟩
  | 120 => ⟨S34x128x8x384, .f32⟩
  | 121 => ⟨S34x128x8x384, .f32⟩
  | 122 => ⟨S34x128x128x8, .f32⟩
  | 123 => ⟨S34x128x8x384, .f32⟩
  | 124 => ⟨S34x128x8x384, .f32⟩
  | 125 => ⟨S34x8x384x128, .f32⟩
  | 126 => ⟨S34x8x128x384, .f32⟩
  | 127 => ⟨S34x128x8x384, .f32⟩
  | _ => ⟨S4352x3072, .f32⟩

abbrev hbmTy0_2 (i : Nat) : BufTy := match i % 128 with
  | 0 => ⟨S34x128x8x384, .f32⟩
  | 1 => ⟨S34x8x384x128, .f32⟩
  | 2 => ⟨S34x8x128x128, .f32⟩
  | 3 => ⟨S34x128x128x8, .f32⟩
  | 4 => ⟨S34x128x128x8, .f32⟩
  | 5 => ⟨S34x128x128x8, .f32⟩
  | 6 => ⟨S34x8x128x128, .f32⟩
  | 7 => ⟨S34x8x128x384, .f32⟩
  | 8 => ⟨S34x128x8x384, .f32⟩
  | 9 => ⟨S34x128x8x384, .f32⟩
  | 10 => ⟨S_, .f32⟩
  | 11 => ⟨S34x128x8x384, .f32⟩
  | 12 => ⟨S34x128x8x384, .f32⟩
  | 13 => ⟨S4352x3072, .f32⟩
  | 14 => ⟨S4352x3072, .bf16⟩
  | 15 => ⟨S8x1x384, .f32⟩
  | 16 => ⟨S8x1x384, .f32⟩
  | _ => ⟨S4352x3072, .f32⟩

abbrev hbmTy (i : Nat) : BufTy := match i / 128 with
  | 0 => hbmTy0_0 i
  | 1 => hbmTy0_1 i
  | 2 => hbmTy0_2 i
  | _ => ⟨S4352x3072, .f32⟩

abbrev bufTy : (tb : Table) → Fin (tcTables nBuf tb) → BufTy
  | .hbm, ⟨i, _⟩ => hbmTy i
  | _, _ => ⟨S4352x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_c_0 : Ref sig .tc := ⟨.hbm, 33, rfl⟩
abbrev main_call0_v5 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_1 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_2 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_3 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_4 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_5 : Ref sig .tc := ⟨.hbm, 91, rfl⟩
abbrev main_v60 : Ref sig .tc := ⟨.hbm, 92, rfl⟩
abbrev main_cst_6 : Ref sig .tc := ⟨.hbm, 93, rfl⟩
abbrev main_v61 : Ref sig .tc := ⟨.hbm, 94, rfl⟩
abbrev main_cst_7 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_8 : Ref sig .tc := ⟨.hbm, 103, rfl⟩
abbrev main_v69 : Ref sig .tc := ⟨.hbm, 104, rfl⟩
abbrev main_v70 : Ref sig .tc := ⟨.hbm, 105, rfl⟩
abbrev main_cst_9 : Ref sig .tc := ⟨.hbm, 106, rfl⟩
abbrev main_v71 : Ref sig .tc := ⟨.hbm, 107, rfl⟩
abbrev main_v72 : Ref sig .tc := ⟨.hbm, 108, rfl⟩
abbrev main_cst_10 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_11 : Ref sig .tc := ⟨.hbm, 115, rfl⟩
abbrev main_v78 : Ref sig .tc := ⟨.hbm, 116, rfl⟩
abbrev main_v79 : Ref sig .tc := ⟨.hbm, 117, rfl⟩
abbrev main_cst_12 : Ref sig .tc := ⟨.hbm, 118, rfl⟩
abbrev main_v80 : Ref sig .tc := ⟨.hbm, 119, rfl⟩
abbrev main_v81 : Ref sig .tc := ⟨.hbm, 120, rfl⟩
abbrev main_cst_13 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_14 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_15 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_call2_v0 : Ref sig .tc := ⟨.hbm, 141, rfl⟩
abbrev main_call2_v1 : Ref sig .tc := ⟨.hbm, 142, rfl⟩
abbrev main_call2_cst : Ref sig .tc := ⟨.hbm, 143, rfl⟩
abbrev main_call2_v2 : Ref sig .tc := ⟨.hbm, 144, rfl⟩
abbrev main_call2_v3 : Ref sig .tc := ⟨.hbm, 145, rfl⟩
abbrev main_call2_cst_0 : Ref sig .tc := ⟨.hbm, 146, rfl⟩
abbrev main_call2_v4 : Ref sig .tc := ⟨.hbm, 147, rfl⟩
abbrev main_v99_2 : Ref sig .tc := ⟨.hbm, 148, rfl⟩
abbrev main_call2_cst_1 : Ref sig .tc := ⟨.hbm, 149, rfl⟩
abbrev main_call2_v6 : Ref sig .tc := ⟨.hbm, 150, rfl⟩
abbrev main_call2_v7 : Ref sig .tc := ⟨.hbm, 151, rfl⟩
abbrev main_v99_1 : Ref sig .tc := ⟨.hbm, 152, rfl⟩
abbrev main_v99_0 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_call3_v0 : Ref sig .tc := ⟨.hbm, 157, rfl⟩
abbrev main_call3_v1 : Ref sig .tc := ⟨.hbm, 158, rfl⟩
abbrev main_call3_cst : Ref sig .tc := ⟨.hbm, 159, rfl⟩
abbrev main_call3_v2 : Ref sig .tc := ⟨.hbm, 160, rfl⟩
abbrev main_call3_v3 : Ref sig .tc := ⟨.hbm, 161, rfl⟩
abbrev main_call3_cst_0 : Ref sig .tc := ⟨.hbm, 162, rfl⟩
abbrev main_call3_v4 : Ref sig .tc := ⟨.hbm, 163, rfl⟩
abbrev main_v103_2 : Ref sig .tc := ⟨.hbm, 164, rfl⟩
abbrev main_call3_cst_1 : Ref sig .tc := ⟨.hbm, 165, rfl⟩
abbrev main_call3_v6 : Ref sig .tc := ⟨.hbm, 166, rfl⟩
abbrev main_call3_v7 : Ref sig .tc := ⟨.hbm, 167, rfl⟩
abbrev main_v103_1 : Ref sig .tc := ⟨.hbm, 168, rfl⟩
abbrev main_v103_0 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_call4_v0 : Ref sig .tc := ⟨.hbm, 173, rfl⟩
abbrev main_call4_v1 : Ref sig .tc := ⟨.hbm, 174, rfl⟩
abbrev main_call4_v2 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_cst_16 : Ref sig .tc := ⟨.hbm, 180, rfl⟩
abbrev main_v111 : Ref sig .tc := ⟨.hbm, 181, rfl⟩
abbrev main_v112 : Ref sig .tc := ⟨.hbm, 182, rfl⟩
abbrev main_call5_v0 : Ref sig .tc := ⟨.hbm, 183, rfl⟩
abbrev main_call5_v1 : Ref sig .tc := ⟨.hbm, 184, rfl⟩
abbrev main_call5_v2 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_cst_17 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_cst_18 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_cst_19 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_cst_20 : Ref sig .tc := ⟨.hbm, 205, rfl⟩
abbrev main_v129 : Ref sig .tc := ⟨.hbm, 206, rfl⟩
abbrev main_v130 : Ref sig .tc := ⟨.hbm, 207, rfl⟩
abbrev main_cst_21 : Ref sig .tc := ⟨.hbm, 208, rfl⟩
abbrev main_v131 : Ref sig .tc := ⟨.hbm, 209, rfl⟩
abbrev main_v132 : Ref sig .tc := ⟨.hbm, 210, rfl⟩
abbrev main_cst_22 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_cst_23 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_cst_24 : Ref sig .tc := ⟨.hbm, 221, rfl⟩
abbrev main_v141 : Ref sig .tc := ⟨.hbm, 222, rfl⟩
abbrev main_v142 : Ref sig .tc := ⟨.hbm, 223, rfl⟩
abbrev main_cst_25 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_cst_26 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_cst_27 : Ref sig .tc := ⟨.hbm, 237, rfl⟩
abbrev main_v154 : Ref sig .tc := ⟨.hbm, 238, rfl⟩
abbrev main_v155 : Ref sig .tc := ⟨.hbm, 239, rfl⟩
abbrev main_cst_28 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_v160 : Ref sig .tc := ⟨.hbm, 245, rfl⟩
abbrev main_v161 : Ref sig .tc := ⟨.hbm, 246, rfl⟩
abbrev main_v162 : Ref sig .tc := ⟨.hbm, 247, rfl⟩
abbrev main_v163 : Ref sig .tc := ⟨.hbm, 248, rfl⟩
abbrev main_v164 : Ref sig .tc := ⟨.hbm, 249, rfl⟩
abbrev main_v165 : Ref sig .tc := ⟨.hbm, 250, rfl⟩
abbrev main_v166 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_cst_29 : Ref sig .tc := ⟨.hbm, 266, rfl⟩
abbrev main_v181 : Ref sig .tc := ⟨.hbm, 267, rfl⟩
abbrev main_v182 : Ref sig .tc := ⟨.hbm, 268, rfl⟩
abbrev main_v183 : Ref sig .tc := ⟨.hbm, 269, rfl⟩
abbrev main_v184 : Ref sig .tc := ⟨.hbm, 270, rfl⟩
abbrev main_v185 : Ref sig .tc := ⟨.hbm, 271, rfl⟩
abbrev main_v186 : Ref sig .tc := ⟨.hbm, 272, rfl⟩

abbrev nD : Nat := 1
abbrev τ : Topo := Topo.v7x

variable {F : FTy → Type} [FloatOps F]
-- ==== Kernel2.lean ====
abbrev S4352x2048 : Shape := ⟨2, ![4352, 2048]⟩
abbrev S4352x3072 : Shape := ⟨2, ![4352, 3072]⟩
abbrev S2048x3072 : Shape := ⟨2, ![2048, 3072]⟩
abbrev S4352x1024 : Shape := ⟨2, ![4352, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x3072, .bf16⟩
  | .hbm, ⟨2, _⟩ => ⟨S2048x3072, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .bf16⟩
  | .local _ .vmem, ⟨5, _⟩ => ⟨S1024x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel2Ideal.lean ====
abbrev S4352x2048 : Shape := ⟨2, ![4352, 2048]⟩
abbrev S4352x3072 : Shape := ⟨2, ![4352, 3072]⟩
abbrev S2048x3072 : Shape := ⟨2, ![2048, 3072]⟩
abbrev S4352x1024 : Shape := ⟨2, ![4352, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x3072, .bf16⟩
  | .hbm, ⟨2, _⟩ => ⟨S2048x3072, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .bf16⟩
  | .local _ .vmem, ⟨5, _⟩ => ⟨S1024x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4352x2048 : Shape := ⟨2, ![4352, 2048]⟩
abbrev S4352x3072 : Shape := ⟨2, ![4352, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x3072, .bf16⟩
  | .hbm, ⟨2, _⟩ => ⟨S_, .f32⟩
  | .hbm, ⟨3, _⟩ => ⟨S2048x3072, .f32⟩
  | .hbm, ⟨4, _⟩ => ⟨S4352x2048, .f32⟩
  | .hbm, ⟨5, _⟩ => ⟨S4352x3072, .f32⟩
  | .hbm, ⟨6, _⟩ => ⟨S4352x3072, .f32⟩
  | .hbm, ⟨7, _⟩ => ⟨S3072x2048, .f32⟩
  | .hbm, ⟨8, _⟩ => ⟨S2048x3072, .f32⟩
  | .hbm, ⟨9, _⟩ => ⟨S2048x3072, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4352x3072 : Shape := ⟨2, ![4352, 3072]⟩
abbrev S2048x3072 : Shape := ⟨2, ![2048, 3072]⟩
abbrev S4352x2048 : Shape := ⟨2, ![4352, 2048]⟩
abbrev S1088x3072 : Shape := ⟨2, ![1088, 3072]⟩
abbrev S512x3072 : Shape := ⟨2, ![512, 3072]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S4352x3072, .bf16⟩
  | .hbm, ⟨1, _⟩ => ⟨S2048x3072, .bf16⟩
  | .hbm, ⟨2, _⟩ => ⟨S4352x2048, .f32⟩
  | .hbm, ⟨3, _⟩ => ⟨S4352x2048, .f32⟩
  | .local _ .vmem, ⟨0, _⟩ => ⟨S1088x3072, .bf16⟩
  | .local _ .vmem, ⟨1, _⟩ => ⟨S1088x3072, .bf16⟩
  | .local _ .vmem, ⟨2, _⟩ => ⟨S512x3072, .bf16⟩
  | .local _ .vmem, ⟨3, _⟩ => ⟨S512x3072, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel3Ideal.lean ====
abbrev S4352x3072 : Shape := ⟨2, ![4352, 3072]⟩
abbrev S2048x3072 : Shape := ⟨2, ![2048, 3072]⟩
abbrev S4352x2048 : Shape := ⟨2, ![4352, 2048]⟩
abbrev S1088x3072 : Shape := ⟨2, ![1088, 3072]⟩
abbrev S512x3072 : Shape := ⟨2, ![512, 3072]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S4352x3072, .bf16⟩
  | .hbm, ⟨1, _⟩ => ⟨S2048x3072, .bf16⟩
  | .hbm, ⟨2, _⟩ => ⟨S4352x2048, .f32⟩
  | .hbm, ⟨3, _⟩ => ⟨S4352x2048, .f32⟩
  | .local _ .vmem, ⟨0, _⟩ => ⟨S1088x3072, .bf16⟩
  | .local _ .vmem, ⟨1, _⟩ => ⟨S1088x3072, .bf16⟩
  | .local _ .vmem, ⟨2, _⟩ => ⟨S512x3072, .bf16⟩
  | .local _ .vmem, ⟨3, _⟩ => ⟨S512x3072, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4352x3072 : Shape := ⟨2, ![4352, 3072]⟩
abbrev S2048x3072 : Shape := ⟨2, ![2048, 3072]⟩
abbrev S4352x2048 : Shape := ⟨2, ![4352, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S2048x3072, .bf16⟩
  | .hbm, ⟨2, _⟩ => ⟨S4352x2048, .f32⟩
  | .hbm, ⟨3, _⟩ => ⟨S_, .f32⟩
  | .hbm, ⟨4, _⟩ => ⟨S4352x2048, .f32⟩
  | .hbm, ⟨5, _⟩ => ⟨S2048x3072, .f32⟩
  | .hbm, ⟨6, _⟩ => ⟨S4352x3072, .f32⟩
  | .hbm, ⟨7, _⟩ => ⟨S4352x3072, .f32⟩
  | .hbm, ⟨8, _⟩ => ⟨S4352x2048, .f32⟩
  | .hbm, ⟨9, _⟩ => ⟨S4352x2048, .f32⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel4.lean ====
abbrev S4352x6144 : Shape := ⟨2, ![4352, 6144]⟩
abbrev S2048x6144 : Shape := ⟨2, ![2048, 6144]⟩
abbrev S4352x2048 : Shape := ⟨2, ![4352, 2048]⟩
abbrev S1088x3072 : Shape := ⟨2, ![1088, 3072]⟩
abbrev S512x3072 : Shape := ⟨2, ![512, 3072]⟩
abbrev S1088x512 : Shape := ⟨2, ![1088, 512]⟩

abbrev nBuf : Space → Nat
  | .hbm => 4
  | .vmem => 9
  | .smem => 0
  | _ => 0

abbrev bufTy : (tb : Table) → Fin (tcTables nBuf tb) → BufTy
  | .hbm, ⟨0, _⟩ => ⟨S4352x6144, .bf16⟩
  | .hbm, ⟨1, _⟩ => ⟨S2048x6144, .bf16⟩
  | .hbm, ⟨2, _⟩ => ⟨S4352x2048, .f32⟩
  | .hbm, ⟨3, _⟩ => ⟨S4352x2048, .f32⟩
  | .local _ .vmem, ⟨0, _⟩ => ⟨S1088x3072, .bf16⟩
  | .local _ .vmem, ⟨1, _⟩ => ⟨S1088x3072, .bf16⟩
  | .local _ .vmem, ⟨2, _⟩ => ⟨S512x3072, .bf16⟩
  | .local _ .vmem, ⟨3, _⟩ => ⟨S512x3072, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | .local _ .vmem, ⟨8, _⟩ => ⟨S1088x512, .f32⟩
  | _, _ => ⟨S4352x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel4Ideal.lean ====
abbrev S4352x6144 : Shape := ⟨2, ![4352, 6144]⟩
abbrev S2048x6144 : Shape := ⟨2, ![2048, 6144]⟩
abbrev S4352x2048 : Shape := ⟨2, ![4352, 2048]⟩
abbrev S1088x3072 : Shape := ⟨2, ![1088, 3072]⟩
abbrev S512x3072 : Shape := ⟨2, ![512, 3072]⟩
abbrev S1088x512 : Shape := ⟨2, ![1088, 512]⟩

abbrev nBuf : Space → Nat
  | .hbm => 4
  | .vmem => 9
  | .smem => 0
  | _ => 0

abbrev bufTy : (tb : Table) → Fin (tcTables nBuf tb) → BufTy
  | .hbm, ⟨0, _⟩ => ⟨S4352x6144, .bf16⟩
  | .hbm, ⟨1, _⟩ => ⟨S2048x6144, .bf16⟩
  | .hbm, ⟨2, _⟩ => ⟨S4352x2048, .f32⟩
  | .hbm, ⟨3, _⟩ => ⟨S4352x2048, .f32⟩
  | .local _ .vmem, ⟨0, _⟩ => ⟨S1088x3072, .bf16⟩
  | .local _ .vmem, ⟨1, _⟩ => ⟨S1088x3072, .bf16⟩
  | .local _ .vmem, ⟨2, _⟩ => ⟨S512x3072, .bf16⟩
  | .local _ .vmem, ⟨3, _⟩ => ⟨S512x3072, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | .local _ .vmem, ⟨8, _⟩ => ⟨S1088x512, .f32⟩
  | _, _ => ⟨S4352x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4352x6144 : Shape := ⟨2, ![4352, 6144]⟩
abbrev S2048x6144 : Shape := ⟨2, ![2048, 6144]⟩
abbrev S4352x2048 : Shape := ⟨2, ![4352, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x6144, .bf16⟩
  | .hbm, ⟨1, _⟩ => ⟨S2048x6144, .bf16⟩
  | .hbm, ⟨2, _⟩ => ⟨S4352x2048, .f32⟩
  | .hbm, ⟨3, _⟩ => ⟨S_, .f32⟩
  | .hbm, ⟨4, _⟩ => ⟨S4352x2048, .f32⟩
  | .hbm, ⟨5, _⟩ => ⟨S2048x6144, .f32⟩
  | .hbm, ⟨6, _⟩ => ⟨S4352x6144, .f32⟩
  | .hbm, ⟨7, _⟩ => ⟨S4352x6144, .f32⟩
  | .hbm, ⟨8, _⟩ => ⟨S4352x2048, .f32⟩
  | .hbm, ⟨9, _⟩ => ⟨S4352x2048, .f32⟩
  | _, _ => ⟨S4352x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel5.lean ====
abbrev S4352x2048 : Shape := ⟨2, ![4352, 2048]⟩
abbrev S4352x6144 : Shape := ⟨2, ![4352, 6144]⟩
abbrev S2048x6144 : Shape := ⟨2, ![2048, 6144]⟩
abbrev S4352x1024 : Shape := ⟨2, ![4352, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x6144, .bf16⟩
  | .hbm, ⟨2, _⟩ => ⟨S2048x6144, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .bf16⟩
  | .local _ .vmem, ⟨5, _⟩ => ⟨S1024x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S4352x2048 : Shape := ⟨2, ![4352, 2048]⟩
abbrev S4352x6144 : Shape := ⟨2, ![4352, 6144]⟩
abbrev S2048x6144 : Shape := ⟨2, ![2048, 6144]⟩
abbrev S4352x1024 : Shape := ⟨2, ![4352, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x6144, .bf16⟩
  | .hbm, ⟨2, _⟩ => ⟨S2048x6144, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .bf16⟩
  | .local _ .vmem, ⟨5, _⟩ => ⟨S1024x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4352x2048 : Shape := ⟨2, ![4352, 2048]⟩
abbrev S4352x6144 : Shape := ⟨2, ![4352, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x6144, .bf16⟩
  | .hbm, ⟨2, _⟩ => ⟨S_, .f32⟩
  | .hbm, ⟨3, _⟩ => ⟨S2048x6144, .f32⟩
  | .hbm, ⟨4, _⟩ => ⟨S4352x2048, .f32⟩
  | .hbm, ⟨5, _⟩ => ⟨S4352x6144, .f32⟩
  | .hbm, ⟨6, _⟩ => ⟨S4352x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4352x2048 : Shape := ⟨2, ![4352, 2048]⟩
abbrev S4352x4096 : Shape := ⟨2, ![4352, 4096]⟩
abbrev S2048x4096 : Shape := ⟨2, ![2048, 4096]⟩
abbrev S4352x1024 : Shape := ⟨2, ![4352, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x4096, .bf16⟩
  | .hbm, ⟨2, _⟩ => ⟨S2048x4096, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .bf16⟩
  | .local _ .vmem, ⟨5, _⟩ => ⟨S1024x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S4352x2048 : Shape := ⟨2, ![4352, 2048]⟩
abbrev S4352x4096 : Shape := ⟨2, ![4352, 4096]⟩
abbrev S2048x4096 : Shape := ⟨2, ![2048, 4096]⟩
abbrev S4352x1024 : Shape := ⟨2, ![4352, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x4096, .bf16⟩
  | .hbm, ⟨2, _⟩ => ⟨S2048x4096, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .bf16⟩
  | .local _ .vmem, ⟨5, _⟩ => ⟨S1024x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4352x2048 : Shape := ⟨2, ![4352, 2048]⟩
abbrev S4352x4096 : Shape := ⟨2, ![4352, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x4096, .bf16⟩
  | .hbm, ⟨2, _⟩ => ⟨S_, .f32⟩
  | .hbm, ⟨3, _⟩ => ⟨S2048x4096, .f32⟩
  | .hbm, ⟨4, _⟩ => ⟨S4352x2048, .f32⟩
  | .hbm, ⟨5, _⟩ => ⟨S4352x4096, .f32⟩
  | .hbm, ⟨6, _⟩ => ⟨S4352x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4352x4096 : Shape := ⟨2, ![4352, 4096]⟩
abbrev S4352x2048 : Shape := ⟨2, ![4352, 2048]⟩
abbrev S4096x2048 : Shape := ⟨2, ![4096, 2048]⟩
abbrev S4352x1024 : Shape := ⟨2, ![4352, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x4096, .bf16⟩
  | .hbm, ⟨1, _⟩ => ⟨S4352x2048, .bf16⟩
  | .hbm, ⟨2, _⟩ => ⟨S4096x2048, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .bf16⟩
  | .local _ .vmem, ⟨5, _⟩ => ⟨S1024x1024, .bf16⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel7Ideal.lean ====
abbrev S4352x4096 : Shape := ⟨2, ![4352, 4096]⟩
abbrev S4352x2048 : Shape := ⟨2, ![4352, 2048]⟩
abbrev S4096x2048 : Shape := ⟨2, ![4096, 2048]⟩
abbrev S4352x1024 : Shape := ⟨2, ![4352, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x4096, .bf16⟩
  | .hbm, ⟨1, _⟩ => ⟨S4352x2048, .bf16⟩
  | .hbm, ⟨2, _⟩ => ⟨S4096x2048, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .bf16⟩
  | .local _ .vmem, ⟨5, _⟩ => ⟨S1024x1024, .bf16⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4352x4096 : Shape := ⟨2, ![4352, 4096]⟩
abbrev S4352x2048 : Shape := ⟨2, ![4352, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4352x2048, .bf16⟩
  | .hbm, ⟨2, _⟩ => ⟨S_, .f32⟩
  | .hbm, ⟨3, _⟩ => ⟨S4096x2048, .f32⟩
  | .hbm, ⟨4, _⟩ => ⟨S4352x4096, .f32⟩
  | .hbm, ⟨5, _⟩ => ⟨S4352x2048, .f32⟩
  | .hbm, ⟨6, _⟩ => ⟨S4352x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4352x4096 : Shape := ⟨2, ![4352, 4096]⟩
abbrev S2048x4096 : Shape := ⟨2, ![2048, 4096]⟩
abbrev S4352x2048 : Shape := ⟨2, ![4352, 2048]⟩
abbrev S1088x4096 : Shape := ⟨2, ![1088, 4096]⟩
abbrev S512x4096 : Shape := ⟨2, ![512, 4096]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x4096, .bf16⟩
  | .hbm, ⟨1, _⟩ => ⟨S2048x4096, .bf16⟩
  | .hbm, ⟨2, _⟩ => ⟨S4352x2048, .f32⟩
  | .local _ .vmem, ⟨0, _⟩ => ⟨S1088x4096, .bf16⟩
  | .local _ .vmem, ⟨1, _⟩ => ⟨S1088x4096, .bf16⟩
  | .local _ .vmem, ⟨2, _⟩ => ⟨S512x4096, .bf16⟩
  | .local _ .vmem, ⟨3, _⟩ => ⟨S512x4096, .bf16⟩
  | .local _ .vmem, ⟨4, _⟩ => ⟨S1088x512, .f32⟩
  | .local _ .vmem, ⟨5, _⟩ => ⟨S1088x512, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel8Ideal.lean ====
abbrev S4352x4096 : Shape := ⟨2, ![4352, 4096]⟩
abbrev S2048x4096 : Shape := ⟨2, ![2048, 4096]⟩
abbrev S4352x2048 : Shape := ⟨2, ![4352, 2048]⟩
abbrev S1088x4096 : Shape := ⟨2, ![1088, 4096]⟩
abbrev S512x4096 : Shape := ⟨2, ![512, 4096]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x4096, .bf16⟩
  | .hbm, ⟨1, _⟩ => ⟨S2048x4096, .bf16⟩
  | .hbm, ⟨2, _⟩ => ⟨S4352x2048, .f32⟩
  | .local _ .vmem, ⟨0, _⟩ => ⟨S1088x4096, .bf16⟩
  | .local _ .vmem, ⟨1, _⟩ => ⟨S1088x4096, .bf16⟩
  | .local _ .vmem, ⟨2, _⟩ => ⟨S512x4096, .bf16⟩
  | .local _ .vmem, ⟨3, _⟩ => ⟨S512x4096, .bf16⟩
  | .local _ .vmem, ⟨4, _⟩ => ⟨S1088x512, .f32⟩
  | .local _ .vmem, ⟨5, _⟩ => ⟨S1088x512, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4352x4096 : Shape := ⟨2, ![4352, 4096]⟩
abbrev S2048x4096 : Shape := ⟨2, ![2048, 4096]⟩
abbrev S_ : Shape := ⟨0, ![]⟩
abbrev S4352x2048 : Shape := ⟨2, ![4352, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S2048x4096, .bf16⟩
  | .hbm, ⟨2, _⟩ => ⟨S_, .f32⟩
  | .hbm, ⟨3, _⟩ => ⟨S4352x2048, .f32⟩
  | .hbm, ⟨4, _⟩ => ⟨S2048x4096, .f32⟩
  | .hbm, ⟨5, _⟩ => ⟨S4352x4096, .f32⟩
  | .hbm, ⟨6, _⟩ => ⟨S4352x4096, .f32⟩
  | .hbm, ⟨7, _⟩ => ⟨S4352x2048, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4352x2048 : Shape := ⟨2, ![4352, 2048]⟩
abbrev S4096x2048 : Shape := ⟨2, ![4096, 2048]⟩
abbrev S4352x4096 : Shape := ⟨2, ![4352, 4096]⟩
abbrev S1088x2048 : Shape := ⟨2, ![1088, 2048]⟩
abbrev S512x2048 : Shape := ⟨2, ![512, 2048]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4096x2048, .bf16⟩
  | .hbm, ⟨2, _⟩ => ⟨S4352x4096, .f32⟩
  | .local _ .vmem, ⟨0, _⟩ => ⟨S1088x2048, .bf16⟩
  | .local _ .vmem, ⟨1, _⟩ => ⟨S1088x2048, .bf16⟩
  | .local _ .vmem, ⟨2, _⟩ => ⟨S512x2048, .bf16⟩
  | .local _ .vmem, ⟨3, _⟩ => ⟨S512x2048, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel9Ideal.lean ====
abbrev S4352x2048 : Shape := ⟨2, ![4352, 2048]⟩
abbrev S4096x2048 : Shape := ⟨2, ![4096, 2048]⟩
abbrev S4352x4096 : Shape := ⟨2, ![4352, 4096]⟩
abbrev S1088x2048 : Shape := ⟨2, ![1088, 2048]⟩
abbrev S512x2048 : Shape := ⟨2, ![512, 2048]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4096x2048, .bf16⟩
  | .hbm, ⟨2, _⟩ => ⟨S4352x4096, .f32⟩
  | .local _ .vmem, ⟨0, _⟩ => ⟨S1088x2048, .bf16⟩
  | .local _ .vmem, ⟨1, _⟩ => ⟨S1088x2048, .bf16⟩
  | .local _ .vmem, ⟨2, _⟩ => ⟨S512x2048, .bf16⟩
  | .local _ .vmem, ⟨3, _⟩ => ⟨S512x2048, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4352x2048 : Shape := ⟨2, ![4352, 2048]⟩
abbrev S4096x2048 : Shape := ⟨2, ![4096, 2048]⟩
abbrev S_ : Shape := ⟨0, ![]⟩
abbrev S4352x4096 : Shape := ⟨2, ![4352, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4096x2048, .bf16⟩
  | .hbm, ⟨2, _⟩ => ⟨S_, .f32⟩
  | .hbm, ⟨3, _⟩ => ⟨S4352x4096, .f32⟩
  | .hbm, ⟨4, _⟩ => ⟨S4096x2048, .f32⟩
  | .hbm, ⟨5, _⟩ => ⟨S4352x2048, .f32⟩
  | .hbm, ⟨6, _⟩ => ⟨S4352x2048, .f32⟩
  | .hbm, ⟨7, _⟩ => ⟨S4352x4096, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4352x3072 : Shape := ⟨2, ![4352, 3072]⟩
abbrev S4352x2048 : Shape := ⟨2, ![4352, 2048]⟩
abbrev S3072x2048 : Shape := ⟨2, ![3072, 2048]⟩
abbrev S4352x1024 : Shape := ⟨2, ![4352, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x3072, .bf16⟩
  | .hbm, ⟨1, _⟩ => ⟨S4352x2048, .bf16⟩
  | .hbm, ⟨2, _⟩ => ⟨S3072x2048, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .bf16⟩
  | .local _ .vmem, ⟨5, _⟩ => ⟨S1024x1024, .bf16⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S4352x3072 : Shape := ⟨2, ![4352, 3072]⟩
abbrev S4352x2048 : Shape := ⟨2, ![4352, 2048]⟩
abbrev S3072x2048 : Shape := ⟨2, ![3072, 2048]⟩
abbrev S4352x1024 : Shape := ⟨2, ![4352, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x3072, .bf16⟩
  | .hbm, ⟨1, _⟩ => ⟨S4352x2048, .bf16⟩
  | .hbm, ⟨2, _⟩ => ⟨S3072x2048, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .bf16⟩
  | .local _ .vmem, ⟨5, _⟩ => ⟨S1024x1024, .bf16⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4352x3072 : Shape := ⟨2, ![4352, 3072]⟩
abbrev S4352x2048 : Shape := ⟨2, ![4352, 2048]⟩
abbrev S_ : Shape := ⟨0, ![]⟩
abbrev S3072x2048 : Shape := ⟨2, ![3072, 2048]⟩
abbrev S2048x3072 : Shape := ⟨2, ![2048, 3072]⟩

abbrev nBuf : Space → Nat
  | .hbm => 10
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S4352x2048, .bf16⟩
  | .hbm, ⟨2, _⟩ => ⟨S_, .f32⟩
  | .hbm, ⟨3, _⟩ => ⟨S3072x2048, .f32⟩
  | .hbm, ⟨4, _⟩ => ⟨S4352x3072, .f32⟩
  | .hbm, ⟨5, _⟩ => ⟨S4352x2048, .f32⟩
  | .hbm, ⟨6, _⟩ => ⟨S4352x2048, .f32⟩
  | .hbm, ⟨7, _⟩ => ⟨S2048x3072, .f32⟩
  | .hbm, ⟨8, _⟩ => ⟨S3072x2048, .f32⟩
  | .hbm, ⟨9, _⟩ => ⟨S3072x2048, .bf16⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4352x2048 : Shape := ⟨2, ![4352, 2048]⟩
abbrev S3072x2048 : Shape := ⟨2, ![3072, 2048]⟩
abbrev S4352x3072 : Shape := ⟨2, ![4352, 3072]⟩
abbrev S1088x2048 : Shape := ⟨2, ![1088, 2048]⟩
abbrev S512x2048 : Shape := ⟨2, ![512, 2048]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S3072x2048, .bf16⟩
  | .hbm, ⟨2, _⟩ => ⟨S4352x3072, .f32⟩
  | .local _ .vmem, ⟨0, _⟩ => ⟨S1088x2048, .bf16⟩
  | .local _ .vmem, ⟨1, _⟩ => ⟨S1088x2048, .bf16⟩
  | .local _ .vmem, ⟨2, _⟩ => ⟨S512x2048, .bf16⟩
  | .local _ .vmem, ⟨3, _⟩ => ⟨S512x2048, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel11Ideal.lean ====
abbrev S4352x2048 : Shape := ⟨2, ![4352, 2048]⟩
abbrev S3072x2048 : Shape := ⟨2, ![3072, 2048]⟩
abbrev S4352x3072 : Shape := ⟨2, ![4352, 3072]⟩
abbrev S1088x2048 : Shape := ⟨2, ![1088, 2048]⟩
abbrev S512x2048 : Shape := ⟨2, ![512, 2048]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S3072x2048, .bf16⟩
  | .hbm, ⟨2, _⟩ => ⟨S4352x3072, .f32⟩
  | .local _ .vmem, ⟨0, _⟩ => ⟨S1088x2048, .bf16⟩
  | .local _ .vmem, ⟨1, _⟩ => ⟨S1088x2048, .bf16⟩
  | .local _ .vmem, ⟨2, _⟩ => ⟨S512x2048, .bf16⟩
  | .local _ .vmem, ⟨3, _⟩ => ⟨S512x2048, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4352x2048 : Shape := ⟨2, ![4352, 2048]⟩
abbrev S3072x2048 : Shape := ⟨2, ![3072, 2048]⟩
abbrev S_ : Shape := ⟨0, ![]⟩
abbrev S4352x3072 : Shape := ⟨2, ![4352, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S3072x2048, .bf16⟩
  | .hbm, ⟨2, _⟩ => ⟨S_, .f32⟩
  | .hbm, ⟨3, _⟩ => ⟨S4352x3072, .f32⟩
  | .hbm, ⟨4, _⟩ => ⟨S3072x2048, .f32⟩
  | .hbm, ⟨5, _⟩ => ⟨S4352x2048, .f32⟩
  | .hbm, ⟨6, _⟩ => ⟨S4352x2048, .f32⟩
  | .hbm, ⟨7, _⟩ => ⟨S4352x3072, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4352x2048 : Shape := ⟨2, ![4352, 2048]⟩
abbrev S2048x2048 : Shape := ⟨2, ![2048, 2048]⟩
abbrev S4352x1024 : Shape := ⟨2, ![4352, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S2048x2048, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .bf16⟩
  | .local _ .vmem, ⟨5, _⟩ => ⟨S1024x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S4352x2048 : Shape := ⟨2, ![4352, 2048]⟩
abbrev S2048x2048 : Shape := ⟨2, ![2048, 2048]⟩
abbrev S4352x1024 : Shape := ⟨2, ![4352, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S2048x2048, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S4352x1024, .bf16⟩
  | .local _ .vmem, ⟨4, _⟩ => ⟨S1024x1024, .bf16⟩
  | .local _ .vmem, ⟨5, _⟩ => ⟨S1024x1024, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4352x2048 : Shape := ⟨2, ![4352, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x2048, .bf16⟩
  | .hbm, ⟨2, _⟩ => ⟨S_, .f32⟩
  | .hbm, ⟨3, _⟩ => ⟨S2048x2048, .f32⟩
  | .hbm, ⟨4, _⟩ => ⟨S4352x2048, .f32⟩
  | .hbm, ⟨5, _⟩ => ⟨S4352x2048, .f32⟩
  | .hbm, ⟨6, _⟩ => ⟨S4352x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4352x2048 : Shape := ⟨2, ![4352, 2048]⟩
abbrev S2048x2048 : Shape := ⟨2, ![2048, 2048]⟩
abbrev S1088x2048 : Shape := ⟨2, ![1088, 2048]⟩
abbrev S512x2048 : Shape := ⟨2, ![512, 2048]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S512x2048, .bf16⟩
  | .local _ .vmem, ⟨3, _⟩ => ⟨S512x2048, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel13Ideal.lean ====
abbrev S4352x2048 : Shape := ⟨2, ![4352, 2048]⟩
abbrev S2048x2048 : Shape := ⟨2, ![2048, 2048]⟩
abbrev S1088x2048 : Shape := ⟨2, ![1088, 2048]⟩
abbrev S512x2048 : Shape := ⟨2, ![512, 2048]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S512x2048, .bf16⟩
  | .local _ .vmem, ⟨3, _⟩ => ⟨S512x2048, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4352x2048 : Shape := ⟨2, ![4352, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S_, .f32⟩
  | .hbm, ⟨3, _⟩ => ⟨S4352x2048, .f32⟩
  | .hbm, ⟨4, _⟩ => ⟨S2048x2048, .f32⟩
  | .hbm, ⟨5, _⟩ => ⟨S4352x2048, .f32⟩
  | .hbm, ⟨6, _⟩ => ⟨S4352x2048, .f32⟩
  | .hbm, ⟨7, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4352x2048 : Shape := ⟨2, ![4352, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4352x2048, .f32⟩
  | .hbm, ⟨3, _⟩ => ⟨S4352x2048, .f32⟩
  | .hbm, ⟨4, _⟩ => ⟨S4352x2048, .f32⟩
  | .hbm, ⟨5, _⟩ => ⟨S4352x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S4352x2048 : Shape := ⟨2, ![4352, 2048]⟩
abbrev S1x2048 : Shape := ⟨2, ![1, 2048]⟩
abbrev S_ : Shape := ⟨0, ![]⟩
abbrev S4352 : Shape := ⟨1, ![4352]⟩
abbrev S4352x1 : Shape := ⟨2, ![4352, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4352x2048, .f32⟩
  | .hbm, ⟨3, _⟩ => ⟨S4352x2048, .f32⟩
  | .hbm, ⟨4, _⟩ => ⟨S4352x2048, .f32⟩
  | .hbm, ⟨5, _⟩ => ⟨S_, .f32⟩
  | .hbm, ⟨6, _⟩ => ⟨S4352, .f32⟩
  | .hbm, ⟨7, _⟩ => ⟨S4352x1, .f32⟩
  | .hbm, ⟨8, _⟩ => ⟨S_, .f32⟩
  | .hbm, ⟨9, _⟩ => ⟨S4352x1, .f32⟩
  | .hbm, ⟨10, _⟩ => ⟨S4352x1, .f32⟩
  | .hbm, ⟨11, _⟩ => ⟨S_, .f32⟩
  | .hbm, ⟨12, _⟩ => ⟨S4352x1, .f32⟩
  | .hbm, ⟨13, _⟩ => ⟨S4352x1, .f32⟩
  | .hbm, ⟨14, _⟩ => ⟨S4352x1, .f32⟩
  | .hbm, ⟨15, _⟩ => ⟨S4352x1, .f32⟩
  | .hbm, ⟨16, _⟩ => ⟨S_, .f32⟩
  | .hbm, ⟨17, _⟩ => ⟨S4352x1, .f32⟩
  | .hbm, ⟨18, _⟩ => ⟨S4352x1, .f32⟩
  | .hbm, ⟨19, _⟩ => ⟨S4352x2048, .f32⟩
  | .hbm, ⟨20, _⟩ => ⟨S4352x2048, .f32⟩
  | .hbm, ⟨21, _⟩ => ⟨S4352x2048, .f32⟩
  | .hbm, ⟨22, _⟩ => ⟨S4352x2048, .f32⟩
  | .hbm, ⟨23, _⟩ => ⟨S4352x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4352x2048, .f32⟩
  | .hbm, ⟨28, _⟩ => ⟨S4352x2048, .f32⟩
  | .hbm, ⟨29, _⟩ => ⟨S4352x2048, .f32⟩
  | .hbm, ⟨30, _⟩ => ⟨S_, .f32⟩
  | .hbm, ⟨31, _⟩ => ⟨S4352, .f32⟩
  | .hbm, ⟨32, _⟩ => ⟨S4352x1, .f32⟩
  | .hbm, ⟨33, _⟩ => ⟨S4352x2048, .f32⟩
  | .hbm, ⟨34, _⟩ => ⟨S4352x2048, .f32⟩
  | .hbm, ⟨35, _⟩ => ⟨S4352x1, .f32⟩
  | .hbm, ⟨36, _⟩ => ⟨S_, .f32⟩
  | .hbm, ⟨37, _⟩ => ⟨S4352x1, .f32⟩
  | .hbm, ⟨38, _⟩ => ⟨S4352x1, .f32⟩
  | .hbm, ⟨39, _⟩ => ⟨S_, .f32⟩
  | .hbm, ⟨40, _⟩ => ⟨S4352, .f32⟩
  | .hbm, ⟨41, _⟩ => ⟨S4352x2048, .f32⟩
  | .hbm, ⟨42, _⟩ => ⟨S4352x2048, .f32⟩
  | .hbm, ⟨43, _⟩ => ⟨S4352x2048, .f32⟩
  | .hbm, ⟨44, _⟩ => ⟨S4352x2048, .f32⟩
  | .hbm, ⟨45, _⟩ => ⟨S4352x2048, .f32⟩
  | .hbm, ⟨46, _⟩ => ⟨S4352x2048, .f32⟩
  | .hbm, ⟨47, _⟩ => ⟨S4352x2048, .f32⟩
  | .hbm, ⟨48, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel15.lean ====
abbrev S4352x1024 : Shape := ⟨2, ![4352, 1024]⟩
abbrev S4352x2048 : Shape := ⟨2, ![4352, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S1024x2048, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S1024x1024, .bf16⟩
  | .local _ .vmem, ⟨4, _⟩ => ⟨S1024x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel15Ideal.lean ====
abbrev S4352x1024 : Shape := ⟨2, ![4352, 1024]⟩
abbrev S4352x2048 : Shape := ⟨2, ![4352, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S1024x2048, .bf16⟩
  | .local _ .vmem, ⟨0, _⟩ => ⟨S4352x1024, .bf16⟩
  | .local _ .vmem, ⟨1, _⟩ => ⟨S4352x1024, .bf16⟩
  | .local _ .vmem, ⟨2, _⟩ => ⟨S4352x1024, .bf16⟩
  | .local _ .vmem, ⟨3, _⟩ => ⟨S1024x1024, .bf16⟩
  | .local _ .vmem, ⟨4, _⟩ => ⟨S1024x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4352x1024 : Shape := ⟨2, ![4352, 1024]⟩
abbrev S4352x2048 : Shape := ⟨2, ![4352, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2048, .bf16⟩
  | .hbm, ⟨2, _⟩ => ⟨S_, .f32⟩
  | .hbm, ⟨3, _⟩ => ⟨S1024x2048, .f32⟩
  | .hbm, ⟨4, _⟩ => ⟨S4352x1024, .f32⟩
  | .hbm, ⟨5, _⟩ => ⟨S4352x2048, .f32⟩
  | .hbm, ⟨6, _⟩ => ⟨S4352x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S4352x2048 : Shape := ⟨2, ![4352, 2048]⟩
abbrev S1024x2048 : Shape := ⟨2, ![1024, 2048]⟩
abbrev S4352x1024 : Shape := ⟨2, ![4352, 1024]⟩
abbrev S1088x2048 : Shape := ⟨2, ![1088, 2048]⟩
abbrev S512x2048 : Shape := ⟨2, ![512, 2048]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S1024x2048, .bf16⟩
  | .hbm, ⟨2, _⟩ => ⟨S4352x1024, .f32⟩
  | .local _ .vmem, ⟨0, _⟩ => ⟨S1088x2048, .bf16⟩
  | .local _ .vmem, ⟨1, _⟩ => ⟨S1088x2048, .bf16⟩
  | .local _ .vmem, ⟨2, _⟩ => ⟨S512x2048, .bf16⟩
  | .local _ .vmem, ⟨3, _⟩ => ⟨S512x2048, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel16Ideal.lean ====
abbrev S4352x2048 : Shape := ⟨2, ![4352, 2048]⟩
abbrev S1024x2048 : Shape := ⟨2, ![1024, 2048]⟩
abbrev S4352x1024 : Shape := ⟨2, ![4352, 1024]⟩
abbrev S1088x2048 : Shape := ⟨2, ![1088, 2048]⟩
abbrev S512x2048 : Shape := ⟨2, ![512, 2048]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S1024x2048, .bf16⟩
  | .hbm, ⟨2, _⟩ => ⟨S4352x1024, .f32⟩
  | .local _ .vmem, ⟨0, _⟩ => ⟨S1088x2048, .bf16⟩
  | .local _ .vmem, ⟨1, _⟩ => ⟨S1088x2048, .bf16⟩
  | .local _ .vmem, ⟨2, _⟩ => ⟨S512x2048, .bf16⟩
  | .local _ .vmem, ⟨3, _⟩ => ⟨S512x2048, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4352x2048 : Shape := ⟨2, ![4352, 2048]⟩
abbrev S1024x2048 : Shape := ⟨2, ![1024, 2048]⟩
abbrev S_ : Shape := ⟨0, ![]⟩
abbrev S4352x1024 : Shape := ⟨2, ![4352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S1024x2048, .bf16⟩
  | .hbm, ⟨2, _⟩ => ⟨S_, .f32⟩
  | .hbm, ⟨3, _⟩ => ⟨S4352x1024, .f32⟩
  | .hbm, ⟨4, _⟩ => ⟨S1024x2048, .f32⟩
  | .hbm, ⟨5, _⟩ => ⟨S4352x2048, .f32⟩
  | .hbm, ⟨6, _⟩ => ⟨S4352x2048, .f32⟩
  | .hbm, ⟨7, _⟩ => ⟨S4352x1024, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S4352x1024 : Shape := ⟨2, ![4352, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x1024, .bf16⟩
  | .local _ .vmem, ⟨0, _⟩ => ⟨S4352x1024, .bf16⟩
  | .local _ .vmem, ⟨1, _⟩ => ⟨S4352x1024, .bf16⟩
  | .local _ .vmem, ⟨2, _⟩ => ⟨S1024x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Kernel17Ideal.lean ====
abbrev S4352x1024 : Shape := ⟨2, ![4352, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x1024, .bf16⟩
  | .local _ .vmem, ⟨0, _⟩ => ⟨S4352x1024, .bf16⟩
  | .local _ .vmem, ⟨1, _⟩ => ⟨S4352x1024, .bf16⟩
  | .local _ .vmem, ⟨2, _⟩ => ⟨S1024x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S4352x1024 : Shape := ⟨2, ![4352, 1024]⟩
abbrev S1024x1024 : Shape := ⟨2, ![1024, 1024]⟩
abbrev S1088x1024 : Shape := ⟨2, ![1088, 1024]⟩
abbrev S512x1024 : Shape := ⟨2, ![512, 1024]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S512x1024, .bf16⟩
  | .local _ .vmem, ⟨3, _⟩ => ⟨S512x1024, .bf16⟩
  | .local _ .vmem, ⟨4, _⟩ => ⟨S1088x512, .f32⟩
  | .local _ .vmem, ⟨5, _⟩ => ⟨S1088x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel18Ideal.lean ====
abbrev S4352x1024 : Shape := ⟨2, ![4352, 1024]⟩
abbrev S1024x1024 : Shape := ⟨2, ![1024, 1024]⟩
abbrev S1088x1024 : Shape := ⟨2, ![1088, 1024]⟩
abbrev S512x1024 : Shape := ⟨2, ![512, 1024]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S512x1024, .bf16⟩
  | .local _ .vmem, ⟨3, _⟩ => ⟨S512x1024, .bf16⟩
  | .local _ .vmem, ⟨4, _⟩ => ⟨S1088x512, .f32⟩
  | .local _ .vmem, ⟨5, _⟩ => ⟨S1088x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4352x1024 : Shape := ⟨2, ![4352, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S_, .f32⟩
  | .hbm, ⟨3, _⟩ => ⟨S4352x1024, .f32⟩
  | .hbm, ⟨4, _⟩ => ⟨S1024x1024, .f32⟩
  | .hbm, ⟨5, _⟩ => ⟨S4352x1024, .f32⟩
  | .hbm, ⟨6, _⟩ => ⟨S4352x1024, .f32⟩
  | .hbm, ⟨7, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S4352x2048 : Shape := ⟨2, ![4352, 2048]⟩
abbrev S2048x2048 : Shape := ⟨2, ![2048, 2048]⟩
abbrev S1088x2048 : Shape := ⟨2, ![1088, 2048]⟩
abbrev S2048x512 : Shape := ⟨2, ![2048, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S2048x512, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel19Ideal.lean ====
abbrev S4352x2048 : Shape := ⟨2, ![4352, 2048]⟩
abbrev S2048x2048 : Shape := ⟨2, ![2048, 2048]⟩
abbrev S1088x2048 : Shape := ⟨2, ![1088, 2048]⟩
abbrev S2048x512 : Shape := ⟨2, ![2048, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S2048x512, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4352x2048 : Shape := ⟨2, ![4352, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S2048x2048, .f32⟩
  | .hbm, ⟨3, _⟩ => ⟨S4352x2048, .f32⟩
  | .hbm, ⟨4, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S4352x2048 : Shape := ⟨2, ![4352, 2048]⟩
abbrev S2048x3072 : Shape := ⟨2, ![2048, 3072]⟩
abbrev S4352x3072 : Shape := ⟨2, ![4352, 3072]⟩
abbrev S1088x2048 : Shape := ⟨2, ![1088, 2048]⟩
abbrev S2048x512 : Shape := ⟨2, ![2048, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x3072, .bf16⟩
  | .hbm, ⟨2, _⟩ => ⟨S4352x3072, .f32⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S2048x512, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel20Ideal.lean ====
abbrev S4352x2048 : Shape := ⟨2, ![4352, 2048]⟩
abbrev S2048x3072 : Shape := ⟨2, ![2048, 3072]⟩
abbrev S4352x3072 : Shape := ⟨2, ![4352, 3072]⟩
abbrev S1088x2048 : Shape := ⟨2, ![1088, 2048]⟩
abbrev S2048x512 : Shape := ⟨2, ![2048, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x3072, .bf16⟩
  | .hbm, ⟨2, _⟩ => ⟨S4352x3072, .f32⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S2048x512, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4352x2048 : Shape := ⟨2, ![4352, 2048]⟩
abbrev S2048x3072 : Shape := ⟨2, ![2048, 3072]⟩
abbrev S4352x3072 : Shape := ⟨2, ![4352, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x3072, .bf16⟩
  | .hbm, ⟨2, _⟩ => ⟨S2048x3072, .f32⟩
  | .hbm, ⟨3, _⟩ => ⟨S4352x2048, .f32⟩
  | .hbm, ⟨4, _⟩ => ⟨S4352x3072, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S4352x2048 : Shape := ⟨2, ![4352, 2048]⟩
abbrev S2048x6144 : Shape := ⟨2, ![2048, 6144]⟩
abbrev S4352x6144 : Shape := ⟨2, ![4352, 6144]⟩
abbrev S1088x2048 : Shape := ⟨2, ![1088, 2048]⟩
abbrev S2048x512 : Shape := ⟨2, ![2048, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x6144, .bf16⟩
  | .hbm, ⟨2, _⟩ => ⟨S4352x6144, .f32⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S2048x512, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel21Ideal.lean ====
abbrev S4352x2048 : Shape := ⟨2, ![4352, 2048]⟩
abbrev S2048x6144 : Shape := ⟨2, ![2048, 6144]⟩
abbrev S4352x6144 : Shape := ⟨2, ![4352, 6144]⟩
abbrev S1088x2048 : Shape := ⟨2, ![1088, 2048]⟩
abbrev S2048x512 : Shape := ⟨2, ![2048, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x6144, .bf16⟩
  | .hbm, ⟨2, _⟩ => ⟨S4352x6144, .f32⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S2048x512, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4352x2048 : Shape := ⟨2, ![4352, 2048]⟩
abbrev S2048x6144 : Shape := ⟨2, ![2048, 6144]⟩
abbrev S4352x6144 : Shape := ⟨2, ![4352, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x6144, .bf16⟩
  | .hbm, ⟨2, _⟩ => ⟨S2048x6144, .f32⟩
  | .hbm, ⟨3, _⟩ => ⟨S4352x2048, .f32⟩
  | .hbm, ⟨4, _⟩ => ⟨S4352x6144, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S4352x2048 : Shape := ⟨2, ![4352, 2048]⟩
abbrev S2048x4096 : Shape := ⟨2, ![2048, 4096]⟩
abbrev S4352x4096 : Shape := ⟨2, ![4352, 4096]⟩
abbrev S1088x2048 : Shape := ⟨2, ![1088, 2048]⟩
abbrev S2048x512 : Shape := ⟨2, ![2048, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x4096, .bf16⟩
  | .hbm, ⟨2, _⟩ => ⟨S4352x4096, .f32⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S2048x512, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel22Ideal.lean ====
abbrev S4352x2048 : Shape := ⟨2, ![4352, 2048]⟩
abbrev S2048x4096 : Shape := ⟨2, ![2048, 4096]⟩
abbrev S4352x4096 : Shape := ⟨2, ![4352, 4096]⟩
abbrev S1088x2048 : Shape := ⟨2, ![1088, 2048]⟩
abbrev S2048x512 : Shape := ⟨2, ![2048, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x4096, .bf16⟩
  | .hbm, ⟨2, _⟩ => ⟨S4352x4096, .f32⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S2048x512, .bf16⟩
  | .local _ .vmem, ⟨4, _⟩ => ⟨S1088x512, .f32⟩
  | .local _ .vmem, ⟨5, _⟩ => ⟨S1088x512, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4352x2048 : Shape := ⟨2, ![4352, 2048]⟩
abbrev S2048x4096 : Shape := ⟨2, ![2048, 4096]⟩
abbrev S4352x4096 : Shape := ⟨2, ![4352, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x4096, .bf16⟩
  | .hbm, ⟨2, _⟩ => ⟨S2048x4096, .f32⟩
  | .hbm, ⟨3, _⟩ => ⟨S4352x2048, .f32⟩
  | .hbm, ⟨4, _⟩ => ⟨S4352x4096, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S4352x4096 : Shape := ⟨2, ![4352, 4096]⟩
abbrev S4096x2048 : Shape := ⟨2, ![4096, 2048]⟩
abbrev S4352x2048 : Shape := ⟨2, ![4352, 2048]⟩
abbrev S1088x4096 : Shape := ⟨2, ![1088, 4096]⟩
abbrev S4096x512 : Shape := ⟨2, ![4096, 512]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S4352x4096, .bf16⟩
  | .hbm, ⟨1, _⟩ => ⟨S4096x2048, .bf16⟩
  | .hbm, ⟨2, _⟩ => ⟨S4352x2048, .f32⟩
  | .hbm, ⟨3, _⟩ => ⟨S4352x2048, .f32⟩
  | .local _ .vmem, ⟨0, _⟩ => ⟨S1088x4096, .bf16⟩
  | .local _ .vmem, ⟨1, _⟩ => ⟨S1088x4096, .bf16⟩
  | .local _ .vmem, ⟨2, _⟩ => ⟨S4096x512, .bf16⟩
  | .local _ .vmem, ⟨3, _⟩ => ⟨S4096x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel23Ideal.lean ====
abbrev S4352x4096 : Shape := ⟨2, ![4352, 4096]⟩
abbrev S4096x2048 : Shape := ⟨2, ![4096, 2048]⟩
abbrev S4352x2048 : Shape := ⟨2, ![4352, 2048]⟩
abbrev S1088x4096 : Shape := ⟨2, ![1088, 4096]⟩
abbrev S4096x512 : Shape := ⟨2, ![4096, 512]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S4352x4096, .bf16⟩
  | .hbm, ⟨1, _⟩ => ⟨S4096x2048, .bf16⟩
  | .hbm, ⟨2, _⟩ => ⟨S4352x2048, .f32⟩
  | .hbm, ⟨3, _⟩ => ⟨S4352x2048, .f32⟩
  | .local _ .vmem, ⟨0, _⟩ => ⟨S1088x4096, .bf16⟩
  | .local _ .vmem, ⟨1, _⟩ => ⟨S1088x4096, .bf16⟩
  | .local _ .vmem, ⟨2, _⟩ => ⟨S4096x512, .bf16⟩
  | .local _ .vmem, ⟨3, _⟩ => ⟨S4096x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S4352x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference23Ideal.lean ====
abbrev S4352x4096 : Shape := ⟨2, ![4352, 4096]⟩
abbrev S4096x2048 : Shape := ⟨2, ![4096, 2048]⟩
abbrev S4352x2048 : Shape := ⟨2, ![4352, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x4096, .bf16⟩
  | .hbm, ⟨1, _⟩ => ⟨S4096x2048, .bf16⟩
  | .hbm, ⟨2, _⟩ => ⟨S4352x2048, .f32⟩
  | .hbm, ⟨3, _⟩ => ⟨S4096x2048, .f32⟩
  | .hbm, ⟨4, _⟩ => ⟨S4352x4096, .f32⟩
  | .hbm, ⟨5, _⟩ => ⟨S4352x2048, .f32⟩
  | .hbm, ⟨6, _⟩ => ⟨S4352x2048, .f32⟩
  | _, _ => ⟨S4352x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel24.lean ====
abbrev S4352x3072 : Shape := ⟨2, ![4352, 3072]⟩
abbrev S3072x2048 : Shape := ⟨2, ![3072, 2048]⟩
abbrev S4352x2048 : Shape := ⟨2, ![4352, 2048]⟩
abbrev S1088x3072 : Shape := ⟨2, ![1088, 3072]⟩
abbrev S3072x512 : Shape := ⟨2, ![3072, 512]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S4352x3072, .bf16⟩
  | .hbm, ⟨1, _⟩ => ⟨S3072x2048, .bf16⟩
  | .hbm, ⟨2, _⟩ => ⟨S4352x2048, .f32⟩
  | .hbm, ⟨3, _⟩ => ⟨S4352x2048, .f32⟩
  | .local _ .vmem, ⟨0, _⟩ => ⟨S1088x3072, .bf16⟩
  | .local _ .vmem, ⟨1, _⟩ => ⟨S1088x3072, .bf16⟩
  | .local _ .vmem, ⟨2, _⟩ => ⟨S3072x512, .bf16⟩
  | .local _ .vmem, ⟨3, _⟩ => ⟨S3072x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel24Ideal.lean ====
abbrev S4352x3072 : Shape := ⟨2, ![4352, 3072]⟩
abbrev S3072x2048 : Shape := ⟨2, ![3072, 2048]⟩
abbrev S4352x2048 : Shape := ⟨2, ![4352, 2048]⟩
abbrev S1088x3072 : Shape := ⟨2, ![1088, 3072]⟩
abbrev S3072x512 : Shape := ⟨2, ![3072, 512]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S4352x3072, .bf16⟩
  | .hbm, ⟨1, _⟩ => ⟨S3072x2048, .bf16⟩
  | .hbm, ⟨2, _⟩ => ⟨S4352x2048, .f32⟩
  | .hbm, ⟨3, _⟩ => ⟨S4352x2048, .f32⟩
  | .local _ .vmem, ⟨0, _⟩ => ⟨S1088x3072, .bf16⟩
  | .local _ .vmem, ⟨1, _⟩ => ⟨S1088x3072, .bf16⟩
  | .local _ .vmem, ⟨2, _⟩ => ⟨S3072x512, .bf16⟩
  | .local _ .vmem, ⟨3, _⟩ => ⟨S3072x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S4352x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference24Ideal.lean ====
abbrev S4352x3072 : Shape := ⟨2, ![4352, 3072]⟩
abbrev S3072x2048 : Shape := ⟨2, ![3072, 2048]⟩
abbrev S4352x2048 : Shape := ⟨2, ![4352, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x3072, .bf16⟩
  | .hbm, ⟨1, _⟩ => ⟨S3072x2048, .bf16⟩
  | .hbm, ⟨2, _⟩ => ⟨S4352x2048, .f32⟩
  | .hbm, ⟨3, _⟩ => ⟨S3072x2048, .f32⟩
  | .hbm, ⟨4, _⟩ => ⟨S4352x3072, .f32⟩
  | .hbm, ⟨5, _⟩ => ⟨S4352x2048, .f32⟩
  | .hbm, ⟨6, _⟩ => ⟨S4352x2048, .f32⟩
  | _, _ => ⟨S4352x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S4352x1024 : Shape := ⟨2, ![4352, 1024]⟩
abbrev S1024x2048 : Shape := ⟨2, ![1024, 2048]⟩
abbrev S4352x2048 : Shape := ⟨2, ![4352, 2048]⟩
abbrev S1088x1024 : Shape := ⟨2, ![1088, 1024]⟩
abbrev S1024x512 : Shape := ⟨2, ![1024, 512]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S4352x1024, .bf16⟩
  | .hbm, ⟨1, _⟩ => ⟨S1024x2048, .bf16⟩
  | .hbm, ⟨2, _⟩ => ⟨S4352x2048, .f32⟩
  | .hbm, ⟨3, _⟩ => ⟨S4352x2048, .f32⟩
  | .local _ .vmem, ⟨0, _⟩ => ⟨S1088x1024, .bf16⟩
  | .local _ .vmem, ⟨1, _⟩ => ⟨S1088x1024, .bf16⟩
  | .local _ .vmem, ⟨2, _⟩ => ⟨S1024x512, .bf16⟩
  | .local _ .vmem, ⟨3, _⟩ => ⟨S1024x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel25Ideal.lean ====
abbrev S4352x1024 : Shape := ⟨2, ![4352, 1024]⟩
abbrev S1024x2048 : Shape := ⟨2, ![1024, 2048]⟩
abbrev S4352x2048 : Shape := ⟨2, ![4352, 2048]⟩
abbrev S1088x1024 : Shape := ⟨2, ![1088, 1024]⟩
abbrev S1024x512 : Shape := ⟨2, ![1024, 512]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S4352x1024, .bf16⟩
  | .hbm, ⟨1, _⟩ => ⟨S1024x2048, .bf16⟩
  | .hbm, ⟨2, _⟩ => ⟨S4352x2048, .f32⟩
  | .hbm, ⟨3, _⟩ => ⟨S4352x2048, .f32⟩
  | .local _ .vmem, ⟨0, _⟩ => ⟨S1088x1024, .bf16⟩
  | .local _ .vmem, ⟨1, _⟩ => ⟨S1088x1024, .bf16⟩
  | .local _ .vmem, ⟨2, _⟩ => ⟨S1024x512, .bf16⟩
  | .local _ .vmem, ⟨3, _⟩ => ⟨S1024x512, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference25Ideal.lean ====
abbrev S4352x1024 : Shape := ⟨2, ![4352, 1024]⟩
abbrev S1024x2048 : Shape := ⟨2, ![1024, 2048]⟩
abbrev S4352x2048 : Shape := ⟨2, ![4352, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x2048, .bf16⟩
  | .hbm, ⟨2, _⟩ => ⟨S4352x2048, .f32⟩
  | .hbm, ⟨3, _⟩ => ⟨S1024x2048, .f32⟩
  | .hbm, ⟨4, _⟩ => ⟨S4352x1024, .f32⟩
  | .hbm, ⟨5, _⟩ => ⟨S4352x2048, .f32⟩
  | .hbm, ⟨6, _⟩ => ⟨S4352x2048, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel26.lean ====
abbrev S4352x1024 : Shape := ⟨2, ![4352, 1024]⟩
abbrev S1024x1024 : Shape := ⟨2, ![1024, 1024]⟩
abbrev S1088x1024 : Shape := ⟨2, ![1088, 1024]⟩
abbrev S1024x512 : Shape := ⟨2, ![1024, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x512, .bf16⟩
  | .local _ .vmem, ⟨3, _⟩ => ⟨S1024x512, .bf16⟩
  | .local _ .vmem, ⟨4, _⟩ => ⟨S1088x512, .f32⟩
  | .local _ .vmem, ⟨5, _⟩ => ⟨S1088x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel26Ideal.lean ====
abbrev S4352x1024 : Shape := ⟨2, ![4352, 1024]⟩
abbrev S1024x1024 : Shape := ⟨2, ![1024, 1024]⟩
abbrev S1088x1024 : Shape := ⟨2, ![1088, 1024]⟩
abbrev S1024x512 : Shape := ⟨2, ![1024, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x512, .bf16⟩
  | .local _ .vmem, ⟨3, _⟩ => ⟨S1024x512, .bf16⟩
  | .local _ .vmem, ⟨4, _⟩ => ⟨S1088x512, .f32⟩
  | .local _ .vmem, ⟨5, _⟩ => ⟨S1088x512, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4352x1024 : Shape := ⟨2, ![4352, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S1024x1024, .f32⟩
  | .hbm, ⟨3, _⟩ => ⟨S4352x1024, .f32⟩
  | .hbm, ⟨4, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel27.lean ====
abbrev S4352x2048 : Shape := ⟨2, ![4352, 2048]⟩
abbrev S2048x128 : Shape := ⟨2, ![2048, 128]⟩
abbrev S4352x128 : Shape := ⟨2, ![4352, 128]⟩
abbrev S1088x2048 : Shape := ⟨2, ![1088, 2048]⟩
abbrev S1088x128 : Shape := ⟨2, ![1088, 128]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S2048x128, .bf16⟩
  | .hbm, ⟨2, _⟩ => ⟨S4352x128, .f32⟩
  | .local _ .vmem, ⟨0, _⟩ => ⟨S1088x2048, .bf16⟩
  | .local _ .vmem, ⟨1, _⟩ => ⟨S1088x2048, .bf16⟩
  | .local _ .vmem, ⟨2, _⟩ => ⟨S2048x128, .bf16⟩
  | .local _ .vmem, ⟨3, _⟩ => ⟨S1088x128, .f32⟩
  | .local _ .vmem, ⟨4, _⟩ => ⟨S1088x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel27Ideal.lean ====
abbrev S4352x2048 : Shape := ⟨2, ![4352, 2048]⟩
abbrev S2048x128 : Shape := ⟨2, ![2048, 128]⟩
abbrev S4352x128 : Shape := ⟨2, ![4352, 128]⟩
abbrev S1088x2048 : Shape := ⟨2, ![1088, 2048]⟩
abbrev S1088x128 : Shape := ⟨2, ![1088, 128]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S2048x128, .bf16⟩
  | .hbm, ⟨2, _⟩ => ⟨S4352x128, .f32⟩
  | .local _ .vmem, ⟨0, _⟩ => ⟨S1088x2048, .bf16⟩
  | .local _ .vmem, ⟨1, _⟩ => ⟨S1088x2048, .bf16⟩
  | .local _ .vmem, ⟨2, _⟩ => ⟨S2048x128, .bf16⟩
  | .local _ .vmem, ⟨3, _⟩ => ⟨S1088x128, .f32⟩
  | .local _ .vmem, ⟨4, _⟩ => ⟨S1088x128, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S4352x2048 : Shape := ⟨2, ![4352, 2048]⟩
abbrev S2048x128 : Shape := ⟨2, ![2048, 128]⟩
abbrev S4352x128 : Shape := ⟨2, ![4352, 128]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x128, .bf16⟩
  | .hbm, ⟨2, _⟩ => ⟨S2048x128, .f32⟩
  | .hbm, ⟨3, _⟩ => ⟨S4352x2048, .f32⟩
  | .hbm, ⟨4, _⟩ => ⟨S4352x128, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel28.lean ====
abbrev S4352x128 : Shape := ⟨2, ![4352, 128]⟩
abbrev S2048x128 : Shape := ⟨2, ![2048, 128]⟩
abbrev S4352x2048 : Shape := ⟨2, ![4352, 2048]⟩
abbrev S1088x128 : Shape := ⟨2, ![1088, 128]⟩
abbrev S512x128 : Shape := ⟨2, ![512, 128]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S4352x128, .bf16⟩
  | .hbm, ⟨1, _⟩ => ⟨S2048x128, .bf16⟩
  | .hbm, ⟨2, _⟩ => ⟨S4352x2048, .f32⟩
  | .hbm, ⟨3, _⟩ => ⟨S4352x2048, .f32⟩
  | .local _ .vmem, ⟨0, _⟩ => ⟨S1088x128, .bf16⟩
  | .local _ .vmem, ⟨1, _⟩ => ⟨S1088x128, .bf16⟩
  | .local _ .vmem, ⟨2, _⟩ => ⟨S512x128, .bf16⟩
  | .local _ .vmem, ⟨3, _⟩ => ⟨S512x128, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S4352x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Kernel28Ideal.lean ====
abbrev S4352x128 : Shape := ⟨2, ![4352, 128]⟩
abbrev S2048x128 : Shape := ⟨2, ![2048, 128]⟩
abbrev S4352x2048 : Shape := ⟨2, ![4352, 2048]⟩
abbrev S1088x128 : Shape := ⟨2, ![1088, 128]⟩
abbrev S512x128 : Shape := ⟨2, ![512, 128]⟩
abbrev S1088x512 : Shape := ⟨2, ![1088, 512]⟩

abbrev nBuf : Space → Nat
  | .hbm => 4
  | .vmem => 8
  | .smem => 0
  | _ => 0

abbrev bufTy : (tb : Table) → Fin (tcTables nBuf tb) → BufTy
  | .hbm, ⟨0, _⟩ => ⟨S4352x128, .bf16⟩
  | .hbm, ⟨1, _⟩ => ⟨S2048x128, .bf16⟩
  | .hbm, ⟨2, _⟩ => ⟨S4352x2048, .f32⟩
  | .hbm, ⟨3, _⟩ => ⟨S4352x2048, .f32⟩
  | .local _ .vmem, ⟨0, _⟩ => ⟨S1088x128, .bf16⟩
  | .local _ .vmem, ⟨1, _⟩ => ⟨S1088x128, .bf16⟩
  | .local _ .vmem, ⟨2, _⟩ => ⟨S512x128, .bf16⟩
  | .local _ .vmem, ⟨3, _⟩ => ⟨S512x128, .bf16⟩
  | .local _ .vmem, ⟨4, _⟩ => ⟨S1088x512, .f32⟩
  | .local _ .vmem, ⟨5, _⟩ => ⟨S1088x512, .f32⟩
  | .local _ .vmem, ⟨6, _⟩ => ⟨S1088x512, .f32⟩
  | .local _ .vmem, ⟨7, _⟩ => ⟨S1088x512, .f32⟩
  | _, _ => ⟨S4352x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1088x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference28Ideal.lean ====
abbrev S4352x128 : Shape := ⟨2, ![4352, 128]⟩
abbrev S2048x128 : Shape := ⟨2, ![2048, 128]⟩
abbrev S4352x2048 : Shape := ⟨2, ![4352, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4352x128, .bf16⟩
  | .hbm, ⟨1, _⟩ => ⟨S2048x128, .bf16⟩
  | .hbm, ⟨2, _⟩ => ⟨S4352x2048, .f32⟩
  | .hbm, ⟨3, _⟩ => ⟨S_, .f32⟩
  | .hbm, ⟨4, _⟩ => ⟨S4352x2048, .f32⟩
  | .hbm, ⟨5, _⟩ => ⟨S2048x128, .f32⟩
  | .hbm, ⟨6, _⟩ => ⟨S4352x128, .f32⟩
  | .hbm, ⟨7, _⟩ => ⟨S4352x128, .f32⟩
  | .hbm, ⟨8, _⟩ => ⟨S4352x2048, .f32⟩
  | .hbm, ⟨9, _⟩ => ⟨S4352x2048, .f32⟩
  | _, _ => ⟨S4352x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel29.lean ====
abbrev S4352x2048 : Shape := ⟨2, ![4352, 2048]⟩
abbrev S4352x128 : Shape := ⟨2, ![4352, 128]⟩
abbrev S2048x128 : Shape := ⟨2, ![2048, 128]⟩
abbrev S4352x1024 : Shape := ⟨2, ![4352, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .bf16⟩
  | .hbm, ⟨1, _⟩ => ⟨S4352x128, .bf16⟩
  | .hbm, ⟨2, _⟩ => ⟨S2048x128, .bf16⟩
  | .local _ .vmem, ⟨0, _⟩ => ⟨S4352x1024, .bf16⟩
  | .local _ .vmem, ⟨1, _⟩ => ⟨S4352x1024, .bf16⟩
  | .local _ .vmem, ⟨2, _⟩ => ⟨S4352x128, .bf16⟩
  | .local _ .vmem, ⟨3, _⟩ => ⟨S1024x128, .bf16⟩
  | .local _ .vmem, ⟨4, _⟩ => ⟨S1024x128, .bf16⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4352x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S4352x2048 : Shape := ⟨2, ![4352, 2048]⟩
abbrev S4352x128 : Shape := ⟨2, ![4352, 128]⟩
abbrev S_ : Shape := ⟨0, ![]⟩
abbrev S2048x128 : Shape := ⟨2, ![2048, 128]⟩
abbrev S128x2048 : Shape := ⟨2, ![128, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S4352x128, .bf16⟩
  | .hbm, ⟨2, _⟩ => ⟨S_, .f32⟩
  | .hbm, ⟨3, _⟩ => ⟨S2048x128, .f32⟩
  | .hbm, ⟨4, _⟩ => ⟨S4352x2048, .f32⟩
  | .hbm, ⟨5, _⟩ => ⟨S4352x128, .f32⟩
  | .hbm, ⟨6, _⟩ => ⟨S4352x128, .f32⟩
  | .hbm, ⟨7, _⟩ => ⟨S128x2048, .f32⟩
  | .hbm, ⟨8, _⟩ => ⟨S2048x128, .f32⟩
  | .hbm, ⟨9, _⟩ => ⟨S2048x128, .bf16⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel30.lean ====
abbrev S4352x2048 : Shape := ⟨2, ![4352, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4352x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference30Ideal.lean ====
abbrev S4352x2048 : Shape := ⟨2, ![4352, 2048]⟩
abbrev S1x2048 : Shape := ⟨2, ![1, 2048]⟩
abbrev S_ : Shape := ⟨0, ![]⟩
abbrev S4352 : Shape := ⟨1, ![4352]⟩
abbrev S4352x1 : Shape := ⟨2, ![4352, 1]⟩

abbrev nBuf : Space → Nat
  | .hbm => 18
  | .vmem => 0
  | .smem => 0
  | _ => 0

abbrev bufTy : (tb : Table) → Fin (tcTables nBuf tb) → BufTy
  | .hbm, ⟨0, _⟩ => ⟨S4352x2048, .f32⟩
  | .hbm, ⟨1, _⟩ => ⟨S1x2048, .f32⟩
  | .hbm, ⟨2, _⟩ => ⟨S4352x2048, .f32⟩
  | .hbm, ⟨3, _⟩ => ⟨S_, .f32⟩
  | .hbm, ⟨4, _⟩ => ⟨S4352, .f32⟩
  | .hbm, ⟨5, _⟩ => ⟨S4352x1, .f32⟩
  | .hbm, ⟨6, _⟩ => ⟨S_, .f32⟩
  | .hbm, ⟨7, _⟩ => ⟨S4352x1, .f32⟩
  | .hbm, ⟨8, _⟩ => ⟨S4352x1, .f32⟩
  | .hbm, ⟨9, _⟩ => ⟨S_, .f32⟩
  | .hbm, ⟨10, _⟩ => ⟨S4352x1, .f32⟩
  | .hbm, ⟨11, _⟩ => ⟨S4352x1, .f32⟩
  | .hbm, ⟨12, _⟩ => ⟨S4352x1, .f32⟩
  | .hbm, ⟨13, _⟩ => ⟨S4352x2048, .f32⟩
  | .hbm, ⟨14, _⟩ => ⟨S4352x2048, .f32⟩
  | .hbm, ⟨15, _⟩ => ⟨S4352x2048, .f32⟩
  | .hbm, ⟨16, _⟩ => ⟨S4352x2048, .f32⟩
  | .hbm, ⟨17, _⟩ => ⟨S4352x2048, .bf16⟩
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Bits.Points.lean ====
/- The two branches of the gradient kernel as closed forms over the grid, and what its two accumulating outputs and its
   scratch hold around a grid point. -/
module

public import proofs.«01_k».proof.Proof.Bits.Chain
public import proofs.«01_k».proof.Proof.Gen.Kernel.Frame
public import Idealize.ShloMosaic.Lib.VecWindow

@[expose] public section

set_option maxRecDepth 16384

noncomputable section

namespace Cert.Bits.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Bits.Chain

variable {F : FTy → Type} [FloatOps F]

local notation "𝕄" => MT nD τ sig Unit (Elt F) ℕ (UR sig nD τ) ℕ

/-- The kernel is at the first grid point: it clears the two accumulating outputs. -/
abbrev first (i : grid0.Coords) : Prop :=
  (Scalar.cmpi .ne (Scalar.extui (Scalar.andi (Scalar.cmpi .eq (BitVec.ofNat 32 (i 0).val) 0#32)
    (Scalar.andi (Scalar.cmpi .eq (BitVec.ofNat 32 (i 1).val) 0#32) (Scalar.cmpi .eq (BitVec.ofNat 32 (i 2).val) 0#32)))) 0#32) = 1#1

/-- The kernel is at a sequence's last chunk, which it visits first: it clears the carried state gradients. -/
abbrev restart (i : grid0.Coords) : Prop := k0_cond2 i = 1#1

theorem first_iff (t : Fin cfg0.N) : first (grid0.coords t) ↔ t.val = 0 := by
  have ht : t.val < 272 := Nat.lt_of_lt_of_eq t.isLt N_0
  have e0 : (grid0.coords t 0).val = t.val / 136 % 2 := Pipeline.Grid.coords_val t 0 (by decide) rfl
  have e1 : (grid0.coords t 1).val = t.val / 8 % 17 := Pipeline.Grid.coords_val t 1 (by decide) rfl
  have e2 : (grid0.coords t 2).val = t.val / 1 % 8 := Pipeline.Grid.coords_val t 2 (by decide) rfl
  have h : first (grid0.coords t) ↔ t.val % 272 = 0 := by
    simp only [first, e0, e1, e2]
    word_cmp
  rw [h, Nat.mod_eq_of_lt ht]

theorem restart_iff (t : Fin cfg0.N) : restart (grid0.coords t) ↔ t.val / 8 % 17 = 0 := by
  have ht : t.val < 272 := Nat.lt_of_lt_of_eq t.isLt N_0
  have e1 : (grid0.coords t 1).val = t.val / 8 % 17 := Pipeline.Grid.coords_val t 1 (by decide) rfl
  simp only [restart, k0_cond2, e1]
  word_cmp

/-- The first grid point restarts the carry too. -/
theorem restart_of_first {t : Fin cfg0.N} (h : first (grid0.coords t)) : restart (grid0.coords t) :=
  (restart_iff t).mpr (by rw [(first_iff t).mp h])

/-- An accumulating output after a point: its head's row put back over what it held. -/
def accPut (i : grid0.Coords) (step : Vec F S1x1x384 .f32 → Vec F S1x1x384 .f32) (x : Vec F S8x1x384 .f32) : Vec F S8x1x384 .f32 :=
  VecWindow.put x (k0_off4 i) S1x1x384.size (step (VecWindow.window x (k0_off4 i) S1x1x384.size (k0_off4_inb i)))

/-- A row put over equal contents gives equal contents. -/
theorem put_congr {x x' : Vec F S8x1x384 .f32} {off : Fin 3 → ℕ} {w w' : Vec F S1x1x384 .f32} (hx : x = x') (hw : w = w') :
    VecWindow.put x off S1x1x384.size w = VecWindow.put x' off S1x1x384.size w' := by rw [hx, hw]

end Cert.Bits.Body

end
-- ==== Proof.Finite.lean ====
/- What the precondition gives: every argument's elements are real numbers. -/
module

public import proofs.«01_k».proof.Defs
public import Idealize.ShloMosaic.PureOps.Reduce

@[expose] public section

set_option maxRecDepth 16384

noncomputable section

namespace Cert.Pre_finite

open Idealize.ShloMosaic

/-- The shape facts the precondition's program states. -/
theorem facts : Facts where
  bcast_S_S4352x3072 := by decide
  reducesTo_S4352x3072_S_d0_1 := by decide
  h_S_ := by decide
  bcast_S_S4352x8 := by decide
  reducesTo_S4352x8_S_d0_1 := by decide
  bcast_S_S1x3072 := by decide
  reducesTo_S1x3072_S_d0_1 := by decide
  bcast_S_S34x8x384x384 := by decide
  reducesTo_S34x8x384x384_S_d0_1_2_3 := by decide
  bcast_S_S34x8x1x384 := by decide
  reducesTo_S34x8x1x384_S_d0_1_2_3 := by decide
  bcast_S_S34x8x1x1 := by decide
  reducesTo_S34x8x1x1_S_d0_1_2_3 := by decide

/-- A conjunction folded over a list is one only if every member is. -/
theorem foldl_and {ι : Type} (p : ι → BitVec 1) : ∀ (l : List ι) (e : BitVec 1),
    l.foldl (fun r i => IntOp.andi r (p i)) e = 1#1 → e = 1#1 ∧ ∀ i ∈ l, p i = 1#1
  | [], e, h => ⟨h, fun i hi => absurd hi (List.not_mem_nil)⟩
  | a :: l, e, h => by
    have ih := foldl_and p l _ (show l.foldl _ (IntOp.andi e (p a)) = 1#1 from h)
    have hs : ∀ x y : BitVec 1, IntOp.andi x y = 1#1 → x = 1#1 ∧ y = 1#1 := by decide
    have h2 := hs _ _ ih.1
    exact ⟨h2.1, fun i hi => by
      rcases List.mem_cons.mp hi with rfl | hi
      · exact h2.2
      · exact ih.2 i hi⟩

/-- An array whose reduced test against infinity is one holds reals. -/
theorem real_of_test {s : Shape} {axes : List (Fin s.rank)} {dims : Fin S_.rank → Fin s.rank} (x : FVec Ideal s .f32) (hb : S_.BroadcastsInDim s dims)
    (hr : s.ReducesTo axes S_) (hu : 0 < S_.numel)
    (h : Host.reduce IntOp.andi (cmpf .olt (Host.absf x) (broadcastInDim s dims hb (constant (F := Ideal) S_ .f32 0x7F800000#32))) (constantI S_ 1 1#1) hr hu = fun _ => 1#1) :
    ∃ r : s.Idx → ℝ, ∀ i, x i = ((r i : ℝ) : EReal) := by
  have key : ∀ i, x i ≠ ⊤ ∧ x i ≠ ⊥ := fun i => by
    have h0 := congrFun h (hr.drop i)
    rw [Host.reduce_eq_foldl] at h0
    have h1 := (foldl_and _ _ _ h0).2 i (List.mem_filter.mpr ⟨List.mem_map.mpr ⟨s.rowMajor i, List.mem_finRange _, Equiv.symm_apply_apply _ _⟩, by simp⟩)
    have h2 : Ideal.cmp .olt (max (x i) (-(x i))) (Ideal.ofBits .f32 0x7F800000#32) = 1#1 := by
      by_contra hc
      exact hc h1
    have ht : Ideal.ofBits .f32 0x7F800000#32 = ⊤ := by simp [Ideal.ofBits, Ideal.ieee]
    rw [ht] at h2
    have h3 : max (x i) (-(x i)) < ⊤ := by
      by_contra hc
      have h5 : Ideal.cmp .olt (max (x i) (-(x i))) ⊤ = 0#1 := by show BitVec.ofBool (decide (max (x i) (-(x i)) < ⊤)) = 0#1; rw [decide_eq_false hc]; rfl
      rw [h5] at h2; exact absurd h2 (by decide)
    have h4 := max_lt_iff.mp h3
    exact ⟨ne_of_lt h4.1, fun hb => by rw [hb] at h4; simp at h4⟩
  exact ⟨fun i => (x i).toReal, fun i => (EReal.coe_toReal (key i).1 (key i).2).symm⟩

theorem and_one (x y : IVec S_ 1) (h : andi x y = fun _ => 1#1) : (x = fun _ => 1#1) ∧ (y = fun _ => 1#1) := by
  have hs : ∀ a b : BitVec 1, IntOp.andi a b = 1#1 → a = 1#1 ∧ b = 1#1 := by decide
  exact ⟨funext fun i => (hs _ _ (congrFun h i)).1, funext fun i => (hs _ _ (congrFun h i)).2⟩

/-- Every argument the precondition holds of has real elements. -/
theorem real [Facts] (x0 : FVec Ideal S4352x3072 .f32) (x1 : FVec Ideal S4352x3072 .f32) (x2 : FVec Ideal S4352x3072 .f32) (x3 : FVec Ideal S4352x8 .f32) (x4 : FVec Ideal S4352x8 .f32) (x5 : FVec Ideal S4352x3072 .f32) (x6 : FVec Ideal S4352x3072 .f32) (x7 : FVec Ideal S1x3072 .f32) (x8 : FVec Ideal S1x3072 .f32) (x9 : FVec Ideal S34x8x384x384 .f32) (x10 : FVec Ideal S34x8x1x384 .f32) (x11 : FVec Ideal S34x8x1x1 .f32) (x12 : FVec Ideal S4352x3072 .f32)
    (h : fn (F := Ideal) x0 x1 x2 x3 x4 x5 x6 x7 x8 x9 x10 x11 x12 = fun _ => 1#1) :
    (∃ r : S4352x3072.Idx → ℝ, ∀ i, x0 i = ((r i : ℝ) : EReal))
    ∧ (∃ r : S4352x3072.Idx → ℝ, ∀ i, x1 i = ((r i : ℝ) : EReal))
    ∧ (∃ r : S4352x3072.Idx → ℝ, ∀ i, x2 i = ((r i : ℝ) : EReal))
    ∧ (∃ r : S4352x8.Idx → ℝ, ∀ i, x3 i = ((r i : ℝ) : EReal))
    ∧ (∃ r : S4352x8.Idx → ℝ, ∀ i, x4 i = ((r i : ℝ) : EReal))
    ∧ (∃ r : S4352x3072.Idx → ℝ, ∀ i, x5 i = ((r i : ℝ) : EReal))
    ∧ (∃ r : S4352x3072.Idx → ℝ, ∀ i, x6 i = ((r i : ℝ) : EReal))
    ∧ (∃ r : S1x3072.Idx → ℝ, ∀ i, x7 i = ((r i : ℝ) : EReal))
    ∧ (∃ r : S1x3072.Idx → ℝ, ∀ i, x8 i = ((r i : ℝ) : EReal))
    ∧ (∃ r : S34x8x384x384.Idx → ℝ, ∀ i, x9 i = ((r i : ℝ) : EReal))
    ∧ (∃ r : S34x8x1x384.Idx → ℝ, ∀ i, x10 i = ((r i : ℝ) : EReal))
    ∧ (∃ r : S34x8x1x1.Idx → ℝ, ∀ i, x11 i = ((r i : ℝ) : EReal))
    ∧ (∃ r : S4352x3072.Idx → ℝ, ∀ i, x12 i = ((r i : ℝ) : EReal)) := by
  unfold fn fn_part1 fn_part2 fn_part3 at h
  dsimp only at h
  obtain ⟨h, h12⟩ := and_one _ _ h
  obtain ⟨h, h11⟩ := and_one _ _ h
  obtain ⟨h, h10⟩ := and_one _ _ h
  obtain ⟨h, h9⟩ := and_one _ _ h
  obtain ⟨h, h8⟩ := and_one _ _ h
  obtain ⟨h, h7⟩ := and_one _ _ h
  obtain ⟨h, h6⟩ := and_one _ _ h
  obtain ⟨h, h5⟩ := and_one _ _ h
  obtain ⟨h, h4⟩ := and_one _ _ h
  obtain ⟨h, h3⟩ := and_one _ _ h
  obtain ⟨h, h2⟩ := and_one _ _ h
  obtain ⟨h, h1⟩ := and_one _ _ h
  exact ⟨real_of_test _ _ _ _ h, real_of_test _ _ _ _ h1, real_of_test _ _ _ _ h2, real_of_test _ _ _ _ h3, real_of_test _ _ _ _ h4, real_of_test _ _ _ _ h5, real_of_test _ _ _ _ h6, real_of_test _ _ _ _ h7, real_of_test _ _ _ _ h8, real_of_test _ _ _ _ h9, real_of_test _ _ _ _ h10, real_of_test _ _ _ _ h11, real_of_test _ _ _ _ h12⟩

end Cert.Pre_finite

end
-- ==== Proof.Chain.lean ====
/- What one grid point of the gradient kernel computes from its thirteen input blocks, read off the kernel body as a
   chain of named values: the forward chunk recomputed (`v24` to `v174`), then its gradient. Nothing here depends on the
   carried state gradients. -/
module

public import proofs.«01_k».proof.Proof.Gen.KernelIdeal.Skeleton

@[expose] public section

noncomputable section

namespace Cert.Chain

open Idealize.ShloMosaic Cert.KernelIdeal Cert.KernelIdeal.Gen

variable {F : FTy → Type} [FloatOps F]

/-- The thirteen input blocks of a grid point. -/
structure Blk (F : FTy → Type) where
  /-- The queries. -/
  q : Vec F S128x384 .f32
  /-- The keys. -/
  k : Vec F S128x384 .f32
  /-- The values. -/
  v : Vec F S128x384 .f32
  /-- The gate pairs, a column each. -/
  col : Vec F S1x128x2 .f32
  /-- The gate pairs, a row each. -/
  row : Vec F S1x1x2x128 .f32
  /-- The convolution output before its silu. -/
  c : Vec F S128x384 .f32
  /-- The output gate before its silu. -/
  z : Vec F S128x384 .f32
  /-- The head norm weight. -/
  nw : Vec F S1x384 .f32
  /-- The skip weight. -/
  sk : Vec F S1x384 .f32
  /-- The matrix state entering the chunk. -/
  cs : Vec F S1x1x384x384 .f32
  /-- The normaliser entering the chunk. -/
  ns : Vec F S1x1x1x384 .f32
  /-- The stabiliser entering the chunk. -/
  m : Vec F S1x1x1x1 .f32
  /-- The cotangent of the mixer output. -/
  dy : Vec F S128x384 .f32

/-- Value `%11` of the body. -/
def v11 (X : Blk F) : FVec F S1x1 .f32 := k0_pay8 X.m
/-- Value `%16` of the body. -/
def v16 (X : Blk F) : FVec F S128x2 .f32 := k0_pay9 X.col
/-- Value `%44` of the body. -/
def v44 (X : Blk F) : FVec F S128x1 .f32 := k0_pay16 (v16 X)
/-- Value `%18` of the body. -/
def v18 (X : Blk F) : FVec F S2x128 .f32 := k0_pay10 X.row
/-- Value `%53` of the body. -/
def v53 (X : Blk F) : FVec F S1x128 .f32 := k0_pay18 (v18 X)
/-- Value `%62` of the body. -/
def v62 (X : Blk F) : FVec F S1x128 .f32 := k0_pay20 (v18 X)
/-- Value `%67` of the body. -/
def v67 (_X : Blk F) : FVec F S128x128 .f32 := k0_pay21 (F := F)
/-- Value `%84` of the body. -/
def v84 (X : Blk F) : FVec F S128x128 .f32 := k0_pay26 (v11 X) (v44 X) (v53 X) (v62 X) (v67 X)
/-- Value `%90` of the body. -/
def v90 (X : Blk F) : FVec F S128x384 .bf16 := k0_pay30 X.k
/-- Value `%94` of the body. -/
def v94 (X : Blk F) : FVec F S128x384 .bf16 := k0_pay34 X.v
/-- Value `%26` of the body. -/
def v26 (X : Blk F) : FVec F S1x384 .f32 := k0_pay12 X.ns
/-- Value `%116` of the body. -/
def v116 (X : Blk F) : FVec F S128x1 .f32 := k0_pay44 (v11 X) X.q X.k (v26 X) (v44 X) (v53 X) (v62 X) (v67 X)
/-- Value `%125` of the body. -/
def v125 (X : Blk F) : FVec F S128x1 .f32 := k0_pay46 (v116 X)
/-- Value `%24` of the body. -/
def v24 (X : Blk F) : FVec F S384x384 .f32 := k0_pay11 X.cs
/-- Value `%101` of the body. -/
def v101 (X : Blk F) : FVec F S128x384 .f32 := k0_pay38 (v11 X) X.q X.k X.v (v24 X) (v44 X) (v53 X) (v62 X) (v67 X)
/-- Value `%161` of the body. -/
def v161 (X : Blk F) : FVec F S128x384 .f32 := k0_pay56 (v101 X) (v116 X)
/-- Value `%164` of the body. -/
def v164 (X : Blk F) : FVec F S128x1 .f32 := k0_pay57 (v101 X) (v116 X)
/-- Value `%172` of the body. -/
def v172 (X : Blk F) : FVec F S128x1 .f32 := k0_pay60 (v164 X) (Scalar.ofBits .f32 0x43C00000#32)
/-- Value `%204` of the body. -/
def v204 (X : Blk F) : FVec F S128x384 .f32 := k0_pay66 X.z X.dy
/-- Value `%253` of the body. -/
def v253 (X : Blk F) : FVec F S128x384 .f32 := k0_pay74 X.nw (v161 X) (v172 X) (v204 X)
/-- Value `%169` of the body. -/
def v169 (X : Blk F) : FVec F S128x1 .f32 := k0_pay59 (v164 X) (Scalar.ofBits .f32 0x43C00000#32)
/-- Value `%255` of the body. -/
def v255 (X : Blk F) : FVec F S128x384 .f32 := k0_pay75 X.nw (v161 X) (v169 X) (v172 X) (v204 X)
/-- Value `%267` of the body. -/
def v267 (X : Blk F) : FVec F S128x384 .f32 := k0_pay76 (v161 X) (v253 X) (v255 X)
/-- Value `%318` of the body. -/
def v318 (X : Blk F) : FVec F S128x384 .f32 := k0_pay90 (v125 X) (v267 X)
/-- Value `%86` of the body. -/
def v86 (X : Blk F) : FVec F S128x1 .f32 := k0_pay27 (v11 X) (v44 X) (v53 X) (v62 X) (v67 X)
/-- Value `%112` of the body. -/
def v112 (X : Blk F) : IVec S128x1 1 := k0_pay42 (v11 X) X.q X.k (v26 X) (v44 X) (v53 X) (v62 X) (v67 X)
/-- Value `%110` of the body. -/
def v110 (X : Blk F) : FVec F S128x1 .f32 := k0_pay41 (v11 X) X.q X.k (v26 X) (v44 X) (v53 X) (v62 X) (v67 X)
/-- Value `%115` of the body. -/
def v115 (X : Blk F) : FVec F S128x1 .f32 := k0_pay43 (v11 X) (v44 X) (v53 X) (v62 X) (v67 X)
/-- Value `%123` of the body. -/
def v123 (X : Blk F) : FVec F S128x1 .f32 := k0_pay45 (v110 X) (v115 X)
/-- Value `%128` of the body. -/
def v128 (X : Blk F) : FVec F S128x1 .f32 := k0_pay47 (v116 X)
/-- Value `%341` of the body. -/
def v341 (X : Blk F) : FVec F S128x384 .f32 := k0_pay94 (v26 X) (v86 X) (v101 X) (v112 X) (v123 X) (v128 X) (v267 X)
/-- Value `%344` of the body. -/
def v344 (X : Blk F) : FVec F S128x128 .f32 := k0_pay95 (v101 X) (v112 X) (v123 X) (v128 X) (v267 X)
/-- Value `%97` of the body. -/
def v97 (X : Blk F) : FVec F S384x384 .bf16 := k0_pay36 (v24 X)
/-- Value `%352` of the body. -/
def v352 (X : Blk F) : FVec F S128x384 .f32 := k0_pay98 (v86 X) (v97 X) (v125 X) (v267 X)
/-- Value `%369` of the body. -/
def v369 (X : Blk F) : FVec F S128x384 .f32 := k0_pay105 (v84 X) (v90 X) (v94 X) (v318 X) (v341 X) (v344 X) (v352 X)
/-- Value `%237` of the body. -/
def v237 (X : Blk F) : FVec F S128x384 .f32 := k0_pay71 X.c X.sk (v204 X)
/-- Value `%203` of the body. -/
def v203 (X : Blk F) : FVec F S128x384 .f32 := k0_pay65 X.c X.nw X.sk (v161 X) (v164 X) (Scalar.ofBits .f32 0x43C00000#32) X.dy
/-- Value `%207` of the body. -/
def v207 (X : Blk F) : FVec F S128x384 .f32 := k0_pay67 X.z
/-- Value `%208` of the body. -/
def v208 (_X : Blk F) : FVec F S128x384 .f32 := k0_pay68 (F := F)
/-- Value `%218` of the body. -/
def v218 (X : Blk F) : FVec F S128x384 .f32 := k0_pay69 X.z (v203 X) (v207 X) (v208 X)
/-- Value `%174` of the body. -/
def v174 (X : Blk F) : FVec F S128x384 .f32 := k0_pay61 (v161 X) (v164 X) (Scalar.ofBits .f32 0x43C00000#32)
/-- Value `%240` of the body. -/
def v240 (X : Blk F) : FVec F S1x384 .f32 := k0_pay72 (v174 X) (v204 X)
/-- Value `%184` of the body. -/
def v184 (X : Blk F) : FVec F S128x384 .f32 := k0_pay62 X.c
/-- Value `%223` of the body. -/
def v223 (X : Blk F) : FVec F S1x384 .f32 := k0_pay70 (v184 X) (v204 X)
/-- Value `%49` of the body. -/
def v49 (_X : Blk F) : FVec F S2x1 .f32 := k0_pay17 (F := F)
/-- Value `%58` of the body. -/
def v58 (_X : Blk F) : FVec F S2x1 .f32 := k0_pay19 (F := F)
/-- Value `%69` of the body. -/
def v69 (X : Blk F) : IVec S128x128 1 := k0_pay22 (v67 X)
/-- Value `%91` of the body. -/
def v91 (X : Blk F) : FVec F S128x128 .f32 := k0_pay31 X.q X.k
/-- Value `%394` of the body. -/
def v394 (X : Blk F) : FVec F S2x128 .f32 := k0_pay107 (v49 X) (v58 X) (v69 X) (v84 X) (v91 X) (v94 X) (v318 X) (v344 X)

/-- The gradient block of the queries. -/
def dq (X : Blk F) : Vec F S128x384 .f32 := v369 X
/-- The gradient block of the convolution output. -/
def dc (X : Blk F) : Vec F S128x384 .f32 := v237 X
/-- The gradient block of the gate, in the narrow type it is stored in. -/
def dz (X : Blk F) : Vec F S128x384 .bf16 := k0_pay112 (v218 X)
/-- The head's row of the norm weight gradient after this chunk, from the row before it. -/
def dnwStep (X : Blk F) (o : Vec F S1x1x384 .f32) : Vec F S1x1x384 .f32 := k0_pay113 (v240 X) o
/-- The head's row of the skip gradient after this chunk, from the row before it. -/
def dskStep (X : Blk F) (o : Vec F S1x1x384 .f32) : Vec F S1x1x384 .f32 := k0_pay1 (v223 X) o
/-- The row-layout gate gradients of this chunk that reach the gates along a row. -/
def drow (X : Blk F) : Vec F S1x1x2x128 .f32 := k0_pay111 (v394 X)

end Cert.Chain

end
-- ==== Proof.Points.lean ====
/- The two branches of the gradient kernel as closed forms over the grid, and what its two accumulating outputs and its
   scratch hold around a grid point. -/
module

public import proofs.«01_k».proof.Proof.Chain
public import proofs.«01_k».proof.Proof.Gen.KernelIdeal.Frame
public import Idealize.ShloMosaic.Lib.VecWindow

@[expose] public section

set_option maxRecDepth 16384

noncomputable section

namespace Cert.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Chain

variable {F : FTy → Type} [FloatOps F]

local notation "𝕄" => MT nD τ sig Unit (Elt F) ℕ (UR sig nD τ) ℕ

/-- The kernel is at the first grid point: it clears the two accumulating outputs. -/
abbrev first (i : grid0.Coords) : Prop :=
  (Scalar.cmpi .ne (Scalar.extui (Scalar.andi (Scalar.cmpi .eq (BitVec.ofNat 32 (i 0).val) 0#32)
    (Scalar.andi (Scalar.cmpi .eq (BitVec.ofNat 32 (i 1).val) 0#32) (Scalar.cmpi .eq (BitVec.ofNat 32 (i 2).val) 0#32)))) 0#32) = 1#1

/-- The kernel is at a sequence's last chunk, which it visits first: it clears the carried state gradients. -/
abbrev restart (i : grid0.Coords) : Prop := k0_cond2 i = 1#1

theorem first_iff (t : Fin cfg0.N) : first (grid0.coords t) ↔ t.val = 0 := by
  have ht : t.val < 272 := Nat.lt_of_lt_of_eq t.isLt N_0
  have e0 : (grid0.coords t 0).val = t.val / 136 % 2 := Pipeline.Grid.coords_val t 0 (by decide) rfl
  have e1 : (grid0.coords t 1).val = t.val / 8 % 17 := Pipeline.Grid.coords_val t 1 (by decide) rfl
  have e2 : (grid0.coords t 2).val = t.val / 1 % 8 := Pipeline.Grid.coords_val t 2 (by decide) rfl
  have h : first (grid0.coords t) ↔ t.val % 272 = 0 := by
    simp only [first, e0, e1, e2]
    word_cmp
  rw [h, Nat.mod_eq_of_lt ht]

theorem restart_iff (t : Fin cfg0.N) : restart (grid0.coords t) ↔ t.val / 8 % 17 = 0 := by
  have ht : t.val < 272 := Nat.lt_of_lt_of_eq t.isLt N_0
  have e1 : (grid0.coords t 1).val = t.val / 8 % 17 := Pipeline.Grid.coords_val t 1 (by decide) rfl
  simp only [restart, k0_cond2, e1]
  word_cmp

/-- The first grid point restarts the carry too. -/
theorem restart_of_first {t : Fin cfg0.N} (h : first (grid0.coords t)) : restart (grid0.coords t) :=
  (restart_iff t).mpr (by rw [(first_iff t).mp h])

/-- An accumulating output after a point: its head's row put back over what it held. -/
def accPut (i : grid0.Coords) (step : Vec F S1x1x384 .f32 → Vec F S1x1x384 .f32) (x : Vec F S8x1x384 .f32) : Vec F S8x1x384 .f32 :=
  VecWindow.put x (k0_off4 i) S1x1x384.size (step (VecWindow.window x (k0_off4 i) S1x1x384.size (k0_off4_inb i)))

/-- A row put over equal contents gives equal contents. -/
theorem put_congr {x x' : Vec F S8x1x384 .f32} {off : Fin 3 → ℕ} {w w' : Vec F S1x1x384 .f32} (hx : x = x') (hw : w = w') :
    VecWindow.put x off S1x1x384.size w = VecWindow.put x' off S1x1x384.size w' := by rw [hx, hw]

end Cert.Body

end
-- ==== Proof.RunC.lean ====
/- The body of the gradient kernel run at a grid point where neither branch is taken. -/
module

public import proofs.«01_k».proof.Proof.Points

@[expose] public section

set_option maxRecDepth 16384

noncomputable section

namespace Cert.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Chain

variable {F : FTy → Type} [FloatOps F]

local notation "𝕄" => MT nD τ sig Unit (Elt F) ℕ (UR sig nD τ) ℕ

set_option maxHeartbeats 4000000 in
/-- The body's triple in this case. -/
theorem run_C (c : Dev nD) (i : grid0.Coords) (arg3 : Memref sig .tc .vmem S128x384 .f32) (harg3 : arg3.IsWhole) (arg4 : Memref sig .tc .vmem S128x384 .f32) (harg4 : arg4.IsWhole) (arg5 : Memref sig .tc .vmem S128x384 .f32) (harg5 : arg5.IsWhole) (arg6 : Memref sig .tc .vmem S1x128x2 .f32) (harg6 : arg6.IsWhole) (arg7 : Memref sig .tc .vmem S1x1x2x128 .f32) (harg7 : arg7.IsWhole) (arg8 : Memref sig .tc .vmem S128x384 .f32) (harg8 : arg8.IsWhole) (arg9 : Memref sig .tc .vmem S128x384 .f32) (harg9 : arg9.IsWhole) (arg10 : Memref sig .tc .vmem S1x384 .f32) (harg10 : arg10.IsWhole) (arg11 : Memref sig .tc .vmem S1x384 .f32) (harg11 : arg11.IsWhole) (arg12 : Memref sig .tc .vmem S1x1x384x384 .f32) (harg12 : arg12.IsWhole) (arg13 : Memref sig .tc .vmem S1x1x1x384 .f32) (harg13 : arg13.IsWhole) (arg14 : Memref sig .tc .vmem S1x1x1x1 .f32) (harg14 : arg14.IsWhole) (arg15 : Memref sig .tc .vmem S128x384 .f32) (harg15 : arg15.IsWhole) (arg16 : Memref sig .tc .vmem S128x384 .f32) (harg16 : arg16.IsWhole) (arg17 : Memref sig .tc .vmem S128x384 .f32) (harg17 : arg17.IsWhole) (arg18 : Memref sig .tc .vmem S128x384 .f32) (harg18 : arg18.IsWhole) (arg19 : Memref sig .tc .vmem S128x384 .f32) (harg19 : arg19.IsWhole) (arg20 : Memref sig .tc .vmem S128x384 .bf16) (harg20 : arg20.IsWhole) (arg21 : Memref sig .tc .vmem S1x128x2 .f32) (harg21 : arg21.IsWhole) (arg22 : Memref sig .tc .vmem S1x1x2x128 .f32) (harg22 : arg22.IsWhole) (arg23 : Memref sig .tc .vmem S8x1x384 .f32) (harg23 : arg23.IsWhole) (arg24 : Memref sig .tc .vmem S8x1x384 .f32) (harg24 : arg24.IsWhole) (arg25 : Memref sig .tc .vmem S8x384x384 .f32) (harg25 : arg25.IsWhole) (arg26 : Memref sig .tc .vmem S8x1x384 .f32) (harg26 : arg26.IsWhole)
    (hc0 : ¬first i) (hc1 : ¬restart i) (X : Blk F) (n s : Vec F S8x1x384 .f32) (E : Set ℕ) (K : PUnit → sProp 𝕄) :
    iprop(owns (c : Thread nD τ) arg3 fullShare X.q ∗ owns (c : Thread nD τ) arg4 fullShare X.k ∗ owns (c : Thread nD τ) arg5 fullShare X.v ∗ owns (c : Thread nD τ) arg6 fullShare X.col ∗ owns (c : Thread nD τ) arg7 fullShare X.row ∗ owns (c : Thread nD τ) arg8 fullShare X.c ∗ owns (c : Thread nD τ) arg9 fullShare X.z ∗ owns (c : Thread nD τ) arg10 fullShare X.nw ∗ owns (c : Thread nD τ) arg11 fullShare X.sk ∗ owns (c : Thread nD τ) arg12 fullShare X.cs ∗ owns (c : Thread nD τ) arg13 fullShare X.ns ∗ owns (c : Thread nD τ) arg14 fullShare X.m ∗ owns (c : Thread nD τ) arg15 fullShare X.dy ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare n ∗ owns (c : Thread nD τ) arg24 fullShare s ∗ (∃ d, owns (c : Thread nD τ) arg25 fullShare d) ∗ (∃ d, owns (c : Thread nD τ) arg26 fullShare d)
        ∗ (iprop(owns (c : Thread nD τ) arg3 fullShare X.q ∗ owns (c : Thread nD τ) arg4 fullShare X.k ∗ owns (c : Thread nD τ) arg5 fullShare X.v ∗ owns (c : Thread nD τ) arg6 fullShare X.col ∗ owns (c : Thread nD τ) arg7 fullShare X.row ∗ owns (c : Thread nD τ) arg8 fullShare X.c ∗ owns (c : Thread nD τ) arg9 fullShare X.z ∗ owns (c : Thread nD τ) arg10 fullShare X.nw ∗ owns (c : Thread nD τ) arg11 fullShare X.sk ∗ owns (c : Thread nD τ) arg12 fullShare X.cs ∗ owns (c : Thread nD τ) arg13 fullShare X.ns ∗ owns (c : Thread nD τ) arg14 fullShare X.m ∗ owns (c : Thread nD τ) arg15 fullShare X.dy ∗ owns (c : Thread nD τ) arg16 fullShare (dq X) ∗ (∃ d, owns (c : Thread nD τ) arg17 fullShare d) ∗ (∃ d, owns (c : Thread nD τ) arg18 fullShare d) ∗ owns (c : Thread nD τ) arg19 fullShare (dc X) ∗ owns (c : Thread nD τ) arg20 fullShare (dz X) ∗ (∃ d, owns (c : Thread nD τ) arg21 fullShare d) ∗ (∃ d, owns (c : Thread nD τ) arg22 fullShare d) ∗ owns (c : Thread nD τ) arg23 fullShare (accPut i (dnwStep X) n) ∗ owns (c : Thread nD τ) arg24 fullShare (accPut i (dskStep X) s) ∗ (∃ d, owns (c : Thread nD τ) arg25 fullShare d) ∗ (∃ d, owns (c : Thread nD τ) arg26 fullShare d)) -∗ K ⟨⟩))
      ⊢ wp frame (wpE (defs₀ (F := F)) Variants.none c none) E (cc0_ml_core_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_ml_core_bwd_eq_skeleton]; unfold cc0_ml_core_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%f23, %hf23, H23⟩, ⟨%f24, %hf24, H24⟩, ⟨%d25, %f25, -, H25⟩, ⟨%d26, %f26, -, H26⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg23.eq_unread hf23; obtain rfl := harg24.eq_unread hf24
  have hX : (⟨View.readAt (Elt F) arg3.view (Rect.unit (s := S128x384) ![0, 0] S128x384.size inb_S128x384_S128x384_0_0).toLoadRect (harg3.unread X.q),
      View.readAt (Elt F) arg4.view (Rect.unit (s := S128x384) ![0, 0] S128x384.size inb_S128x384_S128x384_0_0).toLoadRect (harg4.unread X.k),
      View.readAt (Elt F) arg5.view (Rect.unit (s := S128x384) ![0, 0] S128x384.size inb_S128x384_S128x384_0_0).toLoadRect (harg5.unread X.v),
      View.readAt (Elt F) arg6.view (Rect.unit (s := S1x128x2) ![0, 0, 0] S1x128x2.size inb_S1x128x2_S1x128x2_0_0_0).toLoadRect (harg6.unread X.col),
      View.readAt (Elt F) arg7.view (Rect.unit (s := S1x1x2x128) ![0, 0, 0, 0] S1x1x2x128.size inb_S1x1x2x128_S1x1x2x128_0_0_0_0).toLoadRect (harg7.unread X.row),
      View.readAt (Elt F) arg8.view (Rect.unit (s := S128x384) ![0, 0] S128x384.size inb_S128x384_S128x384_0_0).toLoadRect (harg8.unread X.c),
      View.readAt (Elt F) arg9.view (Rect.unit (s := S128x384) ![0, 0] S128x384.size inb_S128x384_S128x384_0_0).toLoadRect (harg9.unread X.z),
      View.readAt (Elt F) arg10.view (Rect.unit (s := S1x384) ![0, 0] S1x384.size inb_S1x384_S1x384_0_0).toLoadRect (harg10.unread X.nw),
      View.readAt (Elt F) arg11.view (Rect.unit (s := S1x384) ![0, 0] S1x384.size inb_S1x384_S1x384_0_0).toLoadRect (harg11.unread X.sk),
      View.readAt (Elt F) arg12.view (Rect.unit (s := S1x1x384x384) ![0, 0, 0, 0] S1x1x384x384.size inb_S1x1x384x384_S1x1x384x384_0_0_0_0).toLoadRect (harg12.unread X.cs),
      View.readAt (Elt F) arg13.view (Rect.unit (s := S1x1x1x384) ![0, 0, 0, 0] S1x1x1x384.size inb_S1x1x1x384_S1x1x1x384_0_0_0_0).toLoadRect (harg13.unread X.ns),
      View.readAt (Elt F) arg14.view (Rect.unit (s := S1x1x1x1) ![0, 0, 0, 0] S1x1x1x1.size inb_S1x1x1x1_S1x1x1x1_0_0_0_0).toLoadRect (harg14.unread X.m),
      View.readAt (Elt F) arg15.view (Rect.unit (s := S128x384) ![0, 0] S128x384.size inb_S128x384_S128x384_0_0).toLoadRect (harg15.unread X.dy)⟩ : Blk F) = X := by
    rw [View.readAt_full _ _ _, hf3, View.readAt_full _ _ _, hf4, View.readAt_full _ _ _, hf5, View.readAt_full _ _ _, hf6, View.readAt_full _ _ _, hf7, View.readAt_full _ _ _, hf8, View.readAt_full _ _ _, hf9, View.readAt_full _ _ _, hf10, View.readAt_full _ _ _, hf11, View.readAt_full _ _ _, hf12, View.readAt_full _ _ _, hf13, View.readAt_full _ _ _, hf14, View.readAt_full _ _ _, hf15]
  sl_exec (disch := first | sl_exact hc0 | sl_exact hc1)
  sl_step
  iapply Hk
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    · ipureintro; exact harg11.read_unread _
    iexact H11
  isplitl [H12]
  · iexists _; isplitr
    · ipureintro; exact harg12.read_unread _
    iexact H12
  isplitl [H13]
  · iexists _; isplitr
    · ipureintro; exact harg13.read_unread _
    iexact H13
  isplitl [H14]
  · iexists _; isplitr
    · ipureintro; exact harg14.read_unread _
    iexact H14
  isplitl [H15]
  · iexists _; isplitr
    · ipureintro; exact harg15.read_unread _
    iexact H15
  isplitl [H16]
  · iexists _; isplitr
    swap; · iexact H16
    ipureintro
    rw [View.read_writes_full]; exact (show _ = dq _ from by sl_kernel_rfl).trans (congrArg dq hX)
  isplitl [H17]
  · iexists _, _; isplitr
    swap; · iexact H17
    ipureintro; rfl
  isplitl [H18]
  · iexists _, _; isplitr
    swap; · iexact H18
    ipureintro; rfl
  isplitl [H19]
  · iexists _; isplitr
    swap; · iexact H19
    ipureintro
    rw [View.read_writes_full]; exact (show _ = dc _ from by sl_kernel_rfl).trans (congrArg dc hX)
  isplitl [H20]
  · iexists _; isplitr
    swap; · iexact H20
    ipureintro
    rw [View.read_writes_full]; exact (show _ = dz _ from by sl_kernel_rfl).trans (congrArg dz hX)
  isplitl [H21]
  · iexists _, _; isplitr
    swap; · iexact H21
    ipureintro; rfl
  isplitl [H22]
  · iexists _, _; isplitr
    swap; · iexact H22
    ipureintro; rfl
  isplitl [H23]
  · iexists _; isplitr
    swap; · iexact H23
    ipureintro
    rw [View.read_writes_cons_put _ _ _ _ _ rfl]; unfold accPut
    refine put_congr hf23 ?_
    rw [View.readAt_unit _ _ _ rfl (k0_off4_inb i), hf23]
    exact (show _ = dnwStep _ _ from by sl_kernel_rfl).trans (congrArg (dnwStep · _) hX)
  isplitl [H24]
  · iexists _; isplitr
    swap; · iexact H24
    ipureintro
    rw [View.read_writes_cons_put _ _ _ _ _ rfl]; unfold accPut
    refine put_congr hf24 ?_
    rw [View.readAt_unit _ _ _ rfl (k0_off4_inb i), hf24]
    exact (show _ = dskStep _ _ from by sl_kernel_rfl).trans (congrArg (dskStep · _) hX)
  isplitl [H25]
  · iexists _, _; isplitr
    swap; · iexact H25
    ipureintro; rfl
  iexists _, _; isplitr
  swap; · iexact H26
  ipureintro; rfl

end Cert.Body

end
-- ==== Proof.RunA.lean ====
/- The body of the gradient kernel run at the first grid point: accumulators and carried state gradients are cleared. -/
module

public import proofs.«01_k».proof.Proof.RunC

@[expose] public section

set_option maxRecDepth 16384

noncomputable section

namespace Cert.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Chain

variable {F : FTy → Type} [FloatOps F]

local notation "𝕄" => MT nD τ sig Unit (Elt F) ℕ (UR sig nD τ) ℕ

set_option maxHeartbeats 4000000 in
/-- The body's triple in this case. -/
theorem run_A (c : Dev nD) (i : grid0.Coords) (arg3 : Memref sig .tc .vmem S128x384 .f32) (harg3 : arg3.IsWhole) (arg4 : Memref sig .tc .vmem S128x384 .f32) (harg4 : arg4.IsWhole) (arg5 : Memref sig .tc .vmem S128x384 .f32) (harg5 : arg5.IsWhole) (arg6 : Memref sig .tc .vmem S1x128x2 .f32) (harg6 : arg6.IsWhole) (arg7 : Memref sig .tc .vmem S1x1x2x128 .f32) (harg7 : arg7.IsWhole) (arg8 : Memref sig .tc .vmem S128x384 .f32) (harg8 : arg8.IsWhole) (arg9 : Memref sig .tc .vmem S128x384 .f32) (harg9 : arg9.IsWhole) (arg10 : Memref sig .tc .vmem S1x384 .f32) (harg10 : arg10.IsWhole) (arg11 : Memref sig .tc .vmem S1x384 .f32) (harg11 : arg11.IsWhole) (arg12 : Memref sig .tc .vmem S1x1x384x384 .f32) (harg12 : arg12.IsWhole) (arg13 : Memref sig .tc .vmem S1x1x1x384 .f32) (harg13 : arg13.IsWhole) (arg14 : Memref sig .tc .vmem S1x1x1x1 .f32) (harg14 : arg14.IsWhole) (arg15 : Memref sig .tc .vmem S128x384 .f32) (harg15 : arg15.IsWhole) (arg16 : Memref sig .tc .vmem S128x384 .f32) (harg16 : arg16.IsWhole) (arg17 : Memref sig .tc .vmem S128x384 .f32) (harg17 : arg17.IsWhole) (arg18 : Memref sig .tc .vmem S128x384 .f32) (harg18 : arg18.IsWhole) (arg19 : Memref sig .tc .vmem S128x384 .f32) (harg19 : arg19.IsWhole) (arg20 : Memref sig .tc .vmem S128x384 .bf16) (harg20 : arg20.IsWhole) (arg21 : Memref sig .tc .vmem S1x128x2 .f32) (harg21 : arg21.IsWhole) (arg22 : Memref sig .tc .vmem S1x1x2x128 .f32) (harg22 : arg22.IsWhole) (arg23 : Memref sig .tc .vmem S8x1x384 .f32) (harg23 : arg23.IsWhole) (arg24 : Memref sig .tc .vmem S8x1x384 .f32) (harg24 : arg24.IsWhole) (arg25 : Memref sig .tc .vmem S8x384x384 .f32) (harg25 : arg25.IsWhole) (arg26 : Memref sig .tc .vmem S8x1x384 .f32) (harg26 : arg26.IsWhole)
    (hc0 : first i) (hc1 : restart i) (X : Blk F) (E : Set ℕ) (K : PUnit → sProp 𝕄) :
    iprop(owns (c : Thread nD τ) arg3 fullShare X.q ∗ owns (c : Thread nD τ) arg4 fullShare X.k ∗ owns (c : Thread nD τ) arg5 fullShare X.v ∗ owns (c : Thread nD τ) arg6 fullShare X.col ∗ owns (c : Thread nD τ) arg7 fullShare X.row ∗ owns (c : Thread nD τ) arg8 fullShare X.c ∗ owns (c : Thread nD τ) arg9 fullShare X.z ∗ owns (c : Thread nD τ) arg10 fullShare X.nw ∗ owns (c : Thread nD τ) arg11 fullShare X.sk ∗ owns (c : Thread nD τ) arg12 fullShare X.cs ∗ owns (c : Thread nD τ) arg13 fullShare X.ns ∗ owns (c : Thread nD τ) arg14 fullShare X.m ∗ owns (c : Thread nD τ) arg15 fullShare X.dy ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg3 fullShare X.q ∗ owns (c : Thread nD τ) arg4 fullShare X.k ∗ owns (c : Thread nD τ) arg5 fullShare X.v ∗ owns (c : Thread nD τ) arg6 fullShare X.col ∗ owns (c : Thread nD τ) arg7 fullShare X.row ∗ owns (c : Thread nD τ) arg8 fullShare X.c ∗ owns (c : Thread nD τ) arg9 fullShare X.z ∗ owns (c : Thread nD τ) arg10 fullShare X.nw ∗ owns (c : Thread nD τ) arg11 fullShare X.sk ∗ owns (c : Thread nD τ) arg12 fullShare X.cs ∗ owns (c : Thread nD τ) arg13 fullShare X.ns ∗ owns (c : Thread nD τ) arg14 fullShare X.m ∗ owns (c : Thread nD τ) arg15 fullShare X.dy ∗ owns (c : Thread nD τ) arg16 fullShare (dq X) ∗ (∃ d, owns (c : Thread nD τ) arg17 fullShare d) ∗ (∃ d, owns (c : Thread nD τ) arg18 fullShare d) ∗ owns (c : Thread nD τ) arg19 fullShare (dc X) ∗ owns (c : Thread nD τ) arg20 fullShare (dz X) ∗ (∃ d, owns (c : Thread nD τ) arg21 fullShare d) ∗ (∃ d, owns (c : Thread nD τ) arg22 fullShare d) ∗ owns (c : Thread nD τ) arg23 fullShare (accPut i (dnwStep X) (k0_pay4 (F := F))) ∗ owns (c : Thread nD τ) arg24 fullShare (accPut i (dskStep X) (k0_pay5 (F := F))) ∗ (∃ d, owns (c : Thread nD τ) arg25 fullShare d) ∗ (∃ d, owns (c : Thread nD τ) arg26 fullShare d)) -∗ K ⟨⟩))
      ⊢ wp frame (wpE (defs₀ (F := F)) Variants.none c none) E (cc0_ml_core_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_ml_core_bwd_eq_skeleton]; unfold cc0_ml_core_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15
  have hX : (⟨View.readAt (Elt F) arg3.view (Rect.unit (s := S128x384) ![0, 0] S128x384.size inb_S128x384_S128x384_0_0).toLoadRect (harg3.unread X.q),
      View.readAt (Elt F) arg4.view (Rect.unit (s := S128x384) ![0, 0] S128x384.size inb_S128x384_S128x384_0_0).toLoadRect (harg4.unread X.k),
      View.readAt (Elt F) arg5.view (Rect.unit (s := S128x384) ![0, 0] S128x384.size inb_S128x384_S128x384_0_0).toLoadRect (harg5.unread X.v),
      View.readAt (Elt F) arg6.view (Rect.unit (s := S1x128x2) ![0, 0, 0] S1x128x2.size inb_S1x128x2_S1x128x2_0_0_0).toLoadRect (harg6.unread X.col),
      View.readAt (Elt F) arg7.view (Rect.unit (s := S1x1x2x128) ![0, 0, 0, 0] S1x1x2x128.size inb_S1x1x2x128_S1x1x2x128_0_0_0_0).toLoadRect (harg7.unread X.row),
      View.readAt (Elt F) arg8.view (Rect.unit (s := S128x384) ![0, 0] S128x384.size inb_S128x384_S128x384_0_0).toLoadRect (harg8.unread X.c),
      View.readAt (Elt F) arg9.view (Rect.unit (s := S128x384) ![0, 0] S128x384.size inb_S128x384_S128x384_0_0).toLoadRect (harg9.unread X.z),
      View.readAt (Elt F) arg10.view (Rect.unit (s := S1x384) ![0, 0] S1x384.size inb_S1x384_S1x384_0_0).toLoadRect (harg10.unread X.nw),
      View.readAt (Elt F) arg11.view (Rect.unit (s := S1x384) ![0, 0] S1x384.size inb_S1x384_S1x384_0_0).toLoadRect (harg11.unread X.sk),
      View.readAt (Elt F) arg12.view (Rect.unit (s := S1x1x384x384) ![0, 0, 0, 0] S1x1x384x384.size inb_S1x1x384x384_S1x1x384x384_0_0_0_0).toLoadRect (harg12.unread X.cs),
      View.readAt (Elt F) arg13.view (Rect.unit (s := S1x1x1x384) ![0, 0, 0, 0] S1x1x1x384.size inb_S1x1x1x384_S1x1x1x384_0_0_0_0).toLoadRect (harg13.unread X.ns),
      View.readAt (Elt F) arg14.view (Rect.unit (s := S1x1x1x1) ![0, 0, 0, 0] S1x1x1x1.size inb_S1x1x1x1_S1x1x1x1_0_0_0_0).toLoadRect (harg14.unread X.m),
      View.readAt (Elt F) arg15.view (Rect.unit (s := S128x384) ![0, 0] S128x384.size inb_S128x384_S128x384_0_0).toLoadRect (harg15.unread X.dy)⟩ : Blk F) = X := by
    rw [View.readAt_full _ _ _, hf3, View.readAt_full _ _ _, hf4, View.readAt_full _ _ _, hf5, View.readAt_full _ _ _, hf6, View.readAt_full _ _ _, hf7, View.readAt_full _ _ _, hf8, View.readAt_full _ _ _, hf9, View.readAt_full _ _ _, hf10, View.readAt_full _ _ _, hf11, View.readAt_full _ _ _, hf12, View.readAt_full _ _ _, hf13, View.readAt_full _ _ _, hf14, View.readAt_full _ _ _, hf15]
  sl_exec (disch := first | sl_exact hc0 | sl_exact hc1)
  sl_step
  iapply Hk
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    · ipureintro; exact harg11.read_unread _
    iexact H11
  isplitl [H12]
  · iexists _; isplitr
    · ipureintro; exact harg12.read_unread _
    iexact H12
  isplitl [H13]
  · iexists _; isplitr
    · ipureintro; exact harg13.read_unread _
    iexact H13
  isplitl [H14]
  · iexists _; isplitr
    · ipureintro; exact harg14.read_unread _
    iexact H14
  isplitl [H15]
  · iexists _; isplitr
    · ipureintro; exact harg15.read_unread _
    iexact H15
  isplitl [H16]
  · iexists _; isplitr
    swap; · iexact H16
    ipureintro
    rw [View.read_writes_full]; exact (show _ = dq _ from by sl_kernel_rfl).trans (congrArg dq hX)
  isplitl [H17]
  · iexists _, _; isplitr
    swap; · iexact H17
    ipureintro; rfl
  isplitl [H18]
  · iexists _, _; isplitr
    swap; · iexact H18
    ipureintro; rfl
  isplitl [H19]
  · iexists _; isplitr
    swap; · iexact H19
    ipureintro
    rw [View.read_writes_full]; exact (show _ = dc _ from by sl_kernel_rfl).trans (congrArg dc hX)
  isplitl [H20]
  · iexists _; isplitr
    swap; · iexact H20
    ipureintro
    rw [View.read_writes_full]; exact (show _ = dz _ from by sl_kernel_rfl).trans (congrArg dz hX)
  isplitl [H21]
  · iexists _, _; isplitr
    swap; · iexact H21
    ipureintro; rfl
  isplitl [H22]
  · iexists _, _; isplitr
    swap; · iexact H22
    ipureintro; rfl
  isplitl [H23]
  · iexists _; isplitr
    swap; · iexact H23
    ipureintro
    have hc : arg23.view.readCov (Val := Elt F) [⟨Rect.unit (s := S8x1x384) ![0, 0, 0] S8x1x384.size inb_S8x1x384_S8x1x384_0_0_0, (k0_pay4 (F := F))⟩]
        (Rect.unit (s := S8x1x384) (k0_off4 i) S1x1x384.size (k0_off4_inb i)).toLoadRect
          = VecWindow.window (k0_pay4 (F := F)) (k0_off4 i) S1x1x384.size (k0_off4_inb i) := by
      unfold View.readCov; rw [View.readAt_unit _ _ _ rfl (k0_off4_inb i), View.read_writes_full]
    rw [View.read_writes_cons_put _ _ _ _ _ rfl]; unfold accPut
    refine put_congr (View.read_writes_full _ _ _ _ _) ?_
    exact (show _ = dnwStep _ _ from by sl_kernel_rfl).trans (congrArg₂ dnwStep hX hc)
  isplitl [H24]
  · iexists _; isplitr
    swap; · iexact H24
    ipureintro
    have hc : arg24.view.readCov (Val := Elt F) [⟨Rect.unit (s := S8x1x384) ![0, 0, 0] S8x1x384.size inb_S8x1x384_S8x1x384_0_0_0, (k0_pay5 (F := F))⟩]
        (Rect.unit (s := S8x1x384) (k0_off4 i) S1x1x384.size (k0_off4_inb i)).toLoadRect
          = VecWindow.window (k0_pay5 (F := F)) (k0_off4 i) S1x1x384.size (k0_off4_inb i) := by
      unfold View.readCov; rw [View.readAt_unit _ _ _ rfl (k0_off4_inb i), View.read_writes_full]
    rw [View.read_writes_cons_put _ _ _ _ _ rfl]; unfold accPut
    refine put_congr (View.read_writes_full _ _ _ _ _) ?_
    exact (show _ = dskStep _ _ from by sl_kernel_rfl).trans (congrArg₂ dskStep hX hc)
  isplitl [H25]
  · iexists _, _; isplitr
    swap; · iexact H25
    ipureintro; rfl
  iexists _, _; isplitr
  swap; · iexact H26
  ipureintro; rfl

end Cert.Body

end
-- ==== Proof.RunB.lean ====
/- The body of the gradient kernel run at a grid point of a last chunk other than the first point: the carried state gradients are cleared. -/
module

public import proofs.«01_k».proof.Proof.RunC

@[expose] public section

set_option maxRecDepth 16384

noncomputable section

namespace Cert.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Chain

variable {F : FTy → Type} [FloatOps F]

local notation "𝕄" => MT nD τ sig Unit (Elt F) ℕ (UR sig nD τ) ℕ

set_option maxHeartbeats 4000000 in
/-- The body's triple in this case. -/
theorem run_B (c : Dev nD) (i : grid0.Coords) (arg3 : Memref sig .tc .vmem S128x384 .f32) (harg3 : arg3.IsWhole) (arg4 : Memref sig .tc .vmem S128x384 .f32) (harg4 : arg4.IsWhole) (arg5 : Memref sig .tc .vmem S128x384 .f32) (harg5 : arg5.IsWhole) (arg6 : Memref sig .tc .vmem S1x128x2 .f32) (harg6 : arg6.IsWhole) (arg7 : Memref sig .tc .vmem S1x1x2x128 .f32) (harg7 : arg7.IsWhole) (arg8 : Memref sig .tc .vmem S128x384 .f32) (harg8 : arg8.IsWhole) (arg9 : Memref sig .tc .vmem S128x384 .f32) (harg9 : arg9.IsWhole) (arg10 : Memref sig .tc .vmem S1x384 .f32) (harg10 : arg10.IsWhole) (arg11 : Memref sig .tc .vmem S1x384 .f32) (harg11 : arg11.IsWhole) (arg12 : Memref sig .tc .vmem S1x1x384x384 .f32) (harg12 : arg12.IsWhole) (arg13 : Memref sig .tc .vmem S1x1x1x384 .f32) (harg13 : arg13.IsWhole) (arg14 : Memref sig .tc .vmem S1x1x1x1 .f32) (harg14 : arg14.IsWhole) (arg15 : Memref sig .tc .vmem S128x384 .f32) (harg15 : arg15.IsWhole) (arg16 : Memref sig .tc .vmem S128x384 .f32) (harg16 : arg16.IsWhole) (arg17 : Memref sig .tc .vmem S128x384 .f32) (harg17 : arg17.IsWhole) (arg18 : Memref sig .tc .vmem S128x384 .f32) (harg18 : arg18.IsWhole) (arg19 : Memref sig .tc .vmem S128x384 .f32) (harg19 : arg19.IsWhole) (arg20 : Memref sig .tc .vmem S128x384 .bf16) (harg20 : arg20.IsWhole) (arg21 : Memref sig .tc .vmem S1x128x2 .f32) (harg21 : arg21.IsWhole) (arg22 : Memref sig .tc .vmem S1x1x2x128 .f32) (harg22 : arg22.IsWhole) (arg23 : Memref sig .tc .vmem S8x1x384 .f32) (harg23 : arg23.IsWhole) (arg24 : Memref sig .tc .vmem S8x1x384 .f32) (harg24 : arg24.IsWhole) (arg25 : Memref sig .tc .vmem S8x384x384 .f32) (harg25 : arg25.IsWhole) (arg26 : Memref sig .tc .vmem S8x1x384 .f32) (harg26 : arg26.IsWhole)
    (hc0 : ¬first i) (hc1 : restart i) (X : Blk F) (n s : Vec F S8x1x384 .f32) (E : Set ℕ) (K : PUnit → sProp 𝕄) :
    iprop(owns (c : Thread nD τ) arg3 fullShare X.q ∗ owns (c : Thread nD τ) arg4 fullShare X.k ∗ owns (c : Thread nD τ) arg5 fullShare X.v ∗ owns (c : Thread nD τ) arg6 fullShare X.col ∗ owns (c : Thread nD τ) arg7 fullShare X.row ∗ owns (c : Thread nD τ) arg8 fullShare X.c ∗ owns (c : Thread nD τ) arg9 fullShare X.z ∗ owns (c : Thread nD τ) arg10 fullShare X.nw ∗ owns (c : Thread nD τ) arg11 fullShare X.sk ∗ owns (c : Thread nD τ) arg12 fullShare X.cs ∗ owns (c : Thread nD τ) arg13 fullShare X.ns ∗ owns (c : Thread nD τ) arg14 fullShare X.m ∗ owns (c : Thread nD τ) arg15 fullShare X.dy ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare n ∗ owns (c : Thread nD τ) arg24 fullShare s ∗ (∃ d, owns (c : Thread nD τ) arg25 fullShare d) ∗ (∃ d, owns (c : Thread nD τ) arg26 fullShare d)
        ∗ (iprop(owns (c : Thread nD τ) arg3 fullShare X.q ∗ owns (c : Thread nD τ) arg4 fullShare X.k ∗ owns (c : Thread nD τ) arg5 fullShare X.v ∗ owns (c : Thread nD τ) arg6 fullShare X.col ∗ owns (c : Thread nD τ) arg7 fullShare X.row ∗ owns (c : Thread nD τ) arg8 fullShare X.c ∗ owns (c : Thread nD τ) arg9 fullShare X.z ∗ owns (c : Thread nD τ) arg10 fullShare X.nw ∗ owns (c : Thread nD τ) arg11 fullShare X.sk ∗ owns (c : Thread nD τ) arg12 fullShare X.cs ∗ owns (c : Thread nD τ) arg13 fullShare X.ns ∗ owns (c : Thread nD τ) arg14 fullShare X.m ∗ owns (c : Thread nD τ) arg15 fullShare X.dy ∗ owns (c : Thread nD τ) arg16 fullShare (dq X) ∗ (∃ d, owns (c : Thread nD τ) arg17 fullShare d) ∗ (∃ d, owns (c : Thread nD τ) arg18 fullShare d) ∗ owns (c : Thread nD τ) arg19 fullShare (dc X) ∗ owns (c : Thread nD τ) arg20 fullShare (dz X) ∗ (∃ d, owns (c : Thread nD τ) arg21 fullShare d) ∗ (∃ d, owns (c : Thread nD τ) arg22 fullShare d) ∗ owns (c : Thread nD τ) arg23 fullShare (accPut i (dnwStep X) n) ∗ owns (c : Thread nD τ) arg24 fullShare (accPut i (dskStep X) s) ∗ (∃ d, owns (c : Thread nD τ) arg25 fullShare d) ∗ (∃ d, owns (c : Thread nD τ) arg26 fullShare d)) -∗ K ⟨⟩))
      ⊢ wp frame (wpE (defs₀ (F := F)) Variants.none c none) E (cc0_ml_core_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_ml_core_bwd_eq_skeleton]; unfold cc0_ml_core_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%f23, %hf23, H23⟩, ⟨%f24, %hf24, H24⟩, ⟨%d25, %f25, -, H25⟩, ⟨%d26, %f26, -, H26⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg23.eq_unread hf23; obtain rfl := harg24.eq_unread hf24
  have hX : (⟨View.readAt (Elt F) arg3.view (Rect.unit (s := S128x384) ![0, 0] S128x384.size inb_S128x384_S128x384_0_0).toLoadRect (harg3.unread X.q),
      View.readAt (Elt F) arg4.view (Rect.unit (s := S128x384) ![0, 0] S128x384.size inb_S128x384_S128x384_0_0).toLoadRect (harg4.unread X.k),
      View.readAt (Elt F) arg5.view (Rect.unit (s := S128x384) ![0, 0] S128x384.size inb_S128x384_S128x384_0_0).toLoadRect (harg5.unread X.v),
      View.readAt (Elt F) arg6.view (Rect.unit (s := S1x128x2) ![0, 0, 0] S1x128x2.size inb_S1x128x2_S1x128x2_0_0_0).toLoadRect (harg6.unread X.col),
      View.readAt (Elt F) arg7.view (Rect.unit (s := S1x1x2x128) ![0, 0, 0, 0] S1x1x2x128.size inb_S1x1x2x128_S1x1x2x128_0_0_0_0).toLoadRect (harg7.unread X.row),
      View.readAt (Elt F) arg8.view (Rect.unit (s := S128x384) ![0, 0] S128x384.size inb_S128x384_S128x384_0_0).toLoadRect (harg8.unread X.c),
      View.readAt (Elt F) arg9.view (Rect.unit (s := S128x384) ![0, 0] S128x384.size inb_S128x384_S128x384_0_0).toLoadRect (harg9.unread X.z),
      View.readAt (Elt F) arg10.view (Rect.unit (s := S1x384) ![0, 0] S1x384.size inb_S1x384_S1x384_0_0).toLoadRect (harg10.unread X.nw),
      View.readAt (Elt F) arg11.view (Rect.unit (s := S1x384) ![0, 0] S1x384.size inb_S1x384_S1x384_0_0).toLoadRect (harg11.unread X.sk),
      View.readAt (Elt F) arg12.view (Rect.unit (s := S1x1x384x384) ![0, 0, 0, 0] S1x1x384x384.size inb_S1x1x384x384_S1x1x384x384_0_0_0_0).toLoadRect (harg12.unread X.cs),
      View.readAt (Elt F) arg13.view (Rect.unit (s := S1x1x1x384) ![0, 0, 0, 0] S1x1x1x384.size inb_S1x1x1x384_S1x1x1x384_0_0_0_0).toLoadRect (harg13.unread X.ns),
      View.readAt (Elt F) arg14.view (Rect.unit (s := S1x1x1x1) ![0, 0, 0, 0] S1x1x1x1.size inb_S1x1x1x1_S1x1x1x1_0_0_0_0).toLoadRect (harg14.unread X.m),
      View.readAt (Elt F) arg15.view (Rect.unit (s := S128x384) ![0, 0] S128x384.size inb_S128x384_S128x384_0_0).toLoadRect (harg15.unread X.dy)⟩ : Blk F) = X := by
    rw [View.readAt_full _ _ _, hf3, View.readAt_full _ _ _, hf4, View.readAt_full _ _ _, hf5, View.readAt_full _ _ _, hf6, View.readAt_full _ _ _, hf7, View.readAt_full _ _ _, hf8, View.readAt_full _ _ _, hf9, View.readAt_full _ _ _, hf10, View.readAt_full _ _ _, hf11, View.readAt_full _ _ _, hf12, View.readAt_full _ _ _, hf13, View.readAt_full _ _ _, hf14, View.readAt_full _ _ _, hf15]
  sl_exec (disch := first | sl_exact hc0 | sl_exact hc1)
  sl_step
  iapply Hk
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  isplitl [H10]
  · iexists _; isplitr
    · ipureintro; exact harg10.read_unread _
    iexact H10
  isplitl [H11]
  · iexists _; isplitr
    · ipureintro; exact harg11.read_unread _
    iexact H11
  isplitl [H12]
  · iexists _; isplitr
    · ipureintro; exact harg12.read_unread _
    iexact H12
  isplitl [H13]
  · iexists _; isplitr
    · ipureintro; exact harg13.read_unread _
    iexact H13
  isplitl [H14]
  · iexists _; isplitr
    · ipureintro; exact harg14.read_unread _
    iexact H14
  isplitl [H15]
  · iexists _; isplitr
    · ipureintro; exact harg15.read_unread _
    iexact H15
  isplitl [H16]
  · iexists _; isplitr
    swap; · iexact H16
    ipureintro
    rw [View.read_writes_full]; exact (show _ = dq _ from by sl_kernel_rfl).trans (congrArg dq hX)
  isplitl [H17]
  · iexists _, _; isplitr
    swap; · iexact H17
    ipureintro; rfl
  isplitl [H18]
  · iexists _, _; isplitr
    swap; · iexact H18
    ipureintro; rfl
  isplitl [H19]
  · iexists _; isplitr
    swap; · iexact H19
    ipureintro
    rw [View.read_writes_full]; exact (show _ = dc _ from by sl_kernel_rfl).trans (congrArg dc hX)
  isplitl [H20]
  · iexists _; isplitr
    swap; · iexact H20
    ipureintro
    rw [View.read_writes_full]; exact (show _ = dz _ from by sl_kernel_rfl).trans (congrArg dz hX)
  isplitl [H21]
  · iexists _, _; isplitr
    swap; · iexact H21
    ipureintro; rfl
  isplitl [H22]
  · iexists _, _; isplitr
    swap; · iexact H22
    ipureintro; rfl
  isplitl [H23]
  · iexists _; isplitr
    swap; · iexact H23
    ipureintro
    rw [View.read_writes_cons_put _ _ _ _ _ rfl]; unfold accPut
    refine put_congr hf23 ?_
    rw [View.readAt_unit _ _ _ rfl (k0_off4_inb i), hf23]
    exact (show _ = dnwStep _ _ from by sl_kernel_rfl).trans (congrArg (dnwStep · _) hX)
  isplitl [H24]
  · iexists _; isplitr
    swap; · iexact H24
    ipureintro
    rw [View.read_writes_cons_put _ _ _ _ _ rfl]; unfold accPut
    refine put_congr hf24 ?_
    rw [View.readAt_unit _ _ _ rfl (k0_off4_inb i), hf24]
    exact (show _ = dskStep _ _ from by sl_kernel_rfl).trans (congrArg (dskStep · _) hX)
  isplitl [H25]
  · iexists _, _; isplitr
    swap; · iexact H25
    ipureintro; rfl
  iexists _, _; isplitr
  swap; · iexact H26
  ipureintro; rfl

end Cert.Body

end
-- ==== Proof.Frame.lean ====
/- The run of the gradient kernel: its pipeline's proof data, the body's obligation at every grid point, the launch, and
   from it the frame and the contents of the five result arrays whose values are claimed. -/
module

public import proofs.«01_k».proof.Proof.RunA
public import proofs.«01_k».proof.Proof.RunB
public import proofs.«01_k».proof.Proof.RunC

@[expose] public section

set_option maxRecDepth 16384

noncomputable section

namespace Cert.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Chain

variable {F : FTy → Type} [FloatOps F]

variable (m : (ℓ : Loc nD τ sig) → Buf (Elt F) ℓ) (ρ : Dev nD → PrngReg)

local notation "𝕄" => MT nD τ sig Unit (Elt F) ℕ (UR sig nD τ) ℕ

/-- The input blocks of grid point `t`. -/
def blk (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t⟩

/-- What the norm weight's gradient buffer holds after grid point `n`. -/
def accN (c : Dev nD) : (n : ℕ) → n < cfg0.N → Vec F S8x1x384 .f32
  | 0, h => accPut (grid0.coords ⟨0, h⟩) (dnwStep (blk m c ⟨0, h⟩)) (k0_pay4 (F := F))
  | n + 1, h => accPut (grid0.coords ⟨n + 1, h⟩) (dnwStep (blk m c ⟨n + 1, h⟩)) (accN c n (Nat.lt_of_succ_lt h))

/-- What the skip weight's gradient buffer holds after grid point `n`. -/
def accS (c : Dev nD) : (n : ℕ) → n < cfg0.N → Vec F S8x1x384 .f32
  | 0, h => accPut (grid0.coords ⟨0, h⟩) (dskStep (blk m c ⟨0, h⟩)) (k0_pay5 (F := F))
  | n + 1, h => accPut (grid0.coords ⟨n + 1, h⟩) (dskStep (blk m c ⟨n + 1, h⟩)) (accS c n (Nat.lt_of_succ_lt h))

theorem accN_first (c : Dev nD) (t : Fin cfg0.N) (h : t.val = 0) :
    accN m c t.val t.isLt = accPut (grid0.coords t) (dnwStep (blk m c t)) (k0_pay4 (F := F)) := by
  obtain ⟨n, hn⟩ := t; cases n with
  | zero => rfl
  | succ n => exact absurd h (Nat.succ_ne_zero n)

theorem accN_later (c : Dev nD) (t : Fin cfg0.N) (h : ¬t.val = 0) :
    accN m c t.val t.isLt = accPut (grid0.coords t) (dnwStep (blk m c t)) (accN m c (t.val - 1) (Nat.lt_of_le_of_lt (Nat.sub_le _ _) t.isLt)) := by
  obtain ⟨n, hn⟩ := t; cases n with
  | zero => exact absurd rfl h
  | succ n => rfl

theorem accS_first (c : Dev nD) (t : Fin cfg0.N) (h : t.val = 0) :
    accS m c t.val t.isLt = accPut (grid0.coords t) (dskStep (blk m c t)) (k0_pay5 (F := F)) := by
  obtain ⟨n, hn⟩ := t; cases n with
  | zero => rfl
  | succ n => exact absurd h (Nat.succ_ne_zero n)

theorem accS_later (c : Dev nD) (t : Fin cfg0.N) (h : ¬t.val = 0) :
    accS m c t.val t.isLt = accPut (grid0.coords t) (dskStep (blk m c t)) (accS m c (t.val - 1) (Nat.lt_of_le_of_lt (Nat.sub_le _ _) t.isLt)) := by
  obtain ⟨n, hn⟩ := t; cases n with
  | zero => exact absurd rfl h
  | succ n => rfl

/-- The results left unnamed: the gradients of keys, values and gates, which the carried state gradients reach. -/
def forgets0 : Fin 22 → Bool := fun w => w.val == 14 || w.val == 15 || w.val == 18 || w.val == 19

/-- The pipeline's proof data: arrays as the region finds them, inputs left in place, the named outputs at their values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => dq (blk m c t)
    | ⟨14, h⟩ => Pipeline.Dat.unnamed (cfg := cfg0) ⟨14, h⟩ t
    | ⟨15, h⟩ => Pipeline.Dat.unnamed (cfg := cfg0) ⟨15, h⟩ t
    | ⟨16, _⟩ => dc (blk m c t)
    | ⟨17, _⟩ => dz (blk m c t)
    | ⟨18, h⟩ => Pipeline.Dat.unnamed (cfg := cfg0) ⟨18, h⟩ t
    | ⟨19, h⟩ => Pipeline.Dat.unnamed (cfg := cfg0) ⟨19, h⟩ t
    | ⟨20, _⟩ => accN m c t.val t.isLt
    | ⟨21, _⟩ => accS m c t.val t.isLt
    | ⟨n + 22, h⟩ => absurd (show n + 22 < 22 from h) (by omega)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = dq (blk m c t) := by dsimp only [dats]
theorem after_16 (c : Dev nD) (t : Fin cfg0.N) : (dats m 0 c).after 16 t = dc (blk m c t) := by dsimp only [dats]
theorem after_17 (c : Dev nD) (t : Fin cfg0.N) : (dats m 0 c).after 17 t = dz (blk m c t) := by dsimp only [dats]
theorem after_20 (c : Dev nD) (t : Fin cfg0.N) : (dats m 0 c).after 20 t = accN m c t.val t.isLt := by dsimp only [dats]
theorem after_21 (c : Dev nD) (t : Fin cfg0.N) : (dats m 0 c).after 21 t = accS m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

/-- Past the first point the accumulating output's buffer holds what the point before left. -/
theorem before_20 (c : Dev nD) (t : Fin cfg0.N) (h0 : ¬t.val = 0) (d) :
    (dats m 0 c).before 20 t d = accN m c (t.val - 1) (Nat.lt_of_le_of_lt (Nat.sub_le _ _) t.isLt) := by
  have hN : t.val < 272 := lt_of_lt_of_eq t.isLt (show cfg0.N = 272 from N_0)
  rw [Dat.before_out_kept _ 20 rfl t (by omega) (Bool.eq_false_iff.mpr fun h => by have := (flush0_20 _).mp h; dsimp only at this; omega)
    (fun _ => rfl) (fun _ _ => rfl)]
  dsimp only [dats]

/-- Past the first point the accumulating output's buffer holds what the point before left. -/
theorem before_21 (c : Dev nD) (t : Fin cfg0.N) (h0 : ¬t.val = 0) (d) :
    (dats m 0 c).before 21 t d = accS m c (t.val - 1) (Nat.lt_of_le_of_lt (Nat.sub_le _ _) t.isLt) := by
  have hN : t.val < 272 := lt_of_lt_of_eq t.isLt (show cfg0.N = 272 from N_0)
  rw [Dat.before_out_kept _ 21 rfl t (by omega) (Bool.eq_false_iff.mpr fun h => by have := (flush0_21 _).mp h; dsimp only at this; omega)
    (fun _ => rfl) (fun _ _ => rfl)]
  dsimp only [dats]

/-- The scratch memrefs whole. -/
abbrev sc0 : Memref sig .tc .vmem S8x384x384 .f32 := Memref.whole cc0_scratch0
abbrev sc1 : Memref sig .tc .vmem S8x1x384 .f32 := Memref.whole cc0_scratch1

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare d)
    ∗ (∃ d, owns (c : Thread nD τ) (st0_15 t) fullShare d)
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare d)
    ∗ (∃ d, owns (c : Thread nD τ) (st0_19 t) fullShare d)
    ∗ (∃ d, owns (c : Thread nD τ) (st0_20 t) fullShare ((dats m 0 c).before 20 t d))
    ∗ (∃ d, owns (c : Thread nD τ) (st0_21 t) fullShare ((dats m 0 c).before 21 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ (∃ d, owns (c : Thread nD τ) (st0_14 t) fullShare d)
    ∗ (∃ d, owns (c : Thread nD τ) (st0_15 t) fullShare d)
    ∗ owns (c : Thread nD τ) (st0_16 t) fullShare ((dats m 0 c).after 16 t)
    ∗ owns (c : Thread nD τ) (st0_17 t) fullShare ((dats m 0 c).after 17 t)
    ∗ (∃ d, owns (c : Thread nD τ) (st0_18 t) fullShare d)
    ∗ (∃ d, owns (c : Thread nD τ) (st0_19 t) fullShare d)
    ∗ owns (c : Thread nD τ) (st0_20 t) fullShare ((dats m 0 c).after 20 t)
    ∗ owns (c : Thread nD τ) (st0_21 t) fullShare ((dats m 0 c).after 21 t))

set_option maxHeartbeats 4000000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_16, after_17, after_20, after_21]
  rw [show (dats m 0 c).Φ t.castSucc = Pipeline.ΦA spec0 c from rfl, PhiA_eq]
  by_cases h0 : t.val = 0
  · rw [accN_first m c t h0, accS_first m c t h0]
    have hf : first (grid0.coords t) := (first_iff t).mpr h0
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply (run_A c (grid0.coords t) _ _ _ _ _ _ _ _ _ _ _ _ _ _ _ _ _ _ _ _ _ _ _ _ _ _ _ _ _ _ _ _ _ _ _ _ _ _ _ _ _ _ _ _ _ _ _ _ hf (restart_of_first hf) (blk m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [HS0]; · iexact HS0
    isplitl [HS1]; · iexact HS1
    iintro ⟨H0, H1, H2, H3, H4, H5, H6, H7, H8, H9, H10, H11, H12, H13, H14, H15, H16, H17, H18, H19, H20, H21, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · rw [accN_later m c t h0, accS_later m c t h0]
    simp only [before_20 m c t h0, before_21 m c t h0]
    have hf : ¬first (grid0.coords t) := fun h => h0 ((first_iff t).mp h)
    by_cases h1 : restart (grid0.coords t)
    · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply (run_B c (grid0.coords t) _ _ _ _ _ _ _ _ _ _ _ _ _ _ _ _ _ _ _ _ _ _ _ _ _ _ _ _ _ _ _ _ _ _ _ _ _ _ _ _ _ _ _ _ _ _ _ _ hf h1 (blk m c t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexact H20
      isplitl [H21]; · iexact H21
      isplitl [HS0]; · iexact HS0
      isplitl [HS1]; · iexact HS1
      iintro ⟨H0, H1, H2, H3, H4, H5, H6, H7, H8, H9, H10, H11, H12, H13, H14, H15, H16, H17, H18, H19, H20, H21, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact H21
    · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
      iapply (run_C c (grid0.coords t) _ _ _ _ _ _ _ _ _ _ _ _ _ _ _ _ _ _ _ _ _ _ _ _ _ _ _ _ _ _ _ _ _ _ _ _ _ _ _ _ _ _ _ _ _ _ _ _ hf h1 (blk m c t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexact H20
      isplitl [H21]; · iexact H21
      isplitl [HS0]; · iexact HS0
      isplitl [HS1]; · iexact HS1
      iintro ⟨H0, H1, H2, H3, H4, H5, H6, H7, H8, H9, H10, H11, H12, H13, H14, H15, H16, H17, H18, H19, H20, H21, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iexact H21

theorem defs₀_row (t : Fin cfg0.N) :
    defs₀ (F := F) .tc cfg0.body (cfg0.bodyArgs t (cfg0.slots t)) = bodyAt0 t := by
  unfold defs₀; rw [Defs.onTc_tc]

/-- The library's body obligation with the unnamed results forgotten. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the run leaves: every array at contents the proof data allow, every other buffer as the region found it. -/
abbrev Post : PUnit × MemSt nD τ sig (Elt F) → Prop :=
  Pipeline.RDat.FramePost (cfgs 0) (fun c => (dats m 0 c).toRForget forgets0) (V m)

set_option backward.isDefEq.respectTransparency.types false in
set_option maxHeartbeats 1600000 in
/-- The launch: every weakly fair execution ends in `Post` with every semaphore counter at zero. -/
theorem run_main : θ_run defs (onTc (τ := τ) (main (F := F))) (s₀ m ρ) (fun r => Post m r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

variable {m} in
/-- An input array ends at its entry contents. -/
theorem arr_in {r : PUnit × MemSt nD τ sig (Elt F)} (h : Post m r) (c : Dev nD) (w : Fin cfg0.W) (hin : (cfg0.win w).isOut = false) :
    r.2.mem ((cfg0.spec w).arr.view.loc (c.tc : Thread nD τ)) = (dats m 0 c).A w :=
  Pipeline.RDat.FramePostR.arr_in (R := ∅) (V := V m) (fun c => ⟨(h c).1, fun b hb => (h c).2 b (by rwa [Finset.sdiff_empty] at hb)⟩) c w hin

variable {m} in
/-- A named output array ends at what its write-backs make of it. -/
theorem arr_out {r : PUnit × MemSt nD τ sig (Elt F)} (h : Post m r) (c : Dev nD) (w : Fin cfg0.W) (hw : forgets0 w = false) :
    r.2.mem ((cfg0.spec w).arr.view.loc (c.tc : Thread nD τ)) = (dats m 0 c).arrAt w cfg0.N :=
  (Pipeline.Dat.toRForget_arrAt_iff (dats m 0 c) hw _ _).mp ((h c).1 w)

/-- The argument arrays end unchanged. -/
theorem unchanged {r : PUnit × MemSt nD τ sig (Elt F)} (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨(arr_in h c 0 rfl).trans ((A_eq m c 0).trans (V_main_arg0 m c)),
    (arr_in h c 1 rfl).trans ((A_eq m c 1).trans (V_main_arg1 m c)),
    (arr_in h c 2 rfl).trans ((A_eq m c 2).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    (arr_in h c 5 rfl).trans ((A_eq m c 5).trans (V_main_arg5 m c)),
    (arr_in h c 6 rfl).trans ((A_eq m c 6).trans (V_main_arg6 m c)),
    (arr_in h c 7 rfl).trans ((A_eq m c 7).trans (V_main_arg7 m c)),
    (arr_in h c 8 rfl).trans ((A_eq m c 8).trans (V_main_arg8 m c)),
    (arr_in h c 9 rfl).trans ((A_eq m c 9).trans (V_main_arg9 m c)),
    (arr_in h c 10 rfl).trans ((A_eq m c 10).trans (V_main_arg10 m c)),
    (arr_in h c 11 rfl).trans ((A_eq m c 11).trans (V_main_arg11 m c)),
    (arr_in h c 12 rfl).trans ((A_eq m c 12).trans (V_main_arg12 m c))⟩

/-- The frame: the run ends, the arguments are unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ h => ⟨unchanged m h.1, h.2⟩) (run_main m ρ)

end Cert.Body

end
-- ==== Proof.Spec.lean ====
/- One chunk of the recurrence's gradient over the real numbers, in plain formulas: the forward values recomputed, the
   head norm and the two gates, then the gradient of the queries, of the convolution output, of the gate and of the two
   weights. Both programs are shown to compute these. -/
module

public import Idealize.ShloMosaic.Lib.Pointwise

@[expose] public section

noncomputable section

namespace Cert.Spec

open Idealize.ShloMosaic

/-- What one chunk of one head takes. -/
structure RBlk where
  /-- The queries. -/
  q : Fin 128 → Fin 384 → ℝ
  /-- The keys. -/
  k : Fin 128 → Fin 384 → ℝ
  /-- The values. -/
  v : Fin 128 → Fin 384 → ℝ
  /-- The log input gates. -/
  ig : Fin 128 → ℝ
  /-- The running sums of the log forget gates. -/
  bc : Fin 128 → ℝ
  /-- The convolution output before its silu. -/
  c : Fin 128 → Fin 384 → ℝ
  /-- The output gate before its silu. -/
  z : Fin 128 → Fin 384 → ℝ
  /-- The head norm weight. -/
  nw : Fin 384 → ℝ
  /-- The skip weight. -/
  sk : Fin 384 → ℝ
  /-- The matrix state entering the chunk. -/
  cs : Fin 384 → Fin 384 → ℝ
  /-- The normaliser entering the chunk. -/
  ns : Fin 384 → ℝ
  /-- The stabiliser entering the chunk. -/
  m : ℝ
  /-- The cotangent of the mixer output. -/
  dy : Fin 128 → Fin 384 → ℝ

/-- The query scale, as the literal both programs carry. -/
def κ : ℝ := (Ideal.ofBits .f32 0x3D5105EC#32 : EReal).toReal
/-- The norm's epsilon, as the literal both programs carry. -/
def ε : ℝ := (Ideal.ofBits .f32 0x3727C5AC#32 : EReal).toReal

theorem lit_κ : Ideal.ofBits .f32 0x3D5105EC#32 = ((κ : ℝ) : EReal) := by
  have h : Ideal.ofBits .f32 0x3D5105EC#32 = (((1 : ℝ) * (2 ^ 23 + 5309932 : ℕ) * (2 : ℝ) ^ ((122 : ℤ) - 127 - 23) : ℝ) : EReal) := by
    simp [Ideal.ofBits, Ideal.ieee]
  rw [κ, h, EReal.toReal_coe]

theorem lit_ε : Ideal.ofBits .f32 0x3727C5AC#32 = ((ε : ℝ) : EReal) ∧ 0 < ε := by
  have h : Ideal.ofBits .f32 0x3727C5AC#32 = (((1 : ℝ) * (2 ^ 23 + 2606508 : ℕ) * (2 : ℝ) ^ ((110 : ℤ) - 127 - 23) : ℝ) : EReal) := by
    simp [Ideal.ofBits, Ideal.ieee]
  refine ⟨by rw [ε, h, EReal.toReal_coe], ?_⟩
  rw [ε, h, EReal.toReal_coe]; positivity

theorem lit_384 : Ideal.ofBits .f32 0x43C00000#32 = ((384 : ℝ) : EReal) := by
  have h : Ideal.ofBits .f32 0x43C00000#32 = (((1 : ℝ) * (2 ^ 23 + 4194304 : ℕ) * (2 : ℝ) ^ ((135 : ℤ) - 127 - 23) : ℝ) : EReal) := by
    simp [Ideal.ofBits, Ideal.ieee]
  rw [h]; norm_num

theorem lit_half : Ideal.ofBits .f32 0x3F000000#32 = ((1 / 2 : ℝ) : EReal) := by
  have h : Ideal.ofBits .f32 0x3F000000#32 = (((1 : ℝ) * (2 ^ 23 + 0 : ℕ) * (2 : ℝ) ^ ((126 : ℤ) - 127 - 23) : ℝ) : EReal) := by
    simp [Ideal.ofBits, Ideal.ieee]
  rw [h]; norm_num

theorem lit_neg_half : Ideal.ofBits .f32 0xBF000000#32 = ((-1 / 2 : ℝ) : EReal) := by
  have h : Ideal.ofBits .f32 0xBF000000#32 = (((-1 : ℝ) * (2 ^ 23 + 0 : ℕ) * (2 : ℝ) ^ ((126 : ℤ) - 127 - 23) : ℝ) : EReal) := by
    simp [Ideal.ofBits, Ideal.ieee]
  rw [h]; norm_num

theorem lit_two : Ideal.ofBits .f32 0x40000000#32 = ((2 : ℝ) : EReal) := by
  have h : Ideal.ofBits .f32 0x40000000#32 = (((1 : ℝ) * (2 ^ 23 + 0 : ℕ) * (2 : ℝ) ^ ((128 : ℤ) - 127 - 23) : ℝ) : EReal) := by
    simp [Ideal.ofBits, Ideal.ieee]
  rw [h]; norm_num

theorem lit_bot : Ideal.ofBits .f32 0xFF800000#32 = (⊥ : EReal) := by
  simp [Ideal.ofBits, Ideal.ieee]

theorem lit_top : Ideal.ofBits .f32 0x7F800000#32 = (⊤ : EReal) := by
  simp [Ideal.ofBits, Ideal.ieee]

/-- A sum of reals, seen among the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem div_coe {x y : ℝ} (h : y ≠ 0) : Ideal.div (x : EReal) (y : EReal) = ((x / y : ℝ) : EReal) := by
  rw [Ideal.div_coe h, ← EReal.coe_mul, mul_one_div]

/-- The logistic function. -/
def sg (x : ℝ) : ℝ := (1 + Real.exp (-x))⁻¹
/-- The silu. -/
def sl (x : ℝ) : ℝ := x * sg x

theorem sg_tanh (x : ℝ) : 1 / 2 * Real.tanh (1 / 2 * x) + 1 / 2 = sg x := by
  unfold sg
  have h1 : Real.exp (-x) = Real.exp (-(1 / 2 * x)) / Real.exp (1 / 2 * x) := by
    rw [← Real.exp_sub]; congr 1; ring
  have a := Real.exp_pos (1 / 2 * x)
  have b := Real.exp_pos (-(1 / 2 * x))
  rw [Real.tanh_eq_sinh_div_cosh, Real.sinh_eq, Real.cosh_eq, h1]
  field_simp
  ring

theorem maximum_coe (x y : ℝ) : max (x : EReal) (y : EReal) = ((max x y : ℝ) : EReal) :=
  (EReal.coe_strictMono.monotone.map_max).symm

/-- The fold of `max` from `⊥` over reals and `⊥`s is never `⊤`. -/
theorem fold_ne_top {n : ℕ} (f : Fin n → EReal) (hf : ∀ s, f s ≠ ⊤) : Finset.univ.fold max ⊥ f ≠ (⊤ : EReal) := by
  rw [← lt_top_iff_ne_top, Finset.fold_max_lt]
  exact ⟨bot_lt_top, fun s _ => lt_top_iff_ne_top.mpr (hf s)⟩

namespace RBlk

variable (R : RBlk)

/-- The scaled queries. -/
def qs (t : Fin 128) (d : Fin 384) : ℝ := R.q t d * κ
/-- The log weight of key `s` at query `t`. -/
def dm (t s : Fin 128) : ℝ := R.bc t - R.bc s + R.ig s
/-- The log weight of the entering state at query `t`. -/
def inter (t : Fin 128) : ℝ := R.bc t + R.m
/-- The stabiliser of query `t`, as an extended real: the largest log weight. -/
def mtE (t : Fin 128) : EReal :=
  max ((R.inter t : ℝ) : EReal) (Finset.univ.fold max ⊥ fun s : Fin 128 => if s ≤ t then ((R.dm t s : ℝ) : EReal) else ⊥)
/-- The stabiliser of query `t`. -/
def mt (t : Fin 128) : ℝ := (R.mtE t).toReal

theorem mtE_eq (t : Fin 128) : R.mtE t = ((R.mt t : ℝ) : EReal) := by
  refine (EReal.coe_toReal ?_ ?_).symm
  · unfold mtE
    rw [ne_eq, max_eq_top]
    rintro (h | h)
    · exact EReal.coe_ne_top _ h
    · refine fold_ne_top _ (fun s => ?_) h
      split
      · exact EReal.coe_ne_top _
      · exact bot_ne_top
  · intro h
    have := le_max_left ((R.inter t : ℝ) : EReal) (Finset.univ.fold max ⊥ fun s : Fin 128 => if s ≤ t then ((R.dm t s : ℝ) : EReal) else ⊥)
    rw [show max _ _ = R.mtE t from rfl, h, le_bot_iff] at this
    exact EReal.coe_ne_bot _ this

/-- The weight of key `s` at query `t`. -/
def wt (t s : Fin 128) : ℝ := if s ≤ t then Real.exp (R.dm t s - R.mt t) else 0
/-- The weight of the entering state at query `t`. -/
def wp (t : Fin 128) : ℝ := Real.exp (R.inter t - R.mt t)
/-- The products of queries and keys. -/
def qk (t s : Fin 128) : ℝ := ∑ d, R.qs t d * R.k s d
/-- The weighted products of queries and keys. -/
def sc (t s : Fin 128) : ℝ := R.qk t s * R.wt t s
/-- The numerator. -/
def num (t : Fin 128) (e : Fin 384) : ℝ := (∑ s, R.sc t s * R.v s e) + R.wp t * ∑ d, R.qs t d * R.cs d e
/-- The denominator before its bound. -/
def den (t : Fin 128) : ℝ := (∑ s, R.sc t s) + R.wp t * ∑ d, R.qs t d * R.ns d
/-- The denominator's lower bound. -/
def lo (t : Fin 128) : ℝ := Real.exp (-R.mt t)
/-- The denominator. -/
def b (t : Fin 128) : ℝ := max |R.den t| (R.lo t)
theorem b_pos (t : Fin 128) : 0 < R.b t := lt_of_lt_of_le (Real.exp_pos _) (le_max_right _ _)
/-- The head's output before its norm. -/
def h (t : Fin 128) (e : Fin 384) : ℝ := R.num t e / R.b t
/-- Its mean. -/
def mu (t : Fin 128) : ℝ := (∑ e, R.h t e) / 384
/-- It centred. -/
def hc (t : Fin 128) (e : Fin 384) : ℝ := R.h t e - R.mu t
/-- Its variance and epsilon. -/
def ve (t : Fin 128) : ℝ := (∑ e, R.hc t e * R.hc t e) / 384 + ε
theorem ve_pos (t : Fin 128) : 0 < R.ve t := by
  have : 0 ≤ ∑ e, R.hc t e * R.hc t e := Finset.sum_nonneg fun e _ => mul_self_nonneg _
  have := lit_ε.2
  unfold ve; positivity
/-- The reciprocal standard deviation. -/
def r (t : Fin 128) : ℝ := (Real.sqrt (R.ve t))⁻¹
/-- The normalised head. -/
def hn (t : Fin 128) (e : Fin 384) : ℝ := R.hc t e * R.r t
/-- The cotangent before the output gate. -/
def p (t : Fin 128) (d : Fin 384) : ℝ := R.dy t d * sl (R.z t d)
/-- The mixer output before the output gate. -/
def y (t : Fin 128) (d : Fin 384) : ℝ := R.hn t d * R.nw d + R.sk d * sl (R.c t d)
/-- The gradient of the output gate. -/
def dz (t : Fin 128) (d : Fin 384) : ℝ := R.y t d * R.dy t d * (sg (R.z t d) * (1 + R.z t d * (1 - sg (R.z t d))))
/-- The gradient of the convolution output. -/
def dc (t : Fin 128) (d : Fin 384) : ℝ := R.sk d * R.p t d * (sg (R.c t d) * (1 + R.c t d * (1 - sg (R.c t d))))
/-- This chunk's part of the norm weight's gradient. -/
def dnw (d : Fin 384) : ℝ := ∑ t, R.hn t d * R.p t d
/-- This chunk's part of the skip weight's gradient. -/
def dsk (d : Fin 384) : ℝ := ∑ t, R.p t d * sl (R.c t d)
/-- The cotangent of the normalised head. -/
def g (t : Fin 128) (d : Fin 384) : ℝ := R.p t d * R.nw d
/-- The cotangent of the squared deviations. -/
def u (t : Fin 128) : ℝ := (∑ e, R.hc t e * R.g t e) * (-1 / 2 * (R.r t / R.ve t)) / 384
/-- The cotangent of the centred head. -/
def w (t : Fin 128) (d : Fin 384) : ℝ := R.g t d * R.r t + R.u t * (2 * R.hc t d)
/-- The cotangent of the head before its norm. -/
def dh (t : Fin 128) (d : Fin 384) : ℝ := R.w t d + (∑ e, -R.w t e) / 384
/-- The cotangent of the numerator. -/
def dnum (t : Fin 128) (d : Fin 384) : ℝ := R.dh t d / R.b t
/-- The share of the denominator's cotangent that its absolute value takes: half at a tie. -/
def tie (t : Fin 128) : ℝ := if |R.den t| > R.lo t then 1 else if |R.den t| = R.lo t then 1 / 2 else 0
/-- The cotangent of the denominator's absolute value. -/
def da (t : Fin 128) : ℝ := -((∑ e, R.num t e * R.dh t e) / (R.b t * R.b t)) * R.tie t
/-- The cotangent of the denominator. -/
def dden (t : Fin 128) : ℝ := if 0 ≤ R.den t then R.da t else -R.da t
/-- The cotangent of the weighted products of queries and keys. -/
def ds (t s : Fin 128) : ℝ := R.dden t + ∑ e, R.dnum t e * R.v s e
/-- The gradient of the queries. -/
def dq (t : Fin 128) (d : Fin 384) : ℝ :=
  (R.wp t * R.dden t * R.ns d + (∑ e, R.wp t * R.dnum t e * R.cs d e) + ∑ s, R.ds t s * R.wt t s * R.k s d) * κ

end RBlk

end Cert.Spec

end
-- ==== Proof.KVal1.lean ====
/- The kernel's chunk at real inputs, read at an index: the weights, the products and the two parts of the head. -/
module

public import proofs.«01_k».proof.Proof.Chain
public import proofs.«01_k».proof.Proof.Spec

@[expose] public section

set_option maxRecDepth 16384

noncomputable section

namespace Cert.KVal

open Idealize.ShloMosaic Cert.KernelIdeal Cert.KernelIdeal.Gen Cert.Chain Cert.Spec

/-- The kernel's input blocks hold the reals of `R`. -/
structure Rel (X : Blk Ideal) (R : RBlk) : Prop where
  q : ∀ t d, X.q (ix2 t d) = ((R.q t d : ℝ) : EReal)
  k : ∀ t d, X.k (ix2 t d) = ((R.k t d : ℝ) : EReal)
  v : ∀ t d, X.v (ix2 t d) = ((R.v t d : ℝ) : EReal)
  colI : ∀ t, X.col (ix3 0 t 0) = ((R.ig t : ℝ) : EReal)
  colB : ∀ t, X.col (ix3 0 t 1) = ((R.bc t : ℝ) : EReal)
  rowI : ∀ t, X.row (ix4 0 0 0 t) = ((R.ig t : ℝ) : EReal)
  rowB : ∀ t, X.row (ix4 0 0 1 t) = ((R.bc t : ℝ) : EReal)
  c : ∀ t d, X.c (ix2 t d) = ((R.c t d : ℝ) : EReal)
  z : ∀ t d, X.z (ix2 t d) = ((R.z t d : ℝ) : EReal)
  nw : ∀ d, X.nw (ix2 0 d) = ((R.nw d : ℝ) : EReal)
  sk : ∀ d, X.sk (ix2 0 d) = ((R.sk d : ℝ) : EReal)
  cs : ∀ d e, X.cs (ix4 0 0 d e) = ((R.cs d e : ℝ) : EReal)
  ns : ∀ d, X.ns (ix4 0 0 0 d) = ((R.ns d : ℝ) : EReal)
  m : X.m (ix4 0 0 0 0) = ((R.m : ℝ) : EReal)
  dy : ∀ t d, X.dy (ix2 t d) = ((R.dy t d : ℝ) : EReal)

theorem sit_one : FloatOps.sitofp (F := Ideal) .f32 (BitVec.setWidth 32 1#1) = (1 : EReal) := by
  show (((BitVec.setWidth 32 1#1).toInt : ℝ) : EReal) = 1
  rw [show (BitVec.setWidth 32 1#1).toInt = 1 from by decide]; simp
theorem sit_zero : FloatOps.sitofp (F := Ideal) .f32 (BitVec.setWidth 32 0#1) = (0 : EReal) := by
  show (((BitVec.setWidth 32 0#1).toInt : ℝ) : EReal) = 0
  rw [show (BitVec.setWidth 32 0#1).toInt = 0 from by decide]; simp
theorem ne01 : IntOp.cmpi .eq (0#32) (1#32) = 0#1 := by decide
theorem ne10 : IntOp.cmpi .eq (1#32) (0#32) = 0#1 := by decide
theorem sge_eq (t s : Fin 128) : IntOp.cmpi .sge (BitVec.ofNat 32 t.val) (BitVec.ofNat 32 s.val) = if s ≤ t then 1#1 else 0#1 := by
  have h : ∀ n : Fin 128, (BitVec.ofNat 32 n.val).toInt = (n.val : ℤ) := by decide
  show BitVec.ofBool (BitVec.sle _ _) = _
  rw [BitVec.sle_eq_decide, h, h]
  by_cases hh : s ≤ t
  · rw [if_pos hh, decide_eq_true (by exact_mod_cast hh)]; rfl
  · rw [if_neg hh, decide_eq_false (by exact_mod_cast hh)]; rfl

variable {X : Blk Ideal} {R : RBlk} (H : Rel X R)
include H

theorem m_eq : v11 X (ix2 0 0) = ((R.m : ℝ) : EReal) := by
  unfold v11
  pointwise [k0_pay8]
  exact H.m

theorem bc_eq (t : Fin 128) : v44 X (ix2 t 0) = ((R.bc t : ℝ) : EReal) := by
  unfold v44 v16
  pointwise [k0_pay16, k0_pay15, k0_pay9, Fin.sum_univ_two]
  rw [ne01, sit_one, sit_zero, mul_zero, zero_add, mul_one, H.colB]

theorem igr_eq (t : Fin 128) : v53 X (ix2 0 t) = ((R.ig t : ℝ) : EReal) := by
  unfold v53 v18
  pointwise [k0_pay18, k0_pay17, k0_pay10, Fin.sum_univ_two]
  rw [ne10, sit_one, sit_zero, mul_zero, add_zero, mul_one, H.rowI]

theorem br_eq (t : Fin 128) : v62 X (ix2 0 t) = ((R.bc t : ℝ) : EReal) := by
  unfold v62 v18
  pointwise [k0_pay20, k0_pay19, k0_pay10, Fin.sum_univ_two]
  rw [ne01, sit_one, sit_zero, mul_zero, zero_add, mul_one, H.rowB]

omit H in
theorem tri_eq (t s : Fin 128) : k0_pay22 (v67 X) (ix2 t s) = if s ≤ t then 1#1 else 0#1 := by
  unfold v67
  pointwise [k0_pay22, k0_pay21]
  rw [sge_eq]
  split
  · rw [sit_one]; simp
  · rw [sit_zero]; simp

/-- The masked log weights. -/
theorem dm_eq (t s : Fin 128) :
    k0_pay23 (v44 X) (v53 X) (v62 X) (v67 X) (ix2 t s) = if s ≤ t then ((R.dm t s : ℝ) : EReal) else ⊥ := by
  pointwise [k0_pay23]
  rw [tri_eq, bc_eq H, br_eq H, igr_eq H, lit_bot]
  split
  · simp [Scalar.select, RBlk.dm]
  · simp [Scalar.select]

theorem inter_eq (t : Fin 128) : k0_pay24 (v11 X) (v44 X) (ix2 t 0) = ((R.inter t : ℝ) : EReal) := by
  pointwise [k0_pay24]
  rw [bc_eq H, m_eq H, ← EReal.coe_add]; rfl

theorem mt_eq (t : Fin 128) : k0_pay25 (v11 X) (v44 X) (v53 X) (v62 X) (v67 X) (ix2 t 0) = ((R.mt t : ℝ) : EReal) := by
  pointwise [k0_pay25]
  simp only [inter_eq H, dm_eq H, lit_bot]
  exact R.mtE_eq t

theorem wt_eq (t s : Fin 128) : v84 X (ix2 t s) = ((R.wt t s : ℝ) : EReal) := by
  unfold v84
  pointwise [k0_pay26]
  simp only [mt_eq H, dm_eq H, RBlk.wt]
  split
  · rw [← EReal.coe_sub, Ideal.exp_coe]
  · rw [EReal.bot_sub, Ideal.exp_bot]; rfl

theorem wp_eq (t : Fin 128) : v86 X (ix2 t 0) = ((R.wp t : ℝ) : EReal) := by
  unfold v86
  pointwise [k0_pay27]
  simp only [mt_eq H, inter_eq H, RBlk.wp]
  rw [← EReal.coe_sub, Ideal.exp_coe]

theorem qs_eq (t : Fin 128) (d : Fin 384) : k0_pay28 X.q (ix2 t d) = ((R.qs t d : ℝ) : EReal) := by
  pointwise [k0_pay28]
  simp only [H.q, lit_κ, ← EReal.coe_mul]; rfl

theorem cst_eq (d e : Fin 384) : v24 X (ix2 d e) = ((R.cs d e : ℝ) : EReal) := by
  unfold v24
  pointwise [k0_pay11]
  exact H.cs d e

theorem nst_eq (d : Fin 384) : v26 X (ix2 0 d) = ((R.ns d : ℝ) : EReal) := by
  unfold v26
  pointwise [k0_pay12]
  exact H.ns d

theorem qk_eq (t s : Fin 128) : v91 X (ix2 t s) = ((R.qk t s : ℝ) : EReal) := by
  unfold v91
  pointwise [k0_pay31, k0_pay29, k0_pay30]
  simp only [qs_eq H, H.k, ← EReal.coe_mul, coe_sum]; rfl

theorem sc_eq (t s : Fin 128) :
    k0_pay32 (v11 X) X.q X.k (v44 X) (v53 X) (v62 X) (v67 X) (ix2 t s) = ((R.sc t s : ℝ) : EReal) := by
  pointwise [k0_pay32]
  rw [show k0_pay31 X.q X.k (ix2 t s) = _ from qk_eq H t s,
    show k0_pay26 (v11 X) (v44 X) (v53 X) (v62 X) (v67 X) (ix2 t s) = _ from wt_eq H t s, ← EReal.coe_mul]; rfl

theorem num_eq (t : Fin 128) (e : Fin 384) : v101 X (ix2 t e) = ((R.num t e : ℝ) : EReal) := by
  unfold v101
  pointwise [k0_pay38, k0_pay37, k0_pay36, k0_pay35, k0_pay34, k0_pay33]
  rw [show k0_pay27 (v11 X) (v44 X) (v53 X) (v62 X) (v67 X) (ix2 t 0) = _ from wp_eq H t]
  simp only [sc_eq H, qs_eq H, cst_eq H, H.v, ← EReal.coe_mul, coe_sum, ← EReal.coe_add]; rfl

theorem den_eq (t : Fin 128) :
    k0_pay40 (v11 X) X.q X.k (v26 X) (v44 X) (v53 X) (v62 X) (v67 X) (ix2 t 0) = ((R.den t : ℝ) : EReal) := by
  pointwise [k0_pay40, k0_pay39]
  rw [show k0_pay27 (v11 X) (v44 X) (v53 X) (v62 X) (v67 X) (ix2 t 0) = _ from wp_eq H t]
  simp only [sc_eq H, qs_eq H, nst_eq H, ← EReal.coe_mul, coe_sum, ← EReal.coe_add]; rfl

theorem aden_eq (t : Fin 128) : v110 X (ix2 t 0) = ((|R.den t| : ℝ) : EReal) := by
  unfold v110
  pointwise [k0_pay41]
  simp only [den_eq H]
  show max ((R.den t : ℝ) : EReal) (-((R.den t : ℝ) : EReal)) = _
  rw [← EReal.coe_neg, maximum_coe, abs_eq_max_neg]

theorem sgn_eq (t : Fin 128) : v112 X (ix2 t 0) = if 0 ≤ R.den t then 1#1 else 0#1 := by
  unfold v112
  pointwise [k0_pay42]
  simp only [den_eq H]
  by_cases h : 0 ≤ R.den t
  · rw [if_pos h, decide_eq_true (by exact_mod_cast h)]; rfl
  · rw [if_neg h, decide_eq_false (by exact_mod_cast h)]; rfl

theorem lo_eq (t : Fin 128) : v115 X (ix2 t 0) = ((R.lo t : ℝ) : EReal) := by
  unfold v115
  pointwise [k0_pay43]
  simp only [mt_eq H]
  rw [zero_sub, ← EReal.coe_neg, Ideal.exp_coe]; rfl

theorem b_eq (t : Fin 128) : v116 X (ix2 t 0) = ((R.b t : ℝ) : EReal) := by
  unfold v116
  pointwise [k0_pay44]
  rw [show k0_pay41 (v11 X) X.q X.k (v26 X) (v44 X) (v53 X) (v62 X) (v67 X) (ix2 t 0) = _ from aden_eq H t,
    show k0_pay43 (v11 X) (v44 X) (v53 X) (v62 X) (v67 X) (ix2 t 0) = _ from lo_eq H t, maximum_coe]; rfl

theorem tie_eq (t : Fin 128) : v123 X (ix2 t 0) = ((R.tie t : ℝ) : EReal) := by
  unfold v123
  pointwise [k0_pay45]
  simp only [aden_eq H, lo_eq H, lit_half, RBlk.tie, EReal.coe_lt_coe_iff, EReal.coe_eq_coe_iff, gt_iff_lt]
  by_cases h : R.lo t < |R.den t|
  · simp [h, Scalar.select]
  · by_cases h' : |R.den t| = R.lo t
    · simp [h', Scalar.select]
    · simp [h, h', Scalar.select]

theorem binv_eq (t : Fin 128) : v125 X (ix2 t 0) = ((1 / R.b t : ℝ) : EReal) := by
  unfold v125
  pointwise [k0_pay46]
  rw [b_eq H, ← EReal.coe_one, div_coe (R.b_pos t).ne']

theorem bbinv_eq (t : Fin 128) : v128 X (ix2 t 0) = ((1 / (R.b t * R.b t) : ℝ) : EReal) := by
  unfold v128
  pointwise [k0_pay47]
  rw [b_eq H, ← EReal.coe_mul, ← EReal.coe_one, div_coe (mul_pos (R.b_pos t) (R.b_pos t)).ne']

end Cert.KVal

end
-- ==== Proof.KVal2.lean ====
/- The kernel's chunk at real inputs, read at an index: the norm, the gates and the gradients. -/
module

public import proofs.«01_k».proof.Proof.KVal1

@[expose] public section

set_option maxRecDepth 16384

noncomputable section

namespace Cert.KVal

open Idealize.ShloMosaic Cert.KernelIdeal Cert.KernelIdeal.Gen Cert.Chain Cert.Spec

theorem ne384 : (384 : ℝ) ≠ 0 := by norm_num

variable {X : Blk Ideal} {R : RBlk} (H : Rel X R)
include H

theorem h_eq (t : Fin 128) (e : Fin 384) :
    v101 X (ix2 t e) * k0_pay46 (v116 X) (ix2 t 0) = ((R.h t e : ℝ) : EReal) := by
  rw [num_eq H, show k0_pay46 (v116 X) (ix2 t 0) = _ from binv_eq H t, ← EReal.coe_mul, mul_one_div]; rfl

theorem hc_eq (t : Fin 128) (e : Fin 384) : v161 X (ix2 t e) = ((R.hc t e : ℝ) : EReal) := by
  unfold v161
  pointwise [k0_pay56]
  simp only [h_eq H, lit_384, coe_sum, div_coe ne384, ← EReal.coe_sub]; rfl

/-- The sum of the squared deviations. -/
theorem ss_eq (t : Fin 128) : v164 X (ix2 t 0) = ((∑ e, R.hc t e * R.hc t e : ℝ) : EReal) := by
  unfold v164
  pointwise [k0_pay57]
  simp only [show ∀ e, k0_pay56 (v101 X) (v116 X) (ix2 t e) = _ from hc_eq H t, ← EReal.coe_mul, coe_sum]

theorem ve_eq (t : Fin 128) : k0_pay58 (v164 X) (Ideal.ofBits .f32 0x43C00000#32) (ix2 t 0) = ((R.ve t : ℝ) : EReal) := by
  pointwise [k0_pay58]
  simp only [ss_eq H, lit_384, lit_ε.1, div_coe ne384, ← EReal.coe_add]; rfl

theorem r_eq (t : Fin 128) : v169 X (ix2 t 0) = ((R.r t : ℝ) : EReal) := by
  unfold v169
  pointwise [k0_pay59]
  rw [ve_eq H, Ideal.rsqrt_coe, if_neg (R.ve_pos t).le.not_gt, if_neg (R.ve_pos t).ne']; rfl

theorem rv_eq (t : Fin 128) : v172 X (ix2 t 0) = ((-1 / 2 * (R.r t / R.ve t) : ℝ) : EReal) := by
  unfold v172
  pointwise [k0_pay60]
  rw [ve_eq H, show k0_pay59 (v164 X) (Ideal.ofBits .f32 0x43C00000#32) (ix2 t 0) = _ from r_eq H t,
    div_coe (R.ve_pos t).ne', lit_neg_half, ← EReal.coe_mul]

theorem hn_eq (t : Fin 128) (e : Fin 384) : v174 X (ix2 t e) = ((R.hn t e : ℝ) : EReal) := by
  unfold v174
  pointwise [k0_pay61]
  rw [hc_eq H, show k0_pay59 (v164 X) (Ideal.ofBits .f32 0x43C00000#32) (ix2 t 0) = _ from r_eq H t, ← EReal.coe_mul]; rfl

theorem slc_eq (t : Fin 128) (d : Fin 384) : v184 X (ix2 t d) = ((sl (R.c t d) : ℝ) : EReal) := by
  unfold v184
  pointwise [k0_pay62]
  simp only [H.c, lit_half, ← EReal.coe_mul, Ideal.tanh_coe, ← EReal.coe_add, sg_tanh]; rfl

theorem p_eq (t : Fin 128) (d : Fin 384) : v204 X (ix2 t d) = ((R.p t d : ℝ) : EReal) := by
  unfold v204
  pointwise [k0_pay66]
  simp only [H.z, H.dy, lit_half, ← EReal.coe_mul, Ideal.tanh_coe, ← EReal.coe_add, sg_tanh]; rfl

theorem ydy_eq (t : Fin 128) (d : Fin 384) : v203 X (ix2 t d) = ((R.y t d * R.dy t d : ℝ) : EReal) := by
  unfold v203
  pointwise [k0_pay65]
  rw [show k0_pay61 (v161 X) (v164 X) (Ideal.ofBits .f32 0x43C00000#32) (ix2 t d) = _ from hn_eq H t d,
    show k0_pay62 X.c (ix2 t d) = _ from slc_eq H t d]
  simp only [H.dy, H.nw, H.sk, ← EReal.coe_mul, ← EReal.coe_add]; rfl

theorem dz_eq (t : Fin 128) (d : Fin 384) : dz X (ix2 t d) = ((R.dz t d : ℝ) : EReal) := by
  unfold dz v218 v207 v208
  pointwise [k0_pay112, k0_pay69, k0_pay67, k0_pay68]
  simp only [ydy_eq H, H.z, lit_half, ← EReal.coe_mul, Ideal.tanh_coe, ← EReal.coe_add, sg_tanh, ← EReal.coe_one, ← EReal.coe_sub]
  rfl

theorem dc_eq (t : Fin 128) (d : Fin 384) : dc X (ix2 t d) = ((R.dc t d : ℝ) : EReal) := by
  unfold dc v237
  pointwise [k0_pay71]
  simp only [p_eq H, H.c, H.sk, lit_half, ← EReal.coe_mul, Ideal.tanh_coe, ← EReal.coe_add, sg_tanh, ← EReal.coe_one, ← EReal.coe_sub]
  rfl

theorem dnw_eq (d : Fin 384) (o : Vec Ideal S1x1x384 .f32) (x : ℝ) (ho : o (ix3 0 0 d) = (x : EReal)) :
    dnwStep X o (ix3 0 0 d) = ((x + R.dnw d : ℝ) : EReal) := by
  unfold dnwStep v240
  pointwise [k0_pay113, k0_pay72]
  simp only [ho, hn_eq H, p_eq H, ← EReal.coe_mul, coe_sum, ← EReal.coe_add]; rfl

theorem dsk_eq (d : Fin 384) (o : Vec Ideal S1x1x384 .f32) (x : ℝ) (ho : o (ix3 0 0 d) = (x : EReal)) :
    dskStep X o (ix3 0 0 d) = ((x + R.dsk d : ℝ) : EReal) := by
  unfold dskStep v223
  pointwise [k0_pay1, k0_pay70]
  simp only [ho, slc_eq H, p_eq H, ← EReal.coe_mul, coe_sum, ← EReal.coe_add]; rfl

theorem g_eq (t : Fin 128) (d : Fin 384) : k0_pay73 X.nw (v204 X) (ix2 t d) = ((R.g t d : ℝ) : EReal) := by
  pointwise [k0_pay73]
  rw [p_eq H, H.nw, ← EReal.coe_mul]; rfl

theorem u_eq (t : Fin 128) (d : Fin 384) : v253 X (ix2 t d) = ((R.u t : ℝ) : EReal) := by
  unfold v253
  pointwise [k0_pay74, Fin.sum_univ_one]
  simp only [hc_eq H, g_eq H, rv_eq H, lit_384, ← EReal.coe_mul, coe_sum, div_coe ne384]; rfl

theorem w_eq (t : Fin 128) (d : Fin 384) :
    v255 X (ix2 t d) + v253 X (ix2 t d) * v161 X (ix2 t d) = ((R.w t d : ℝ) : EReal) := by
  unfold v255
  pointwise [k0_pay75]
  rw [show k0_pay74 X.nw (v161 X) (v172 X) (v204 X) (ix2 t d) = _ from u_eq H t d, u_eq H, hc_eq H, g_eq H, r_eq H]
  simp only [← EReal.coe_mul, ← EReal.coe_add]
  congr 1; unfold RBlk.w; ring

theorem dh_eq (t : Fin 128) (d : Fin 384) : v267 X (ix2 t d) = ((R.dh t d : ℝ) : EReal) := by
  unfold v267
  pointwise [k0_pay76, Fin.sum_univ_one]
  simp only [w_eq H, lit_384, zero_sub, ← EReal.coe_neg, coe_sum, div_coe ne384, ← EReal.coe_add]; rfl

theorem dnum_eq (t : Fin 128) (d : Fin 384) : v318 X (ix2 t d) = ((R.dnum t d : ℝ) : EReal) := by
  unfold v318
  pointwise [k0_pay90]
  rw [dh_eq H, binv_eq H, ← EReal.coe_mul, mul_one_div]; rfl

theorem dden_eq (t : Fin 128) :
    k0_pay91 (v101 X) (v112 X) (v123 X) (v128 X) (v267 X) (ix2 t 0) = ((R.dden t : ℝ) : EReal) := by
  pointwise [k0_pay91]
  simp only [num_eq H, dh_eq H, bbinv_eq H, tie_eq H, sgn_eq H, ← EReal.coe_mul, coe_sum, zero_sub, ← EReal.coe_neg, mul_one_div]
  have e : -(((∑ x, R.num t x * R.dh t x) / (R.b t * R.b t)) ) * R.tie t = R.da t := rfl
  by_cases h : 0 ≤ R.den t
  · simp [h, Scalar.select, RBlk.dden, e]
  · simp [h, Scalar.select, RBlk.dden, e]

theorem ds_eq (t s : Fin 128) : k0_pay101 (v94 X) (v318 X) (v344 X) (ix2 t s) = ((R.ds t s : ℝ) : EReal) := by
  unfold v94 v344
  pointwise [k0_pay101, k0_pay100, k0_pay34, k0_pay95, Fin.sum_univ_one]
  simp only [dden_eq H, dnum_eq H, H.v, ← EReal.coe_mul, coe_sum, ← EReal.coe_add]; rfl

theorem dq_eq (t : Fin 128) (d : Fin 384) : dq X (ix2 t d) = ((R.dq t d : ℝ) : EReal) := by
  unfold dq v369 v341 v352 v97 v90
  pointwise [k0_pay105, k0_pay103, k0_pay98, k0_pay97, k0_pay94, k0_pay92, k0_pay36, k0_pay30, Fin.sum_univ_one]
  have hn : ∀ e, k0_pay90 (v125 X) (v267 X) (ix2 t e) = ((R.dnum t e : ℝ) : EReal) := dnum_eq H t
  simp only [hn, dden_eq H, ds_eq H, wt_eq H, wp_eq H, nst_eq H, cst_eq H, H.k, lit_κ, ← EReal.coe_mul, coe_sum, ← EReal.coe_add]; rfl

end Cert.KVal

end
-- ==== Proof.RDef.lean ====
/- The values of the reference's run, one name each with its array type, and the operation that made each. -/
module

public import proofs.«01_k».proof.Proof.Spec
public import proofs.«01_k».proof.Proof.Gen.ReferenceIdeal.Run

@[expose] public section

set_option maxRecDepth 16384

noncomputable section

namespace Cert.RDef

open Cert.ReferenceIdeal Cert.ReferenceIdeal.Gen Cert.ReferenceIdeal.Value Idealize.ShloMosaic Idealize.ShloMosaic.TcCoe Idealize.SL.Sem Idealize.ShloMosaic.StableHlo

/-- A valuation of the reference's buffers by ideal contents. -/
abbrev Vl := Valuation τ sig (Elt Ideal)

/-- Argument 0. -/
def a0 (V : Vl) : FVec Ideal S4352x3072 .f32 := V (Proc.devRef .tc main_arg0)
/-- Argument 1. -/
def a1 (V : Vl) : FVec Ideal S4352x3072 .f32 := V (Proc.devRef .tc main_arg1)
/-- Argument 2. -/
def a2 (V : Vl) : FVec Ideal S4352x3072 .f32 := V (Proc.devRef .tc main_arg2)
/-- Argument 3. -/
def a3 (V : Vl) : FVec Ideal S4352x8 .f32 := V (Proc.devRef .tc main_arg3)
/-- Argument 4. -/
def a4 (V : Vl) : FVec Ideal S4352x8 .f32 := V (Proc.devRef .tc main_arg4)
/-- Argument 5. -/
def a5 (V : Vl) : FVec Ideal S4352x3072 .f32 := V (Proc.devRef .tc main_arg5)
/-- Argument 6. -/
def a6 (V : Vl) : FVec Ideal S4352x3072 .f32 := V (Proc.devRef .tc main_arg6)
/-- Argument 7. -/
def a7 (V : Vl) : FVec Ideal S1x3072 .f32 := V (Proc.devRef .tc main_arg7)
/-- Argument 8. -/
def a8 (V : Vl) : FVec Ideal S1x3072 .f32 := V (Proc.devRef .tc main_arg8)
/-- Argument 9. -/
def a9 (V : Vl) : FVec Ideal S34x8x384x384 .f32 := V (Proc.devRef .tc main_arg9)
/-- Argument 10. -/
def a10 (V : Vl) : FVec Ideal S34x8x1x384 .f32 := V (Proc.devRef .tc main_arg10)
/-- Argument 11. -/
def a11 (V : Vl) : FVec Ideal S34x8x1x1 .f32 := V (Proc.devRef .tc main_arg11)
/-- Argument 12. -/
def a12 (V : Vl) : FVec Ideal S4352x3072 .f32 := V (Proc.devRef .tc main_arg12)

/-- The keys. -/
def r0 (V : Vl) : FVec Ideal S34x128x8x384 .f32 := res_main_v0 V
theorem r0_def (V : Vl) : r0 V = shapeCast _ (a1 V) shapeCasts_S4352x3072_S34x128x8x384 := rfl
/-- The values. -/
def r1 (V : Vl) : FVec Ideal S34x128x8x384 .f32 := res_main_v1 V
theorem r1_def (V : Vl) : r1 V = shapeCast _ (a2 V) shapeCasts_S4352x3072_S34x128x8x384 := rfl
/-- The running gate sums. -/
def r5 (V : Vl) : FVec Ideal S34x128x8 .f32 := res_main_v5 V
theorem r5_def (V : Vl) : r5 V = shapeCast _ (shapeCast _ (a4 V) shapeCasts_S4352x8_S34x128x8x1) shapeCasts_S34x128x8x1_S34x128x8 := rfl
/-- The scaled queries. -/
def r10 (V : Vl) : FVec Ideal S34x128x8x384 .f32 := res_main_v10 V
theorem r10_def (V : Vl) : r10 V = mulf (shapeCast _ (a0 V) shapeCasts_S4352x3072_S34x128x8x384) (broadcastInDim S34x128x8x384 ![] bcast_S_S34x128x8x384 (constant S_ .f32 0x3D5105EC#32)) := rfl
/-- The masked log weights. -/
def r22 (V : Vl) : FVec Ideal S34x128x128x8 .f32 := res_main_v22 V
theorem r22_def (V : Vl) : r22 V = select (broadcastInDim S34x128x128x8 ![0, 1, 2, 3] bcast_S1x128x128x1_S34x128x128x8_0_1_2_3 (broadcastInDim S1x128x128x1 ![1, 2] bcast_S128x128_S1x128x128x1_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (addf (subf (broadcastInDim S34x128x128x8 ![0, 1, 2, 3] bcast_S34x128x1x8_S34x128x128x8_0_1_2_3 (broadcastInDim S34x128x1x8 ![0, 1, 3] bcast_S34x128x8_S34x128x1x8_0_1_3 (r5 V))) (broadcastInDim S34x128x128x8 ![0, 1, 2, 3] bcast_S34x1x128x8_S34x128x128x8_0_1_2_3 (broadcastInDim S34x1x128x8 ![0, 2, 3] bcast_S34x128x8_S34x1x128x8_0_2_3 (r5 V)))) (broadcastInDim S34x128x128x8 ![0, 1, 2, 3] bcast_S34x1x128x8_S34x128x128x8_0_1_2_3 (broadcastInDim S34x1x128x8 ![0, 2, 3] bcast_S34x128x8_S34x1x128x8_0_2_3 (shapeCast _ (shapeCast _ (a3 V) shapeCasts_S4352x8_S34x128x8x1) shapeCasts_S34x128x8x1_S34x128x8)))) (broadcastInDim S34x128x128x8 ![] bcast_S_S34x128x128x8 (id (constant S_ .f32 0xFF800000#32))) := rfl
/-- The log weight of the entering state. -/
def r25 (V : Vl) : FVec Ideal S34x128x8 .f32 := res_main_v25 V
theorem r25_def (V : Vl) : r25 V = addf (r5 V) (broadcastInDim S34x128x8 ![0, 1, 2] bcast_S34x1x8_S34x128x8_0_1_2 (broadcastInDim S34x1x8 ![0, 2] bcast_S34x8_S34x1x8_0_2 (shapeCast _ (a11 V) shapeCasts_S34x8x1x1_S34x8))) := rfl
/-- The stabiliser. -/
def r27 (V : Vl) : FVec Ideal S34x128x8 .f32 := res_main_v27 V
theorem r27_def (V : Vl) : r27 V = maximumf (r25 V) (Host.reduce FloatOps.maximumf (r22 V) (constant S_ .f32 0xFF800000#32) reducesTo_S34x128x128x8_S34x128x8_d2 h_S_) := rfl
/-- The weights. -/
def r31 (V : Vl) : FVec Ideal S34x128x128x8 .f32 := res_main_v31 V
theorem r31_def (V : Vl) : r31 V = Host.exp (subf (r22 V) (broadcastInDim S34x128x128x8 ![0, 1, 2, 3] bcast_S34x128x1x8_S34x128x128x8_0_1_2_3 (broadcastInDim S34x128x1x8 ![0, 1, 3] bcast_S34x128x8_S34x128x1x8_0_1_3 (r27 V)))) := rfl
/-- The weight of the entering state. -/
def r33 (V : Vl) : FVec Ideal S34x128x8 .f32 := res_main_v33 V
theorem r33_def (V : Vl) : r33 V = Host.exp (subf (r25 V) (r27 V)) := rfl
/-- The weighted scores. -/
def r36 (V : Vl) : FVec Ideal S34x128x128x8 .f32 := res_main_v36 V
theorem r36_def (V : Vl) : r36 V = mulf (transpose S34x128x128x8 [0, 3, 2, 1] (Host.dotGeneral dot_S34x128x8x384_S34x128x8x384_S34x8x128x128_3_3_1_1_02_02 none (r0 V) (r10 V)) transposes_S34x8x128x128_S34x128x128x8_0_3_2_1) (r31 V) := rfl
/-- The weight of the entering state, a column. -/
def r39 (V : Vl) : FVec Ideal S34x128x8x1 .f32 := res_main_v39 V
theorem r39_def (V : Vl) : r39 V = broadcastInDim S34x128x8x1 ![0, 1, 2] bcast_S34x128x8_S34x128x8x1_0_1_2 (r33 V) := rfl
/-- The numerator. -/
def r44 (V : Vl) : FVec Ideal S34x128x8x384 .f32 := res_main_v44 V
theorem r44_def (V : Vl) : r44 V = addf (transpose S34x128x8x384 [0, 3, 1, 2] (Host.dotGeneral dot_S34x128x8x384_S34x128x128x8_S34x8x384x128_1_2_3_1_02_03 none (r1 V) (r36 V)) transposes_S34x8x384x128_S34x128x8x384_0_3_1_2) (mulf (broadcastInDim S34x128x8x384 ![0, 1, 2, 3] bcast_S34x128x8x1_S34x128x8x384_0_1_2_3 (r39 V)) (transpose S34x128x8x384 [0, 3, 1, 2] (Host.dotGeneral dot_S34x8x384x384_S34x128x8x384_S34x8x384x128_2_3_3_1_01_02 none (a9 V) (r10 V)) transposes_S34x8x384x128_S34x128x8x384_0_3_1_2)) := rfl
/-- The entering normaliser. -/
def r46 (V : Vl) : FVec Ideal S34x1x8x384 .f32 := res_main_v46 V
theorem r46_def (V : Vl) : r46 V = broadcastInDim S34x1x8x384 ![0, 2, 3] bcast_S34x8x384_S34x1x8x384_0_2_3 (shapeCast _ (a10 V) shapeCasts_S34x8x1x384_S34x8x384) := rfl
/-- The denominator. -/
def r51 (V : Vl) : FVec Ideal S34x128x8 .f32 := res_main_v51 V
theorem r51_def (V : Vl) : r51 V = addf (Host.reduceAdd (r36 V) (constant S_ .f32 0x00000000#32) reducesTo_S34x128x128x8_S34x128x8_d2 h_S_) (mulf (r33 V) (Host.reduceAdd (mulf (r10 V) (broadcastInDim S34x128x8x384 ![0, 1, 2, 3] bcast_S34x1x8x384_S34x128x8x384_0_1_2_3 (r46 V))) (constant S_ .f32 0x00000000#32) reducesTo_S34x128x8x384_S34x128x8_d3 h_S_)) := rfl
/-- Its absolute value. -/
def r52 (V : Vl) : FVec Ideal S34x128x8 .f32 := res_main_v52 V
theorem r52_def (V : Vl) : r52 V = Host.absf (r51 V) := rfl
/-- Whether it is not negative. -/
def r54 (V : Vl) : Vec Ideal S34x128x8 .i1 := res_main_v54 V
theorem r54_def (V : Vl) : r54 V = cmpf .oge (r51 V) (broadcastInDim S34x128x8 ![] bcast_S_S34x128x8 (constant S_ .f32 0x00000000#32)) := rfl
/-- The lower bound. -/
def r56 (V : Vl) : FVec Ideal S34x128x8 .f32 := res_main_v56 V
theorem r56_def (V : Vl) : r56 V = Host.exp (Host.negf (r27 V)) := rfl
/-- The divisor. -/
def r65 (V : Vl) : FVec Ideal S34x128x8x1 .f32 := res_main_v65 V
theorem r65_def (V : Vl) : r65 V = broadcastInDim S34x128x8x1 ![0, 1, 2] bcast_S34x128x8_S34x128x8x1_0_1_2 (maximumf (r52 V) (r56 V)) := rfl
/-- The head output. -/
def r67 (V : Vl) : FVec Ideal S34x128x8x384 .f32 := res_main_v67 V
theorem r67_def (V : Vl) : r67 V = Host.divf (r44 V) (broadcastInDim S34x128x8x384 ![0, 1, 2, 3] bcast_S34x128x8x1_S34x128x8x384_0_1_2_3 (r65 V)) := rfl
/-- Its mean. -/
def r74 (V : Vl) : FVec Ideal S34x128x8x1 .f32 := res_main_v74 V
theorem r74_def (V : Vl) : r74 V = Host.divf (broadcastInDim S34x128x8x1 ![0, 1, 2] bcast_S34x128x8_S34x128x8x1_0_1_2 (Host.reduceAdd (r67 V) (constant S_ .f32 0x00000000#32) reducesTo_S34x128x8x384_S34x128x8_d3 h_S_)) (broadcastInDim S34x128x8x1 ![] bcast_S_S34x128x8x1 (constant S_ .f32 0x43C00000#32)) := rfl
/-- Its deviation. -/
def r76 (V : Vl) : FVec Ideal S34x128x8x384 .f32 := res_main_v76 V
theorem r76_def (V : Vl) : r76 V = subf (r67 V) (broadcastInDim S34x128x8x384 ![0, 1, 2, 3] bcast_S34x128x8x1_S34x128x8x384_0_1_2_3 (r74 V)) := rfl
/-- Its deviation. -/
def r85 (V : Vl) : FVec Ideal S34x128x8x384 .f32 := res_main_v85 V
theorem r85_def (V : Vl) : r85 V = subf (r67 V) (broadcastInDim S34x128x8x384 ![0, 1, 2, 3] bcast_S34x128x8x1_S34x128x8x384_0_1_2_3 (r74 V)) := rfl
/-- Its variance. -/
def r87 (V : Vl) : FVec Ideal S34x128x8x1 .f32 := res_main_v87 V
theorem r87_def (V : Vl) : r87 V = addf (Host.divf (broadcastInDim S34x128x8x1 ![0, 1, 2] bcast_S34x128x8_S34x128x8x1_0_1_2 (Host.reduceAdd (mulf (r76 V) (r76 V)) (constant S_ .f32 0x00000000#32) reducesTo_S34x128x8x384_S34x128x8_d3 h_S_)) (broadcastInDim S34x128x8x1 ![] bcast_S_S34x128x8x1 (constant S_ .f32 0x43C00000#32))) (broadcastInDim S34x128x8x1 ![] bcast_S_S34x128x8x1 (constant S_ .f32 0x3727C5AC#32)) := rfl
/-- The inverse deviation. -/
def r88 (V : Vl) : FVec Ideal S34x128x8x1 .f32 := res_main_v88 V
theorem r88_def (V : Vl) : r88 V = Host.rsqrt (r87 V) := rfl
/-- The normalised head. -/
def r93 (V : Vl) : FVec Ideal S34x128x8x384 .f32 := res_main_v93 V
theorem r93_def (V : Vl) : r93 V = mulf (r85 V) (broadcastInDim S34x128x8x384 ![0, 1, 2, 3] bcast_S34x128x8x1_S34x128x8x384_0_1_2_3 (r88 V)) := rfl
/-- The norm weight. -/
def r95 (V : Vl) : FVec Ideal S1x1x8x384 .f32 := res_main_v95 V
theorem r95_def (V : Vl) : r95 V = broadcastInDim S1x1x8x384 ![2, 3] bcast_S8x384_S1x1x8x384_2_3 (shapeCast _ (a7 V) shapeCasts_S1x3072_S8x384) := rfl
/-- The gate of the convolution output. -/
def r99_2 (V : Vl) : FVec Ideal S4352x3072 .f32 := res_main_v99_2 V
theorem r99_2_def (V : Vl) : r99_2 V = Host.divf (broadcastInDim S4352x3072 ![] bcast_S_S4352x3072 (constant S_ .f32 0x3F800000#32)) (addf (broadcastInDim S4352x3072 ![] bcast_S_S4352x3072 (constant S_ .f32 0x3F800000#32)) (Host.exp (Host.negf (a5 V)))) := rfl
/-- Its silu. -/
def r99_0 (V : Vl) : FVec Ideal S4352x3072 .f32 := res_main_v99_0 V
theorem r99_0_def (V : Vl) : r99_0 V = mulf (a5 V) (r99_2 V) := rfl
/-- The mixer output. -/
def r102 (V : Vl) : FVec Ideal S4352x3072 .f32 := res_main_v102 V
theorem r102_def (V : Vl) : r102 V = addf (shapeCast _ (mulf (r93 V) (broadcastInDim S34x128x8x384 ![0, 1, 2, 3] bcast_S1x1x8x384_S34x128x8x384_0_1_2_3 (r95 V))) shapeCasts_S34x128x8x384_S4352x3072) (mulf (broadcastInDim S4352x3072 ![0, 1] bcast_S1x3072_S4352x3072_0_1 (a8 V)) (r99_0 V)) := rfl
/-- The output gate. -/
def r103_2 (V : Vl) : FVec Ideal S4352x3072 .f32 := res_main_v103_2 V
theorem r103_2_def (V : Vl) : r103_2 V = Host.divf (broadcastInDim S4352x3072 ![] bcast_S_S4352x3072 (constant S_ .f32 0x3F800000#32)) (addf (broadcastInDim S4352x3072 ![] bcast_S_S4352x3072 (constant S_ .f32 0x3F800000#32)) (Host.exp (Host.negf (a6 V)))) := rfl
/-- Its silu. -/
def r103_0 (V : Vl) : FVec Ideal S4352x3072 .f32 := res_main_v103_0 V
theorem r103_0_def (V : Vl) : r103_0 V = mulf (a6 V) (r103_2 V) := rfl
/-- The cotangent of the output gate. -/
def r105 (V : Vl) : FVec Ideal S4352x3072 .f32 := res_main_v105 V
theorem r105_def (V : Vl) : r105 V = mulf (r102 V) (a12 V) := rfl
/-- The cotangent of the mixer before the gate. -/
def r106 (V : Vl) : FVec Ideal S4352x3072 .f32 := res_main_v106 V
theorem r106_def (V : Vl) : r106 V = mulf (a12 V) (r103_0 V) := rfl
/-- The cotangent of the silu. -/
def r109 (V : Vl) : FVec Ideal S4352x3072 .f32 := res_main_v109 V
theorem r109_def (V : Vl) : r109 V = mulf (broadcastInDim S4352x3072 ![0, 1] bcast_S1x3072_S4352x3072_0_1 (a8 V)) (r106 V) := rfl
/-- A value of the gradient. -/
def r114 (V : Vl) : FVec Ideal S34x128x8x384 .f32 := res_main_v114 V
theorem r114_def (V : Vl) : r114 V = shapeCast _ (r106 V) shapeCasts_S4352x3072_S34x128x8x384 := rfl
/-- A value of the gradient. -/
def r119 (V : Vl) : FVec Ideal S34x128x8x384 .f32 := res_main_v119 V
theorem r119_def (V : Vl) : r119 V = mulf (r114 V) (broadcastInDim S34x128x8x384 ![0, 1, 2, 3] bcast_S1x1x8x384_S34x128x8x384_0_1_2_3 (r95 V)) := rfl
/-- A value of the gradient. -/
def r126 (V : Vl) : FVec Ideal S34x128x8x384 .f32 := res_main_v126 V
theorem r126_def (V : Vl) : r126 V = mulf (r119 V) (broadcastInDim S34x128x8x384 ![0, 1, 2, 3] bcast_S34x128x8x1_S34x128x8x384_0_1_2_3 (r88 V)) := rfl
/-- A value of the gradient. -/
def r135 (V : Vl) : FVec Ideal S34x128x8x384 .f32 := res_main_v135 V
theorem r135_def (V : Vl) : r135 V = mulf (broadcastInDim S34x128x8x384 ![0, 1, 2] bcast_S34x128x8_S34x128x8x384_0_1_2 (Host.reduceAdd (Host.divf (mulf (shapeCast _ (Host.reduceAdd (mulf (r85 V) (r119 V)) (constant S_ .f32 0x00000000#32) reducesTo_S34x128x8x384_S34x128x8_d3 h_S_) shapeCasts_S34x128x8_S34x128x8x1) (mulf (broadcastInDim S34x128x8x1 ![] bcast_S_S34x128x8x1 (constant S_ .f32 0xBF000000#32)) (Host.divf (r88 V) (r87 V)))) (broadcastInDim S34x128x8x1 ![] bcast_S_S34x128x8x1 (constant S_ .f32 0x43C00000#32))) (constant S_ .f32 0x00000000#32) reducesTo_S34x128x8x1_S34x128x8_d3 h_S_)) (mulf (broadcastInDim S34x128x8x384 ![] bcast_S_S34x128x8x384 (constant S_ .f32 0x40000000#32)) (r76 V)) := rfl
/-- A value of the gradient. -/
def r145 (V : Vl) : FVec Ideal S34x128x8x384 .f32 := res_main_v145 V
theorem r145_def (V : Vl) : r145 V = addf (addf (r126 V) (r135 V)) (broadcastInDim S34x128x8x384 ![0, 1, 2] bcast_S34x128x8_S34x128x8x384_0_1_2 (Host.reduceAdd (Host.divf (addf (shapeCast _ (Host.reduceAdd (Host.negf (r126 V)) (constant S_ .f32 0x00000000#32) reducesTo_S34x128x8x384_S34x128x8_d3 h_S_) shapeCasts_S34x128x8_S34x128x8x1) (shapeCast _ (Host.reduceAdd (Host.negf (r135 V)) (constant S_ .f32 0x00000000#32) reducesTo_S34x128x8x384_S34x128x8_d3 h_S_) shapeCasts_S34x128x8_S34x128x8x1)) (broadcastInDim S34x128x8x1 ![] bcast_S_S34x128x8x1 (constant S_ .f32 0x43C00000#32))) (constant S_ .f32 0x00000000#32) reducesTo_S34x128x8x1_S34x128x8_d3 h_S_)) := rfl
/-- A value of the gradient. -/
def r153 (V : Vl) : FVec Ideal S34x128x8x384 .f32 := res_main_v153 V
theorem r153_def (V : Vl) : r153 V = Host.divf (r145 V) (broadcastInDim S34x128x8x384 ![0, 1, 2, 3] bcast_S34x128x8x1_S34x128x8x384_0_1_2_3 (r65 V)) := rfl
/-- A value of the gradient. -/
def r155 (V : Vl) : FVec Ideal S34x128x8 .f32 := res_main_v155 V
theorem r155_def (V : Vl) : r155 V = mulf (Host.reduceAdd (Host.negf (shapeCast _ (Host.reduceAdd (mulf (mulf (r145 V) (broadcastInDim S34x128x8x384 ![0, 1, 2, 3] bcast_S34x128x8x1_S34x128x8x384_0_1_2_3 (Host.divf (broadcastInDim S34x128x8x1 ![] bcast_S_S34x128x8x1 (constant S_ .f32 0x3F800000#32)) (mulf (r65 V) (r65 V))))) (r44 V)) (constant S_ .f32 0x00000000#32) reducesTo_S34x128x8x384_S34x128x8_d3 h_S_) shapeCasts_S34x128x8_S34x128x8x1)) (constant S_ .f32 0x00000000#32) reducesTo_S34x128x8x1_S34x128x8_d3 h_S_) (select (cmpf .ogt (r52 V) (r56 V)) (broadcastInDim S34x128x8 ![] bcast_S_S34x128x8 (constant S_ .f32 0x3F800000#32)) (select (cmpf .oeq (r52 V) (r56 V)) (broadcastInDim S34x128x8 ![] bcast_S_S34x128x8 (constant S_ .f32 0x3F000000#32)) (broadcastInDim S34x128x8 ![] bcast_S_S34x128x8 (constant S_ .f32 0x00000000#32)))) := rfl
/-- A value of the gradient. -/
def r156 (V : Vl) : FVec Ideal S34x128x8 .f32 := res_main_v156 V
theorem r156_def (V : Vl) : r156 V = broadcastInDim S34x128x8 ![] bcast_S_S34x128x8 (constant S_ .f32 0x00000000#32) := rfl
/-- A value of the gradient. -/
def r160 (V : Vl) : FVec Ideal S34x128x8 .f32 := res_main_v160 V
theorem r160_def (V : Vl) : r160 V = addf (select (r54 V) (r155 V) (r156 V)) (Host.negf (select (r54 V) (r156 V) (r155 V))) := rfl
/-- The gradient of the queries. -/
def rdq (V : Vl) : FVec Ideal S4352x3072 .f32 := shapeCast _ (mulf (addf (addf (mulf (broadcastInDim S34x128x8x384 ![0, 1, 2] bcast_S34x128x8_S34x128x8x384_0_1_2 (mulf (r33 V) (r160 V))) (broadcastInDim S34x128x8x384 ![0, 1, 2, 3] bcast_S34x1x8x384_S34x128x8x384_0_1_2_3 (r46 V))) (transpose S34x128x8x384 [0, 2, 1, 3] (Host.dotGeneral dot_S34x8x384x128_S34x8x384x384_S34x8x128x384_2_3_3_2_01_01 none (transpose S34x8x384x128 [0, 2, 3, 1] (mulf (broadcastInDim S34x128x8x384 ![0, 1, 2, 3] bcast_S34x128x8x1_S34x128x8x384_0_1_2_3 (r39 V)) (r153 V)) transposes_S34x128x8x384_S34x8x384x128_0_2_3_1) (a9 V)) transposes_S34x8x128x384_S34x128x8x384_0_2_1_3)) (transpose S34x128x8x384 [0, 2, 1, 3] (Host.dotGeneral dot_S34x8x128x128_S34x128x8x384_S34x8x128x384_2_1_3_3_01_02 none (transpose S34x8x128x128 [0, 3, 2, 1] (mulf (addf (broadcastInDim S34x128x128x8 ![0, 1, 3] bcast_S34x128x8_S34x128x128x8_0_1_3 (r160 V)) (transpose S34x128x128x8 [0, 2, 3, 1] (Host.dotGeneral dot_S34x8x384x128_S34x128x8x384_S34x8x128x128_2_3_3_1_01_02 none (transpose S34x8x384x128 [0, 2, 3, 1] (r153 V) transposes_S34x128x8x384_S34x8x384x128_0_2_3_1) (r1 V)) transposes_S34x8x128x128_S34x128x128x8_0_2_3_1)) (r31 V)) transposes_S34x128x128x8_S34x8x128x128_0_3_2_1) (r0 V)) transposes_S34x8x128x384_S34x128x8x384_0_2_1_3)) (broadcastInDim S34x128x8x384 ![] bcast_S_S34x128x8x384 (constant S_ .f32 0x3D5105EC#32))) shapeCasts_S34x128x8x384_S4352x3072
/-- The gradient of the convolution output. -/
def rdc (V : Vl) : FVec Ideal S4352x3072 .f32 := addf (mulf (r109 V) (r99_2 V)) (mulf (mulf (a5 V) (r109 V)) (mulf (r99_2 V) (subf (broadcastInDim S4352x3072 ![] bcast_S_S4352x3072 (constant S_ .f32 0x3F800000#32)) (r99_2 V))))
/-- The gradient of the gate. -/
def rdz (V : Vl) : FVec Ideal S4352x3072 .bf16 := truncf .bf16 (addf (mulf (r105 V) (r103_2 V)) (mulf (mulf (a6 V) (r105 V)) (mulf (r103_2 V) (subf (broadcastInDim S4352x3072 ![] bcast_S_S4352x3072 (constant S_ .f32 0x3F800000#32)) (r103_2 V))))) bitsLt_bf16_f32
/-- The gradient of the norm weight. -/
def rdnw (V : Vl) : FVec Ideal S8x1x384 .f32 := shapeCast _ (shapeCast _ (Host.reduceAdd (shapeCast _ (Host.reduceAdd (mulf (r93 V) (r114 V)) (constant S_ .f32 0x00000000#32) reducesTo_S34x128x8x384_S8x384_d0_1 h_S_) shapeCasts_S8x384_S1x1x8x384) (constant S_ .f32 0x00000000#32) reducesTo_S1x1x8x384_S8x384_d0_1 h_S_) shapeCasts_S8x384_S1x3072) shapeCasts_S1x3072_S8x1x384
/-- The gradient of the skip weight. -/
def rdsk (V : Vl) : FVec Ideal S8x1x384 .f32 := shapeCast _ (shapeCast _ (Host.reduceAdd (mulf (r106 V) (r99_0 V)) (constant S_ .f32 0x00000000#32) reducesTo_S4352x3072_S3072_d0 h_S_ : FVec Ideal S3072 .f32) shapeCasts_S3072_S1x3072) shapeCasts_S1x3072_S8x1x384

/-- The reference's run, its results by the names above and its arguments unchanged. -/
theorem run_full (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v183) = rdq (launchContents m c)
      ∧ r.2.mem ((c.tc : Thread nD τ).loc main_v113) = rdc (launchContents m c)
      ∧ r.2.mem ((c.tc : Thread nD τ).loc main_v184) = rdz (launchContents m c)
      ∧ r.2.mem ((c.tc : Thread nD τ).loc main_v185) = rdnw (launchContents m c)
      ∧ r.2.mem ((c.tc : Thread nD τ).loc main_v186) = rdsk (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run _ _ _).mono (fun _ h c => ⟨(h c).1, (h c).2.1, (h c).2.2.1, (h c).2.2.2.1, (h c).2.2.2.2.1, (h c).2.2.2.2.2⟩) (run m ρ)

end Cert.RDef

end
-- ==== Proof.RVal1.lean ====
/- The reference at real inputs, read at an index: the weights, the products and the two parts of the head. -/
module

public import proofs.«01_k».proof.Proof.RDef

@[expose] public section

set_option maxRecDepth 16384

noncomputable section

namespace Cert.RVal

open Idealize.ShloMosaic Cert.ReferenceIdeal Cert.ReferenceIdeal.Gen Cert.RDef Cert.Spec

/-- The row of the flat arrays that holds row `t` of chunk `b`. -/
abbrev ro (b : Fin 34) (t : Fin 128) : Fin 4352 := ⟨b.val * 128 + t.val, by omega⟩
/-- The column of the flat arrays that holds entry `d` of head `h`. -/
abbrev co (h : Fin 8) (d : Fin 384) : Fin 3072 := ⟨h.val * 384 + d.val, by omega⟩

/-- The argument arrays hold, chunk by chunk and head by head, the reals of `R`. -/
structure Args (R : Fin 34 → Fin 8 → RBlk) (V : Vl) : Prop where
  q : ∀ b t h d, a0 V (ix2 (ro b t) (co h d)) = (((R b h).q t d : ℝ) : EReal)
  k : ∀ b t h d, a1 V (ix2 (ro b t) (co h d)) = (((R b h).k t d : ℝ) : EReal)
  v : ∀ b t h d, a2 V (ix2 (ro b t) (co h d)) = (((R b h).v t d : ℝ) : EReal)
  ig : ∀ b t h, a3 V (ix2 (ro b t) h) = (((R b h).ig t : ℝ) : EReal)
  bc : ∀ b t h, a4 V (ix2 (ro b t) h) = (((R b h).bc t : ℝ) : EReal)
  c : ∀ b t h d, a5 V (ix2 (ro b t) (co h d)) = (((R b h).c t d : ℝ) : EReal)
  z : ∀ b t h d, a6 V (ix2 (ro b t) (co h d)) = (((R b h).z t d : ℝ) : EReal)
  nw : ∀ b h d, a7 V (ix2 0 (co h d)) = (((R b h).nw d : ℝ) : EReal)
  sk : ∀ b h d, a8 V (ix2 0 (co h d)) = (((R b h).sk d : ℝ) : EReal)
  cs : ∀ b h d e, a9 V (ix4 b h d e) = (((R b h).cs d e : ℝ) : EReal)
  ns : ∀ b h d, a10 V (ix4 b h 0 d) = (((R b h).ns d : ℝ) : EReal)
  m : ∀ b h, a11 V (ix4 b h 0 0) = (((R b h).m : ℝ) : EReal)
  dy : ∀ b t h d, a12 V (ix2 (ro b t) (co h d)) = (((R b h).dy t d : ℝ) : EReal)

theorem sel_one {α : Type} (x y : α) : Scalar.select 1#1 x y = x := rfl
theorem sel_zero {α : Type} (x y : α) : Scalar.select 0#1 x y = y := rfl

theorem sge_eq (t s : Fin 128) :
    IntOp.cmpi .sge (IntOp.addi (BitVec.ofNat 32 t.val) 0#32) (BitVec.ofNat 32 s.val) = if s ≤ t then 1#1 else 0#1 := by
  have h : ∀ n : Fin 128, (BitVec.ofNat 32 n.val).toInt = (n.val : ℤ) := by decide
  have e : IntOp.addi (BitVec.ofNat 32 t.val) 0#32 = BitVec.ofNat 32 t.val := BitVec.add_zero _
  rw [e]
  show BitVec.ofBool (BitVec.sle _ _) = _
  rw [BitVec.sle_eq_decide, h, h]
  by_cases hh : s ≤ t
  · rw [if_pos hh, decide_eq_true (by exact_mod_cast hh)]; rfl
  · rw [if_neg hh, decide_eq_false (by exact_mod_cast hh)]; rfl

/-- The largest log weight over the keys. -/
theorem foldS (x : FVec Ideal S34x128x128x8 .f32) (y : FVec Ideal S_ .f32) (b : Fin 34) (t : Fin 128) (h : Fin 8) :
   Host.reduce FloatOps.maximumf x y reducesTo_S34x128x128x8_S34x128x8_d2 h_S_ (ix3 b t h) =
     Finset.univ.fold max (y ix0) (fun s => x (ix4 b t s h)) := by
  have e : Shape.Idx.first h_S_ = ix0 := Subsingleton.elim _ _
  pointwise
  rw [e]

theorem r27_at (V : Vl) (b : Fin 34) (t : Fin 128) (h : Fin 8) :
    r27 V (ix3 b t h) = max (r25 V (ix3 b t h)) (Finset.univ.fold max (Ideal.ofBits .f32 0xFF800000#32) (fun s => r22 V (ix4 b t s h))) := by
  rw [r27_def]
  show max (r25 V (ix3 b t h)) (Host.reduce FloatOps.maximumf (r22 V) (constant S_ .f32 0xFF800000#32) reducesTo_S34x128x128x8_S34x128x8_d2 h_S_ (ix3 b t h)) = _
  rw [foldS]; rfl

variable {R : Fin 34 → Fin 8 → RBlk} {V : Vl} (H : Args R V)
include H

theorem k_eq (b t h d) : r0 V (ix4 b t h d) = (((R b h).k t d : ℝ) : EReal) := by
  rw [r0_def]; pointwise
  exact H.k b t h d

theorem v_eq (b t h d) : r1 V (ix4 b t h d) = (((R b h).v t d : ℝ) : EReal) := by
  rw [r1_def]; pointwise
  exact H.v b t h d

theorem bc_eq (b t h) : r5 V (ix3 b t h) = (((R b h).bc t : ℝ) : EReal) := by
  rw [r5_def]; pointwise
  exact H.bc b t h

theorem qs_eq (b t h d) : r10 V (ix4 b t h d) = (((R b h).qs t d : ℝ) : EReal) := by
  rw [r10_def]; pointwise
  rw [show a0 V _ = _ from H.q b t h d, lit_κ, ← EReal.coe_mul]; rfl

/-- The masked log weights. -/
theorem dm_eq (b t s h) : r22 V (ix4 b t s h) = if s ≤ t then (((R b h).dm t s : ℝ) : EReal) else ⊥ := by
  rw [r22_def]; pointwise
  rw [sge_eq, bc_eq H, bc_eq H, show a3 V _ = _ from H.ig b s h]
  split
  · rw [sel_one, sel_one, ← EReal.coe_sub, ← EReal.coe_add]; rfl
  · rw [sel_zero, sel_zero]; exact lit_bot

theorem inter_eq (b t h) : r25 V (ix3 b t h) = (((R b h).inter t : ℝ) : EReal) := by
  rw [r25_def]; pointwise
  rw [bc_eq H, H.m, ← EReal.coe_add]; rfl

theorem mt_eq (b t h) : r27 V (ix3 b t h) = (((R b h).mt t : ℝ) : EReal) := by
  rw [r27_at]
  simp only [inter_eq H, dm_eq H, lit_bot]
  exact (R b h).mtE_eq t

theorem wt_eq (b t s h) : r31 V (ix4 b t s h) = (((R b h).wt t s : ℝ) : EReal) := by
  rw [r31_def]; pointwise
  simp only [mt_eq H, dm_eq H, RBlk.wt]
  split
  · rw [← EReal.coe_sub, Ideal.exp_coe]
  · rw [EReal.bot_sub, Ideal.exp_bot]; rfl

theorem wp_eq (b t h) : r33 V (ix3 b t h) = (((R b h).wp t : ℝ) : EReal) := by
  rw [r33_def]; pointwise
  simp only [mt_eq H, inter_eq H, RBlk.wp]
  rw [← EReal.coe_sub, Ideal.exp_coe]

theorem sc_eq (b t s h) : r36 V (ix4 b t s h) = (((R b h).sc t s : ℝ) : EReal) := by
  rw [r36_def]; pointwise
  simp only [wt_eq H, k_eq H, qs_eq H, ← EReal.coe_mul, coe_sum]
  congr 1; unfold RBlk.sc RBlk.qk
  congr 1; exact Finset.sum_congr rfl fun d _ => mul_comm _ _

theorem wpc_eq (b t h) : r39 V (ix4 b t h 0) = (((R b h).wp t : ℝ) : EReal) := by
  rw [r39_def]; pointwise
  exact wp_eq H b t h

theorem num_eq (b t h e) : r44 V (ix4 b t h e) = (((R b h).num t e : ℝ) : EReal) := by
  rw [r44_def]; pointwise
  simp only [v_eq H, sc_eq H, wpc_eq H, qs_eq H, H.cs, ← EReal.coe_mul, coe_sum, ← EReal.coe_add]
  congr 1; unfold RBlk.num
  congr 1
  · exact Finset.sum_congr rfl fun d _ => mul_comm _ _
  · congr 1; exact Finset.sum_congr rfl fun d _ => mul_comm _ _

theorem ns_eq (b h d) : r46 V (ix4 b 0 h d) = (((R b h).ns d : ℝ) : EReal) := by
  rw [r46_def]; pointwise
  exact H.ns b h d

theorem den_eq (b t h) : r51 V (ix3 b t h) = (((R b h).den t : ℝ) : EReal) := by
  rw [r51_def]; pointwise
  simp only [sc_eq H, wp_eq H, qs_eq H, ns_eq H, ← EReal.coe_mul, coe_sum, ← EReal.coe_add]; rfl

theorem aden_eq (b t h) : r52 V (ix3 b t h) = ((|(R b h).den t| : ℝ) : EReal) := by
  rw [r52_def]; pointwise
  simp only [den_eq H]
  show max (((R b h).den t : ℝ) : EReal) (-(((R b h).den t : ℝ) : EReal)) = _
  rw [← EReal.coe_neg, maximum_coe, abs_eq_max_neg]

theorem sgn_eq (b t h) : r54 V (ix3 b t h) = if 0 ≤ (R b h).den t then 1#1 else 0#1 := by
  rw [r54_def]; pointwise
  simp only [den_eq H]
  by_cases h' : 0 ≤ (R b h).den t
  · rw [if_pos h', decide_eq_true (by exact_mod_cast h')]; rfl
  · rw [if_neg h', decide_eq_false (by exact_mod_cast h')]; rfl

theorem lo_eq (b t h) : r56 V (ix3 b t h) = (((R b h).lo t : ℝ) : EReal) := by
  rw [r56_def]; pointwise
  simp only [mt_eq H]
  rw [← EReal.coe_neg, Ideal.exp_coe]; rfl

theorem b_eq (b t h) : r65 V (ix4 b t h 0) = (((R b h).b t : ℝ) : EReal) := by
  rw [r65_def]; pointwise
  rw [aden_eq H, lo_eq H, maximum_coe]; rfl

end Cert.RVal

end
-- ==== Proof.KRel.lean ====
/- The blocks the kernel reads at a grid point, as entries of the argument arrays: grid point `t` takes head `t % 8` of chunk
   `(t / 136) * 17 + 16 - t / 8 % 17`, each sequence's chunks from the last to the first. -/
module

public import proofs.«01_k».proof.Proof.Frame
public import proofs.«01_k».proof.Proof.KVal2
public import proofs.«01_k».proof.Proof.RVal1
public import Idealize.ShloMosaic.Lib.StableHlo.ReadAt

@[expose] public section

set_option maxRecDepth 16384

noncomputable section

namespace Cert.KArr

open Idealize.ShloMosaic Idealize.ShloMosaic.TcCoe Cert.KernelIdeal Cert.KernelIdeal.Gen Cert.Chain Cert.Spec Cert.Body
open Cert.RVal (ro co)

theorem lt_N (t : Fin cfg0.N) : t.val < 272 := lt_of_lt_of_eq t.isLt N_0

/-- The chunk of a grid point. -/
def ch (t : Fin cfg0.N) : Fin 34 := ⟨t.val / 136 * 17 + 16 - t.val / 8 % 17, by have := lt_N t; omega⟩
/-- The head of a grid point. -/
def hd (t : Fin cfg0.N) : Fin 8 := ⟨t.val % 8, by omega⟩

theorem ch_val (t : Fin cfg0.N) : (ch t).val = t.val / 136 * 17 + 16 - t.val / 8 % 17 := rfl
theorem hd_val (t : Fin cfg0.N) : (hd t).val = t.val % 8 := rfl

theorem wi0 : ∀ t : Fin cfg0.N, win0_0.index t 0 = t.val / 136 * 17 + 16 - t.val / 8 % 17 ∧ win0_0.index t 1 = t.val % 8 := by decide +kernel
theorem wi1 : ∀ t : Fin cfg0.N, win0_1.index t 0 = t.val / 136 * 17 + 16 - t.val / 8 % 17 ∧ win0_1.index t 1 = t.val % 8 := by decide +kernel
theorem wi2 : ∀ t : Fin cfg0.N, win0_2.index t 0 = t.val / 136 * 17 + 16 - t.val / 8 % 17 ∧ win0_2.index t 1 = t.val % 8 := by decide +kernel
theorem wi5 : ∀ t : Fin cfg0.N, win0_5.index t 0 = t.val / 136 * 17 + 16 - t.val / 8 % 17 ∧ win0_5.index t 1 = t.val % 8 := by decide +kernel
theorem wi6 : ∀ t : Fin cfg0.N, win0_6.index t 0 = t.val / 136 * 17 + 16 - t.val / 8 % 17 ∧ win0_6.index t 1 = t.val % 8 := by decide +kernel
theorem wi12 : ∀ t : Fin cfg0.N, win0_12.index t 0 = t.val / 136 * 17 + 16 - t.val / 8 % 17 ∧ win0_12.index t 1 = t.val % 8 := by decide +kernel
theorem wi13 : ∀ t : Fin cfg0.N, win0_13.index t 0 = t.val / 136 * 17 + 16 - t.val / 8 % 17 ∧ win0_13.index t 1 = t.val % 8 := by decide +kernel
theorem wi16 : ∀ t : Fin cfg0.N, win0_16.index t 0 = t.val / 136 * 17 + 16 - t.val / 8 % 17 ∧ win0_16.index t 1 = t.val % 8 := by decide +kernel
theorem wi17 : ∀ t : Fin cfg0.N, win0_17.index t 0 = t.val / 136 * 17 + 16 - t.val / 8 % 17 ∧ win0_17.index t 1 = t.val % 8 := by decide +kernel
theorem wi7 : ∀ t : Fin cfg0.N, win0_7.index t 0 = 0 ∧ win0_7.index t 1 = t.val % 8 := by decide +kernel
theorem wi8 : ∀ t : Fin cfg0.N, win0_8.index t 0 = 0 ∧ win0_8.index t 1 = t.val % 8 := by decide +kernel
theorem wic : ∀ t : Fin cfg0.N, win0_3.index t 0 = t.val % 8 ∧ win0_3.index t 1 = t.val / 136 * 17 + 16 - t.val / 8 % 17 ∧ win0_3.index t 2 = 0 := by decide +kernel
theorem wir : ∀ t : Fin cfg0.N, win0_4.index t 0 = t.val / 136 * 17 + 16 - t.val / 8 % 17 ∧ win0_4.index t 1 = t.val % 8 ∧ win0_4.index t 2 = 0 ∧ win0_4.index t 3 = 0 := by decide +kernel
theorem wi9 : ∀ t : Fin cfg0.N, win0_9.index t 0 = t.val / 136 * 17 + 16 - t.val / 8 % 17 ∧ win0_9.index t 1 = t.val % 8 ∧ win0_9.index t 2 = 0 ∧ win0_9.index t 3 = 0 := by decide +kernel
theorem wi10 : ∀ t : Fin cfg0.N, win0_10.index t 0 = t.val / 136 * 17 + 16 - t.val / 8 % 17 ∧ win0_10.index t 1 = t.val % 8 ∧ win0_10.index t 2 = 0 ∧ win0_10.index t 3 = 0 := by decide +kernel
theorem wi11 : ∀ t : Fin cfg0.N, win0_11.index t 0 = t.val / 136 * 17 + 16 - t.val / 8 % 17 ∧ win0_11.index t 1 = t.val % 8 ∧ win0_11.index t 2 = 0 ∧ win0_11.index t 3 = 0 := by decide +kernel

variable (m : (ℓ : Loc nD τ sig) → Buf (Elt Ideal) ℓ)

theorem blk0_at (c : Dev nD) (t : Fin cfg0.N) (r : Fin 128) (d : Fin 384) :
    (iblk m c 0 t) (ix2 r d) = V m c main_arg0 (ix2 (ro (ch t) r) (co (hd t) d)) := by
  have hi := wi0 t
  have hc := ch_val t
  unfold iblk
  rw [View.read_apply]
  show V m c main_arg0 _ = _
  congr 1
  funext a
  apply Fin.ext
  match a with
  | ⟨0, _⟩ =>
    show win0_0.index t 0 * 128 + 1 * r.val = (ch t).val * 128 + r.val
    rw [hi.1]; all_goals omega
  | ⟨1, _⟩ =>
    show win0_0.index t 1 * 384 + 1 * d.val = t.val % 8 * 384 + d.val
    rw [hi.2]; all_goals omega

theorem blk1_at (c : Dev nD) (t : Fin cfg0.N) (r : Fin 128) (d : Fin 384) :
    (iblk m c 1 t) (ix2 r d) = V m c main_arg1 (ix2 (ro (ch t) r) (co (hd t) d)) := by
  have hi := wi1 t
  have hc := ch_val t
  unfold iblk
  rw [View.read_apply]
  show V m c main_arg1 _ = _
  congr 1
  funext a
  apply Fin.ext
  match a with
  | ⟨0, _⟩ =>
    show win0_1.index t 0 * 128 + 1 * r.val = (ch t).val * 128 + r.val
    rw [hi.1]; all_goals omega
  | ⟨1, _⟩ =>
    show win0_1.index t 1 * 384 + 1 * d.val = t.val % 8 * 384 + d.val
    rw [hi.2]; all_goals omega

theorem blk2_at (c : Dev nD) (t : Fin cfg0.N) (r : Fin 128) (d : Fin 384) :
    (iblk m c 2 t) (ix2 r d) = V m c main_arg2 (ix2 (ro (ch t) r) (co (hd t) d)) := by
  have hi := wi2 t
  have hc := ch_val t
  unfold iblk
  rw [View.read_apply]
  show V m c main_arg2 _ = _
  congr 1
  funext a
  apply Fin.ext
  match a with
  | ⟨0, _⟩ =>
    show win0_2.index t 0 * 128 + 1 * r.val = (ch t).val * 128 + r.val
    rw [hi.1]; all_goals omega
  | ⟨1, _⟩ =>
    show win0_2.index t 1 * 384 + 1 * d.val = t.val % 8 * 384 + d.val
    rw [hi.2]; all_goals omega

theorem blk5_at (c : Dev nD) (t : Fin cfg0.N) (r : Fin 128) (d : Fin 384) :
    (iblk m c 5 t) (ix2 r d) = V m c main_arg5 (ix2 (ro (ch t) r) (co (hd t) d)) := by
  have hi := wi5 t
  have hc := ch_val t
  unfold iblk
  rw [View.read_apply]
  show V m c main_arg5 _ = _
  congr 1
  funext a
  apply Fin.ext
  match a with
  | ⟨0, _⟩ =>
    show win0_5.index t 0 * 128 + 1 * r.val = (ch t).val * 128 + r.val
    rw [hi.1]; all_goals omega
  | ⟨1, _⟩ =>
    show win0_5.index t 1 * 384 + 1 * d.val = t.val % 8 * 384 + d.val
    rw [hi.2]; all_goals omega

theorem blk6_at (c : Dev nD) (t : Fin cfg0.N) (r : Fin 128) (d : Fin 384) :
    (iblk m c 6 t) (ix2 r d) = V m c main_arg6 (ix2 (ro (ch t) r) (co (hd t) d)) := by
  have hi := wi6 t
  have hc := ch_val t
  unfold iblk
  rw [View.read_apply]
  show V m c main_arg6 _ = _
  congr 1
  funext a
  apply Fin.ext
  match a with
  | ⟨0, _⟩ =>
    show win0_6.index t 0 * 128 + 1 * r.val = (ch t).val * 128 + r.val
    rw [hi.1]; all_goals omega
  | ⟨1, _⟩ =>
    show win0_6.index t 1 * 384 + 1 * d.val = t.val % 8 * 384 + d.val
    rw [hi.2]; all_goals omega

theorem blk12_at (c : Dev nD) (t : Fin cfg0.N) (r : Fin 128) (d : Fin 384) :
    (iblk m c 12 t) (ix2 r d) = V m c main_arg12 (ix2 (ro (ch t) r) (co (hd t) d)) := by
  have hi := wi12 t
  have hc := ch_val t
  unfold iblk
  rw [View.read_apply]
  show V m c main_arg12 _ = _
  congr 1
  funext a
  apply Fin.ext
  match a with
  | ⟨0, _⟩ =>
    show win0_12.index t 0 * 128 + 1 * r.val = (ch t).val * 128 + r.val
    rw [hi.1]; all_goals omega
  | ⟨1, _⟩ =>
    show win0_12.index t 1 * 384 + 1 * d.val = t.val % 8 * 384 + d.val
    rw [hi.2]; all_goals omega

theorem blk7_at (c : Dev nD) (t : Fin cfg0.N) (d : Fin 384) :
    (iblk m c 7 t) (ix2 0 d) = V m c main_arg7 (ix2 0 (co (hd t) d)) := by
  have hi := wi7 t
  have hc := ch_val t
  unfold iblk
  rw [View.read_apply]
  show V m c main_arg7 _ = _
  congr 1
  funext a
  apply Fin.ext
  match a with
  | ⟨0, _⟩ =>
    show win0_7.index t 0 * 1 + 1 * 0 = 0
    rw [hi.1]; all_goals omega
  | ⟨1, _⟩ =>
    show win0_7.index t 1 * 384 + 1 * d.val = t.val % 8 * 384 + d.val
    rw [hi.2]; all_goals omega

theorem blk8_at (c : Dev nD) (t : Fin cfg0.N) (d : Fin 384) :
    (iblk m c 8 t) (ix2 0 d) = V m c main_arg8 (ix2 0 (co (hd t) d)) := by
  have hi := wi8 t
  have hc := ch_val t
  unfold iblk
  rw [View.read_apply]
  show V m c main_arg8 _ = _
  congr 1
  funext a
  apply Fin.ext
  match a with
  | ⟨0, _⟩ =>
    show win0_8.index t 0 * 1 + 1 * 0 = 0
    rw [hi.1]; all_goals omega
  | ⟨1, _⟩ =>
    show win0_8.index t 1 * 384 + 1 * d.val = t.val % 8 * 384 + d.val
    rw [hi.2]; all_goals omega

theorem blk9_at (c : Dev nD) (t : Fin cfg0.N) (d e : Fin 384) :
    (iblk m c 9 t) (ix4 0 0 d e) = V m c main_arg9 (ix4 (ch t) (hd t) d e) := by
  have hi := wi9 t
  have hc := ch_val t
  unfold iblk
  rw [View.read_apply]
  show V m c main_arg9 _ = _
  congr 1
  funext a
  apply Fin.ext
  match a with
  | ⟨0, _⟩ =>
    show win0_9.index t 0 * 1 + 1 * 0 = (ch t).val
    rw [hi.1]; all_goals omega
  | ⟨1, _⟩ =>
    show win0_9.index t 1 * 1 + 1 * 0 = t.val % 8
    rw [hi.2.1]; all_goals omega
  | ⟨2, _⟩ =>
    show win0_9.index t 2 * 384 + 1 * d.val = d.val
    rw [hi.2.2.1]; all_goals omega
  | ⟨3, _⟩ =>
    show win0_9.index t 3 * 384 + 1 * e.val = e.val
    rw [hi.2.2.2]; all_goals omega

theorem blk10_at (c : Dev nD) (t : Fin cfg0.N) (d : Fin 384) :
    (iblk m c 10 t) (ix4 0 0 0 d) = V m c main_arg10 (ix4 (ch t) (hd t) 0 d) := by
  have hi := wi10 t
  have hc := ch_val t
  unfold iblk
  rw [View.read_apply]
  show V m c main_arg10 _ = _
  congr 1
  funext a
  apply Fin.ext
  match a with
  | ⟨0, _⟩ =>
    show win0_10.index t 0 * 1 + 1 * 0 = (ch t).val
    rw [hi.1]; all_goals omega
  | ⟨1, _⟩ =>
    show win0_10.index t 1 * 1 + 1 * 0 = t.val % 8
    rw [hi.2.1]; all_goals omega
  | ⟨2, _⟩ =>
    show win0_10.index t 2 * 1 + 1 * 0 = 0
    rw [hi.2.2.1]; all_goals omega
  | ⟨3, _⟩ =>
    show win0_10.index t 3 * 384 + 1 * d.val = d.val
    rw [hi.2.2.2]; all_goals omega

theorem blk11_at (c : Dev nD) (t : Fin cfg0.N)  :
    (iblk m c 11 t) (ix4 0 0 0 0) = V m c main_arg11 (ix4 (ch t) (hd t) 0 0) := by
  have hi := wi11 t
  have hc := ch_val t
  unfold iblk
  rw [View.read_apply]
  show V m c main_arg11 _ = _
  congr 1
  funext a
  apply Fin.ext
  match a with
  | ⟨0, _⟩ =>
    show win0_11.index t 0 * 1 + 1 * 0 = (ch t).val
    rw [hi.1]; all_goals omega
  | ⟨1, _⟩ =>
    show win0_11.index t 1 * 1 + 1 * 0 = t.val % 8
    rw [hi.2.1]; all_goals omega
  | ⟨2, _⟩ =>
    show win0_11.index t 2 * 1 + 1 * 0 = 0
    rw [hi.2.2.1]; all_goals omega
  | ⟨3, _⟩ =>
    show win0_11.index t 3 * 1 + 1 * 0 = 0
    rw [hi.2.2.2]; all_goals omega

theorem blk3_at (c : Dev nD) (t : Fin cfg0.N) (r : Fin 128) (e : Fin 2) :
    (iblk m c 3 t) (ix3 0 r e) = V m c main_v3 (ix3 (hd t) (ro (ch t) r) e) := by
  have hi := wic t
  have hc := ch_val t
  unfold iblk
  rw [View.read_apply]
  show V m c main_v3 _ = _
  congr 1
  funext a
  apply Fin.ext
  match a with
  | ⟨0, _⟩ =>
    show win0_3.index t 0 * 1 + 1 * 0 = t.val % 8
    rw [hi.1]; all_goals omega
  | ⟨1, _⟩ =>
    show win0_3.index t 1 * 128 + 1 * r.val = (ch t).val * 128 + r.val
    rw [hi.2.1]; all_goals omega
  | ⟨2, _⟩ =>
    show win0_3.index t 2 * 2 + 1 * e.val = e.val
    rw [hi.2.2]; all_goals omega

theorem blk4_at (c : Dev nD) (t : Fin cfg0.N) (e : Fin 2) (r : Fin 128) :
    (iblk m c 4 t) (ix4 0 0 e r) = V m c main_v5 (ix4 (ch t) (hd t) e r) := by
  have hi := wir t
  have hc := ch_val t
  unfold iblk
  rw [View.read_apply]
  show V m c main_v5 _ = _
  congr 1
  funext a
  apply Fin.ext
  match a with
  | ⟨0, _⟩ =>
    show win0_4.index t 0 * 1 + 1 * 0 = (ch t).val
    rw [hi.1]; all_goals omega
  | ⟨1, _⟩ =>
    show win0_4.index t 1 * 1 + 1 * 0 = t.val % 8
    rw [hi.2.1]; all_goals omega
  | ⟨2, _⟩ =>
    show win0_4.index t 2 * 2 + 1 * e.val = e.val
    rw [hi.2.2.1]; all_goals omega
  | ⟨3, _⟩ =>
    show win0_4.index t 3 * 128 + 1 * r.val = r.val
    rw [hi.2.2.2]; all_goals omega

theorem col0 (c : Dev nD) (h : Fin 8) (r : Fin 4352) : V m c main_v3 (ix3 h r 0) = m ((c : Thread nD τ).loc main_arg3) (ix2 r h) := by
  unfold V
  after_reads_at
  after_reads_at
theorem col1 (c : Dev nD) (h : Fin 8) (r : Fin 4352) : V m c main_v3 (ix3 h r 1) = m ((c : Thread nD τ).loc main_arg4) (ix2 r h) := by
  unfold V
  after_reads_at
  after_reads_at
theorem row0 (c : Dev nD) (b : Fin 34) (h : Fin 8) (r : Fin 128) : V m c main_v5 (ix4 b h 0 r) = m ((c : Thread nD τ).loc main_arg3) (ix2 (ro b r) h) := by
  unfold V
  after_reads_at
  after_reads_at
theorem row1 (c : Dev nD) (b : Fin 34) (h : Fin 8) (r : Fin 128) : V m c main_v5 (ix4 b h 1 r) = m ((c : Thread nD τ).loc main_arg4) (ix2 (ro b r) h) := by
  unfold V
  after_reads_at
  after_reads_at

end Cert.KArr

end
-- ==== Proof.KFinal.lean ====
/- What the kernel's five claimed result arrays end holding: at real arguments, each chunk's and head's gradient at its
   place, and for the two weights the sum over the chunks. -/
module

public import proofs.«01_k».proof.Proof.KRel
public import Idealize.ShloMosaic.Lib.Pipeline.Value

@[expose] public section

set_option maxRecDepth 16384

noncomputable section

namespace Cert.KArr

open Idealize.ShloMosaic Idealize.ShloMosaic.TcCoe Cert.KernelIdeal Cert.KernelIdeal.Gen Cert.Chain Cert.Spec Cert.Body
open Idealize.ShloMosaic.Pipeline (Dat)
open Cert.RVal (ro co)

variable (m : (ℓ : Loc nD τ sig) → Buf (Elt Ideal) ℓ)

abbrev arg0 (c : Dev nD) : FVec Ideal S4352x3072 .f32 := m ((c : Thread nD τ).loc main_arg0)
abbrev arg1 (c : Dev nD) : FVec Ideal S4352x3072 .f32 := m ((c : Thread nD τ).loc main_arg1)
abbrev arg2 (c : Dev nD) : FVec Ideal S4352x3072 .f32 := m ((c : Thread nD τ).loc main_arg2)
abbrev arg3 (c : Dev nD) : FVec Ideal S4352x8 .f32 := m ((c : Thread nD τ).loc main_arg3)
abbrev arg4 (c : Dev nD) : FVec Ideal S4352x8 .f32 := m ((c : Thread nD τ).loc main_arg4)
abbrev arg5 (c : Dev nD) : FVec Ideal S4352x3072 .f32 := m ((c : Thread nD τ).loc main_arg5)
abbrev arg6 (c : Dev nD) : FVec Ideal S4352x3072 .f32 := m ((c : Thread nD τ).loc main_arg6)
abbrev arg7 (c : Dev nD) : FVec Ideal S1x3072 .f32 := m ((c : Thread nD τ).loc main_arg7)
abbrev arg8 (c : Dev nD) : FVec Ideal S1x3072 .f32 := m ((c : Thread nD τ).loc main_arg8)
abbrev arg9 (c : Dev nD) : FVec Ideal S34x8x384x384 .f32 := m ((c : Thread nD τ).loc main_arg9)
abbrev arg10 (c : Dev nD) : FVec Ideal S34x8x1x384 .f32 := m ((c : Thread nD τ).loc main_arg10)
abbrev arg11 (c : Dev nD) : FVec Ideal S34x8x1x1 .f32 := m ((c : Thread nD τ).loc main_arg11)
abbrev arg12 (c : Dev nD) : FVec Ideal S4352x3072 .f32 := m ((c : Thread nD τ).loc main_arg12)

/-- Every element of the argument arrays is a real number. -/
structure IsReal (c : Dev nD) : Prop where
  a0 : ∀ i, ∃ r : ℝ, arg0 m c i = (r : EReal)
  a1 : ∀ i, ∃ r : ℝ, arg1 m c i = (r : EReal)
  a2 : ∀ i, ∃ r : ℝ, arg2 m c i = (r : EReal)
  a3 : ∀ i, ∃ r : ℝ, arg3 m c i = (r : EReal)
  a4 : ∀ i, ∃ r : ℝ, arg4 m c i = (r : EReal)
  a5 : ∀ i, ∃ r : ℝ, arg5 m c i = (r : EReal)
  a6 : ∀ i, ∃ r : ℝ, arg6 m c i = (r : EReal)
  a7 : ∀ i, ∃ r : ℝ, arg7 m c i = (r : EReal)
  a8 : ∀ i, ∃ r : ℝ, arg8 m c i = (r : EReal)
  a9 : ∀ i, ∃ r : ℝ, arg9 m c i = (r : EReal)
  a10 : ∀ i, ∃ r : ℝ, arg10 m c i = (r : EReal)
  a11 : ∀ i, ∃ r : ℝ, arg11 m c i = (r : EReal)
  a12 : ∀ i, ∃ r : ℝ, arg12 m c i = (r : EReal)

theorem toReal_of {x : EReal} (h : ∃ r : ℝ, x = (r : EReal)) : x = ((x.toReal : ℝ) : EReal) := by
  obtain ⟨r, rfl⟩ := h; rw [EReal.toReal_coe]

/-- The reals of chunk `b` and head `h`, read off the argument arrays. -/
def Rof (c : Dev nD) (b : Fin 34) (h : Fin 8) : RBlk where
  q t d := EReal.toReal (arg0 m c (ix2 (ro b t) (co h d)))
  k t d := EReal.toReal (arg1 m c (ix2 (ro b t) (co h d)))
  v t d := EReal.toReal (arg2 m c (ix2 (ro b t) (co h d)))
  ig t := EReal.toReal (arg3 m c (ix2 (ro b t) h))
  bc t := EReal.toReal (arg4 m c (ix2 (ro b t) h))
  c t d := EReal.toReal (arg5 m c (ix2 (ro b t) (co h d)))
  z t d := EReal.toReal (arg6 m c (ix2 (ro b t) (co h d)))
  nw d := EReal.toReal (arg7 m c (ix2 0 (co h d)))
  sk d := EReal.toReal (arg8 m c (ix2 0 (co h d)))
  cs d e := EReal.toReal (arg9 m c (ix4 b h d e))
  ns d := EReal.toReal (arg10 m c (ix4 b h 0 d))
  m := EReal.toReal (arg11 m c (ix4 b h 0 0))
  dy t d := EReal.toReal (arg12 m c (ix2 (ro b t) (co h d)))

variable {m}

/-- The blocks of a grid point hold the reals of its chunk and head. -/
theorem rel {c : Dev nD} (hr : IsReal m c) (t : Fin cfg0.N) : KVal.Rel (blk m c t) (Rof m c (ch t) (hd t)) where
  q r d := by
    show iblk m c 0 t (ix2 r d) = _
    rw [blk0_at, V_main_arg0]
    exact toReal_of (hr.a0 _)
  k r d := by
    show iblk m c 1 t (ix2 r d) = _
    rw [blk1_at, V_main_arg1]
    exact toReal_of (hr.a1 _)
  v r d := by
    show iblk m c 2 t (ix2 r d) = _
    rw [blk2_at, V_main_arg2]
    exact toReal_of (hr.a2 _)
  colI r := by
    show iblk m c 3 t (ix3 0 r 0) = _
    rw [blk3_at, col0]
    exact toReal_of (hr.a3 _)
  colB r := by
    show iblk m c 3 t (ix3 0 r 1) = _
    rw [blk3_at, col1]
    exact toReal_of (hr.a4 _)
  rowI r := by
    show iblk m c 4 t (ix4 0 0 0 r) = _
    rw [blk4_at, row0]
    exact toReal_of (hr.a3 _)
  rowB r := by
    show iblk m c 4 t (ix4 0 0 1 r) = _
    rw [blk4_at, row1]
    exact toReal_of (hr.a4 _)
  c r d := by
    show iblk m c 5 t (ix2 r d) = _
    rw [blk5_at, V_main_arg5]
    exact toReal_of (hr.a5 _)
  z r d := by
    show iblk m c 6 t (ix2 r d) = _
    rw [blk6_at, V_main_arg6]
    exact toReal_of (hr.a6 _)
  nw d := by
    show iblk m c 7 t (ix2 0 d) = _
    rw [blk7_at, V_main_arg7]
    exact toReal_of (hr.a7 _)
  sk d := by
    show iblk m c 8 t (ix2 0 d) = _
    rw [blk8_at, V_main_arg8]
    exact toReal_of (hr.a8 _)
  cs d e := by
    show iblk m c 9 t (ix4 0 0 d e) = _
    rw [blk9_at, V_main_arg9]
    exact toReal_of (hr.a9 _)
  ns d := by
    show iblk m c 10 t (ix4 0 0 0 d) = _
    rw [blk10_at, V_main_arg10]
    exact toReal_of (hr.a10 _)
  m := by
    show iblk m c 11 t (ix4 0 0 0 0) = _
    rw [blk11_at, V_main_arg11]
    exact toReal_of (hr.a11 _)
  dy r d := by
    show iblk m c 12 t (ix2 r d) = _
    rw [blk12_at, V_main_arg12]
    exact toReal_of (hr.a12 _)

/-- The grid point that takes head `h` of chunk `b`. -/
def pt (b : Fin 34) (h : Fin 8) : Fin cfg0.N := ⟨b.val / 17 * 136 + (16 - b.val % 17) * 8 + h.val, by rw [show cfg0.N = 272 from N_0]; omega⟩

theorem pt_iff (t : Fin cfg0.N) (b : Fin 34) (h : Fin 8) : t = pt b h ↔ ch t = b ∧ hd t = h := by
  have ht := lt_N t
  have hp : (pt b h).val = b.val / 17 * 136 + (16 - b.val % 17) * 8 + h.val := rfl
  rw [Fin.ext_iff, Fin.ext_iff, Fin.ext_iff, hp, ch_val, hd_val]
  omega

theorem ch_pt (b : Fin 34) (h : Fin 8) : ch (pt b h) = b := ((pt_iff _ b h).mp rfl).1
theorem hd_pt (b : Fin 34) (h : Fin 8) : hd (pt b h) = h := ((pt_iff _ b h).mp rfl).2

/-- The gradient of the queries ends as the array that holds each chunk's and head's gradient at its place. -/
theorem final13 {c : Dev nD} (hr : IsReal m c) (G : Buf (Elt Ideal) ((c : Thread nD τ).loc main_v6_0))
    (hG : ∀ b r h d, G (ix2 (ro b r) (co h d)) = (((Rof m c b h).dq r d : ℝ) : EReal)) : (dats m 0 c).arrAt 13 cfg0.N = G := by
  refine (dats m 0 c).arrAt_eq_of_cover 13 G (fun t hf => ?_) (fun i => ?_)
  · have hi := wi13 t
    have hc := ch_val t
    show (cfg0.win 13).cut (grid0.coords t) ((dats m 0 c).after 13 t) = _
    rw [after_13]
    funext j
    rw [View.read_apply]
    show dq (blk m c t) j = G _
    obtain ⟨r, d, rfl⟩ : ∃ (r : Fin 128) (d : Fin 384), j = ix2 r d := ⟨j 0, j 1, funext fun a => by match a with | ⟨0, _⟩ => rfl | ⟨1, _⟩ => rfl⟩
    rw [KVal.dq_eq (rel hr t) r d, ← hG]
    congr 1
    funext a
    apply Fin.ext
    match a with
    | ⟨0, _⟩ =>
      show (ch t).val * 128 + r.val = win0_13.index t 0 * 128 + 1 * r.val
      rw [hi.1]; all_goals omega
    | ⟨1, _⟩ =>
      show t.val % 8 * 384 + d.val = win0_13.index t 1 * 384 + 1 * d.val
      rw [hi.2]; all_goals omega
  · have h0 : (i 0 : Nat) < 4352 := (i 0).isLt
    have h1 : (i 1 : Nat) < 3072 := (i 1).isLt
    refine ⟨pt ⟨(i 0 : Nat) / 128, by omega⟩ ⟨(i 1 : Nat) / 384, by omega⟩, flush0_13 _, ?_⟩
    generalize hb : (⟨(i 0 : Nat) / 128, by omega⟩ : Fin 34) = b
    generalize hh : (⟨(i 1 : Nat) / 384, by omega⟩ : Fin 8) = h
    have hb' : (i 0 : Nat) / 128 = b.val := congrArg Fin.val hb
    have hh' : (i 1 : Nat) / 384 = h.val := congrArg Fin.val hh
    have hi := wi13 (pt b h)
    have hc := ch_val (pt b h)
    have hd' := hd_val (pt b h)
    rw [← hc, ch_pt] at hi
    rw [← hd', hd_pt] at hi
    show i ∈ ((View.whole main_v6_0).slice (win0_13.rect (pt b h))).set
    rw [View.set_slice_whole, Rect.mem_set_unit]
    intro a
    match a with
    | ⟨0, _⟩ =>
      show win0_13.index (pt b h) 0 * 128 ≤ (i 0 : Nat) ∧ (i 0 : Nat) < win0_13.index (pt b h) 0 * 128 + 128
      rw [hi.1]; omega
    | ⟨1, _⟩ =>
      show win0_13.index (pt b h) 1 * 384 ≤ (i 1 : Nat) ∧ (i 1 : Nat) < win0_13.index (pt b h) 1 * 384 + 384
      rw [hi.2]; omega

/-- The gradient of the convolution output ends as the array that holds each chunk's and head's gradient at its place. -/
theorem final16 {c : Dev nD} (hr : IsReal m c) (G : Buf (Elt Ideal) ((c : Thread nD τ).loc main_v6_3))
    (hG : ∀ b r h d, G (ix2 (ro b r) (co h d)) = (((Rof m c b h).dc r d : ℝ) : EReal)) : (dats m 0 c).arrAt 16 cfg0.N = G := by
  refine (dats m 0 c).arrAt_eq_of_cover 16 G (fun t hf => ?_) (fun i => ?_)
  · have hi := wi16 t
    have hc := ch_val t
    show (cfg0.win 16).cut (grid0.coords t) ((dats m 0 c).after 16 t) = _
    rw [after_16]
    funext j
    rw [View.read_apply]
    show dc (blk m c t) j = G _
    obtain ⟨r, d, rfl⟩ : ∃ (r : Fin 128) (d : Fin 384), j = ix2 r d := ⟨j 0, j 1, funext fun a => by match a with | ⟨0, _⟩ => rfl | ⟨1, _⟩ => rfl⟩
    rw [KVal.dc_eq (rel hr t) r d, ← hG]
    congr 1
    funext a
    apply Fin.ext
    match a with
    | ⟨0, _⟩ =>
      show (ch t).val * 128 + r.val = win0_16.index t 0 * 128 + 1 * r.val
      rw [hi.1]; all_goals omega
    | ⟨1, _⟩ =>
      show t.val % 8 * 384 + d.val = win0_16.index t 1 * 384 + 1 * d.val
      rw [hi.2]; all_goals omega
  · have h0 : (i 0 : Nat) < 4352 := (i 0).isLt
    have h1 : (i 1 : Nat) < 3072 := (i 1).isLt
    refine ⟨pt ⟨(i 0 : Nat) / 128, by omega⟩ ⟨(i 1 : Nat) / 384, by omega⟩, flush0_16 _, ?_⟩
    generalize hb : (⟨(i 0 : Nat) / 128, by omega⟩ : Fin 34) = b
    generalize hh : (⟨(i 1 : Nat) / 384, by omega⟩ : Fin 8) = h
    have hb' : (i 0 : Nat) / 128 = b.val := congrArg Fin.val hb
    have hh' : (i 1 : Nat) / 384 = h.val := congrArg Fin.val hh
    have hi := wi16 (pt b h)
    have hc := ch_val (pt b h)
    have hd' := hd_val (pt b h)
    rw [← hc, ch_pt] at hi
    rw [← hd', hd_pt] at hi
    show i ∈ ((View.whole main_v6_3).slice (win0_16.rect (pt b h))).set
    rw [View.set_slice_whole, Rect.mem_set_unit]
    intro a
    match a with
    | ⟨0, _⟩ =>
      show win0_16.index (pt b h) 0 * 128 ≤ (i 0 : Nat) ∧ (i 0 : Nat) < win0_16.index (pt b h) 0 * 128 + 128
      rw [hi.1]; omega
    | ⟨1, _⟩ =>
      show win0_16.index (pt b h) 1 * 384 ≤ (i 1 : Nat) ∧ (i 1 : Nat) < win0_16.index (pt b h) 1 * 384 + 384
      rw [hi.2]; omega

/-- The gradient of the output gate ends as the array that holds each chunk's and head's gradient at its place. -/
theorem final17 {c : Dev nD} (hr : IsReal m c) (G : Buf (Elt Ideal) ((c : Thread nD τ).loc main_v6_4))
    (hG : ∀ b r h d, G (ix2 (ro b r) (co h d)) = (((Rof m c b h).dz r d : ℝ) : EReal)) : (dats m 0 c).arrAt 17 cfg0.N = G := by
  refine (dats m 0 c).arrAt_eq_of_cover 17 G (fun t hf => ?_) (fun i => ?_)
  · have hi := wi17 t
    have hc := ch_val t
    show (cfg0.win 17).cut (grid0.coords t) ((dats m 0 c).after 17 t) = _
    rw [after_17]
    funext j
    rw [View.read_apply]
    show dz (blk m c t) j = G _
    obtain ⟨r, d, rfl⟩ : ∃ (r : Fin 128) (d : Fin 384), j = ix2 r d := ⟨j 0, j 1, funext fun a => by match a with | ⟨0, _⟩ => rfl | ⟨1, _⟩ => rfl⟩
    rw [KVal.dz_eq (rel hr t) r d, ← hG]
    congr 1
    funext a
    apply Fin.ext
    match a with
    | ⟨0, _⟩ =>
      show (ch t).val * 128 + r.val = win0_17.index t 0 * 128 + 1 * r.val
      rw [hi.1]; all_goals omega
    | ⟨1, _⟩ =>
      show t.val % 8 * 384 + d.val = win0_17.index t 1 * 384 + 1 * d.val
      rw [hi.2]; all_goals omega
  · have h0 : (i 0 : Nat) < 4352 := (i 0).isLt
    have h1 : (i 1 : Nat) < 3072 := (i 1).isLt
    refine ⟨pt ⟨(i 0 : Nat) / 128, by omega⟩ ⟨(i 1 : Nat) / 384, by omega⟩, flush0_17 _, ?_⟩
    generalize hb : (⟨(i 0 : Nat) / 128, by omega⟩ : Fin 34) = b
    generalize hh : (⟨(i 1 : Nat) / 384, by omega⟩ : Fin 8) = h
    have hb' : (i 0 : Nat) / 128 = b.val := congrArg Fin.val hb
    have hh' : (i 1 : Nat) / 384 = h.val := congrArg Fin.val hh
    have hi := wi17 (pt b h)
    have hc := ch_val (pt b h)
    have hd' := hd_val (pt b h)
    rw [← hc, ch_pt] at hi
    rw [← hd', hd_pt] at hi
    show i ∈ ((View.whole main_v6_4).slice (win0_17.rect (pt b h))).set
    rw [View.set_slice_whole, Rect.mem_set_unit]
    intro a
    match a with
    | ⟨0, _⟩ =>
      show win0_17.index (pt b h) 0 * 128 ≤ (i 0 : Nat) ∧ (i 0 : Nat) < win0_17.index (pt b h) 0 * 128 + 128
      rw [hi.1]; omega
    | ⟨1, _⟩ =>
      show win0_17.index (pt b h) 1 * 384 ≤ (i 1 : Nat) ∧ (i 1 : Nat) < win0_17.index (pt b h) 1 * 384 + 384
      rw [hi.2]; omega

/-! ## The two weights: one row a head, added to at each of its chunks. -/

theorem off4 (t : Fin cfg0.N) : k0_off4 (grid0.coords t) = ![t.val % 8, 0, 0] := by
  have h : ∀ t : Fin cfg0.N, ∀ a, k0_off4 (grid0.coords t) a = ![t.val % 8, 0, 0] a := by decide +kernel
  exact funext (h t)

/-- The row of the point's head is replaced, the other heads' rows kept. -/
theorem accPut_at (t : Fin cfg0.N) (step : FVec Ideal S1x1x384 .f32 → FVec Ideal S1x1x384 .f32) (x : FVec Ideal S8x1x384 .f32) (h : Fin 8) (d : Fin 384) :
    (h = hd t → ∃ o : FVec Ideal S1x1x384 .f32, (∀ d, o (ix3 0 0 d) = x (ix3 h 0 d)) ∧ accPut (F := Ideal) (grid0.coords t) step x (ix3 h 0 d) = step o (ix3 0 0 d))
    ∧ (h ≠ hd t → accPut (F := Ideal) (grid0.coords t) step x (ix3 h 0 d) = x (ix3 h 0 d)) := by
  have ho := off4 t
  have o0 : k0_off4 (grid0.coords t) 0 = t.val % 8 := congrFun ho 0
  have o1 : k0_off4 (grid0.coords t) 1 = 0 := congrFun ho 1
  have o2 : k0_off4 (grid0.coords t) 2 = 0 := congrFun ho 2
  refine ⟨fun hh => ?_, fun hh => ?_⟩
  · have hv : h.val = t.val % 8 := by rw [hh]; rfl
    refine ⟨VecWindow.window x (k0_off4 (grid0.coords t)) S1x1x384.size (k0_off4_inb (grid0.coords t)), fun d => ?_, ?_⟩
    · show x _ = x _
      congr 1
      funext a
      apply Fin.ext
      match a with
      | ⟨0, _⟩ => show k0_off4 (grid0.coords t) 0 + 1 * 0 = h.val; omega
      | ⟨1, _⟩ => show k0_off4 (grid0.coords t) 1 + 1 * 0 = 0; omega
      | ⟨2, _⟩ => show k0_off4 (grid0.coords t) 2 + 1 * d.val = d.val; omega
    · unfold accPut
      have hin : ∀ a, k0_off4 (grid0.coords t) a ≤ ((ix3 h (0 : Fin 1) d : S8x1x384.Idx) a).val
          ∧ ((ix3 h (0 : Fin 1) d : S8x1x384.Idx) a).val < k0_off4 (grid0.coords t) a + S1x1x384.size a := fun a => by
        match a with
        | ⟨0, _⟩ => show k0_off4 (grid0.coords t) 0 ≤ h.val ∧ h.val < k0_off4 (grid0.coords t) 0 + 1; omega
        | ⟨1, _⟩ => show k0_off4 (grid0.coords t) 1 ≤ 0 ∧ 0 < k0_off4 (grid0.coords t) 1 + 1; omega
        | ⟨2, _⟩ => show k0_off4 (grid0.coords t) 2 ≤ d.val ∧ d.val < k0_off4 (grid0.coords t) 2 + 384; omega
      unfold VecWindow.put
      rw [dif_pos hin]
      congr 1
      funext a
      apply Fin.ext
      match a with
      | ⟨0, _⟩ => show h.val - k0_off4 (grid0.coords t) 0 = 0; omega
      | ⟨1, _⟩ => show 0 - k0_off4 (grid0.coords t) 1 = 0; omega
      | ⟨2, _⟩ => show d.val - k0_off4 (grid0.coords t) 2 = d.val; omega
  · unfold accPut VecWindow.put
    rw [dif_neg]
    intro hin
    have h0 : k0_off4 (grid0.coords t) 0 ≤ h.val ∧ h.val < k0_off4 (grid0.coords t) 0 + 1 := hin 0
    exact hh (Fin.ext (by show h.val = t.val % 8; omega))

/-- The last grid point. -/
def lastPt : Fin cfg0.N := ⟨271, by rw [show cfg0.N = 272 from N_0]; omega⟩

/-- What head `h` has gathered after the points below `n`. -/
def gath (f : Fin 34 → ℝ) (h : Fin 8) (n : ℕ) : ℝ :=
  ∑ k ∈ Finset.range n, if hk : k < cfg0.N then (if h = hd ⟨k, hk⟩ then f (ch ⟨k, hk⟩) else 0) else 0

theorem gath_succ (f : Fin 34 → ℝ) (h : Fin 8) (t : Fin cfg0.N) :
    gath f h (t.val + 1) = gath f h t.val + (if h = hd t then f (ch t) else 0) := by
  unfold gath
  rw [Finset.sum_range_succ, dif_pos t.isLt]

/-- After the last point it has gathered every chunk once. -/
theorem gath_all (f : Fin 34 → ℝ) (h : Fin 8) : gath f h cfg0.N = ∑ b, f b := by
  have e : ∀ t : Fin cfg0.N, (if h = hd t then f (ch t) else 0) = ∑ b, (if t = pt b h then f b else 0) := fun t => by
    by_cases hh : h = hd t
    · rw [if_pos hh, Finset.sum_eq_single (ch t), if_pos ((pt_iff _ _ _).mpr ⟨rfl, hh.symm⟩)]
      · exact fun b _ hb => if_neg fun he => hb (((pt_iff _ _ _).mp he).1.symm)
      · exact fun he => absurd (Finset.mem_univ _) he
    · rw [if_neg hh, Finset.sum_eq_zero]
      exact fun b _ => if_neg fun he => hh (((pt_iff _ _ _).mp he).2.symm)
  unfold gath
  rw [Finset.sum_range]
  simp only [Fin.is_lt, dif_pos, Fin.eta, e]
  rw [Finset.sum_comm]
  exact Finset.sum_congr rfl fun b _ => by rw [Finset.sum_ite_eq' Finset.univ (pt b h) (fun _ => f b)]; simp

theorem accN_at {c : Dev nD} (hr : IsReal m c) (h : Fin 8) (d : Fin 384) : ∀ (n : ℕ) (hn : n < cfg0.N),
    accN m c n hn (ix3 h 0 d) = ((gath (fun b => (Rof m c b h).dnw d) h (n + 1) : ℝ) : EReal) := by
  have step : ∀ (t : Fin cfg0.N) (x : FVec Ideal S8x1x384 .f32), x (ix3 h 0 d) = ((gath (fun b => (Rof m c b h).dnw d) h t.val : ℝ) : EReal) →
      accPut (F := Ideal) (grid0.coords t) (dnwStep (blk m c t)) x (ix3 h 0 d) = ((gath (fun b => (Rof m c b h).dnw d) h (t.val + 1) : ℝ) : EReal) := fun t x hx => by
    rw [gath_succ]
    by_cases hh : h = hd t
    · obtain ⟨o, ho, hs⟩ := (accPut_at t (dnwStep (blk m c t)) x h d).1 hh
      rw [hs, KVal.dnw_eq (rel hr t) d o _ ((ho d).trans hx), if_pos hh, hh]
    · rw [(accPut_at t (dnwStep (blk m c t)) x h d).2 hh, hx, if_neg hh, add_zero]
  intro n
  induction n with
  | zero =>
    intro hn
    refine step ⟨0, hn⟩ _ ?_
    have e : gath (fun b => (Rof m c b h).dnw d) h 0 = 0 := by unfold gath; rw [Finset.sum_range_zero]
    rw [show (⟨0, hn⟩ : Fin cfg0.N).val = 0 from rfl, e]
    pointwise [k0_pay4]
    exact EReal.coe_zero.symm
  | succ n ih =>
    intro hn
    exact step ⟨n + 1, hn⟩ _ (ih (Nat.lt_of_succ_lt hn))

/-- The gradient of the norm weight ends as each head's sum over its chunks. -/
theorem final20 {c : Dev nD} (hr : IsReal m c) (G : Buf (Elt Ideal) ((c : Thread nD τ).loc main_v6_7))
    (hG : ∀ h d, G (ix3 h 0 d) = ((∑ b, (Rof m c b h).dnw d : ℝ) : EReal)) : (dats m 0 c).arrAt 20 cfg0.N = G := by
  have hN : cfg0.N = 272 := N_0
  have hix : ∀ t : Fin cfg0.N, win0_20.index t 0 = 0 ∧ win0_20.index t 1 = 0 ∧ win0_20.index t 2 = 0 := by decide +kernel
  have hlast : accN m c 271 (by omega) = G := by
    funext i
    obtain ⟨h, d, rfl⟩ : ∃ (h : Fin 8) (d : Fin 384), i = ix3 h 0 d := ⟨i 0, i 2, funext fun a => by
      match a with
      | ⟨0, _⟩ => rfl
      | ⟨1, _⟩ => exact Fin.ext (by have : (i 1 : Nat) < 1 := (i 1).isLt; show (i 1 : Nat) = 0; omega)
      | ⟨2, _⟩ => rfl⟩
    rw [accN_at hr h d 271 (by omega), hG, ← gath_all, hN]
  refine (dats m 0 c).arrAt_eq_of_cover 20 G (fun t hf => ?_) (fun i => ?_)
  · have h3 : t.val = 271 := by have := (flush0_20 t).mp hf; have := t.isLt; omega
    obtain rfl : t = lastPt := Fin.ext h3
    show (cfg0.win 20).cut (grid0.coords lastPt) ((dats m 0 c).after 20 lastPt) = _
    rw [after_20, show accN m c lastPt.val lastPt.isLt = G from hlast]
    have hi := hix lastPt
    have hz' : (fun a => win0_20.index lastPt a * main_v6_7.ty.shape.size a) = fun _ => 0 := funext fun a => by
      match a with
      | ⟨0, _⟩ => show win0_20.index lastPt 0 * _ = 0; rw [hi.1]; omega
      | ⟨1, _⟩ => show win0_20.index lastPt 1 * _ = 0; rw [hi.2.1]; omega
      | ⟨2, _⟩ => show win0_20.index lastPt 2 * _ = 0; rw [hi.2.2]; omega
    exact (Memref.read_access_unit_zero (Elt Ideal) main_v6_7 hz' (fun a => by rw [congrFun hz' a]; simp) G).symm
  · refine ⟨lastPt, (flush0_20 _).mpr rfl, ?_⟩
    have hi := hix lastPt
    show i ∈ ((View.whole main_v6_7).slice (win0_20.rect lastPt)).set
    rw [View.set_slice_whole, Rect.mem_set_unit]
    intro a
    have h0 : (i 0 : Nat) < 8 := (i 0).isLt
    have h1 : (i 1 : Nat) < 1 := (i 1).isLt
    have h2 : (i 2 : Nat) < 384 := (i 2).isLt
    match a with
    | ⟨0, _⟩ =>
      show win0_20.index lastPt 0 * 8 ≤ (i 0 : Nat) ∧ (i 0 : Nat) < win0_20.index lastPt 0 * 8 + 8
      rw [hi.1]; omega
    | ⟨1, _⟩ =>
      show win0_20.index lastPt 1 * 1 ≤ (i 1 : Nat) ∧ (i 1 : Nat) < win0_20.index lastPt 1 * 1 + 1
      rw [hi.2.1]; omega
    | ⟨2, _⟩ =>
      show win0_20.index lastPt 2 * 384 ≤ (i 2 : Nat) ∧ (i 2 : Nat) < win0_20.index lastPt 2 * 384 + 384
      rw [hi.2.2]; omega

theorem accS_at {c : Dev nD} (hr : IsReal m c) (h : Fin 8) (d : Fin 384) : ∀ (n : ℕ) (hn : n < cfg0.N),
    accS m c n hn (ix3 h 0 d) = ((gath (fun b => (Rof m c b h).dsk d) h (n + 1) : ℝ) : EReal) := by
  have step : ∀ (t : Fin cfg0.N) (x : FVec Ideal S8x1x384 .f32), x (ix3 h 0 d) = ((gath (fun b => (Rof m c b h).dsk d) h t.val : ℝ) : EReal) →
      accPut (F := Ideal) (grid0.coords t) (dskStep (blk m c t)) x (ix3 h 0 d) = ((gath (fun b => (Rof m c b h).dsk d) h (t.val + 1) : ℝ) : EReal) := fun t x hx => by
    rw [gath_succ]
    by_cases hh : h = hd t
    · obtain ⟨o, ho, hs⟩ := (accPut_at t (dskStep (blk m c t)) x h d).1 hh
      rw [hs, KVal.dsk_eq (rel hr t) d o _ ((ho d).trans hx), if_pos hh, hh]
    · rw [(accPut_at t (dskStep (blk m c t)) x h d).2 hh, hx, if_neg hh, add_zero]
  intro n
  induction n with
  | zero =>
    intro hn
    refine step ⟨0, hn⟩ _ ?_
    have e : gath (fun b => (Rof m c b h).dsk d) h 0 = 0 := by unfold gath; rw [Finset.sum_range_zero]
    rw [show (⟨0, hn⟩ : Fin cfg0.N).val = 0 from rfl, e]
    pointwise [k0_pay5]
    exact EReal.coe_zero.symm
  | succ n ih =>
    intro hn
    exact step ⟨n + 1, hn⟩ _ (ih (Nat.lt_of_succ_lt hn))

/-- The gradient of the skip weight ends as each head's sum over its chunks. -/
theorem final21 {c : Dev nD} (hr : IsReal m c) (G : Buf (Elt Ideal) ((c : Thread nD τ).loc main_v6_8))
    (hG : ∀ h d, G (ix3 h 0 d) = ((∑ b, (Rof m c b h).dsk d : ℝ) : EReal)) : (dats m 0 c).arrAt 21 cfg0.N = G := by
  have hN : cfg0.N = 272 := N_0
  have hix : ∀ t : Fin cfg0.N, win0_21.index t 0 = 0 ∧ win0_21.index t 1 = 0 ∧ win0_21.index t 2 = 0 := by decide +kernel
  have hlast : accS m c 271 (by omega) = G := by
    funext i
    obtain ⟨h, d, rfl⟩ : ∃ (h : Fin 8) (d : Fin 384), i = ix3 h 0 d := ⟨i 0, i 2, funext fun a => by
      match a with
      | ⟨0, _⟩ => rfl
      | ⟨1, _⟩ => exact Fin.ext (by have : (i 1 : Nat) < 1 := (i 1).isLt; show (i 1 : Nat) = 0; omega)
      | ⟨2, _⟩ => rfl⟩
    rw [accS_at hr h d 271 (by omega), hG, ← gath_all, hN]
  refine (dats m 0 c).arrAt_eq_of_cover 21 G (fun t hf => ?_) (fun i => ?_)
  · have h3 : t.val = 271 := by have := (flush0_21 t).mp hf; have := t.isLt; omega
    obtain rfl : t = lastPt := Fin.ext h3
    show (cfg0.win 21).cut (grid0.coords lastPt) ((dats m 0 c).after 21 lastPt) = _
    rw [after_21, show accS m c lastPt.val lastPt.isLt = G from hlast]
    have hi := hix lastPt
    have hz' : (fun a => win0_21.index lastPt a * main_v6_8.ty.shape.size a) = fun _ => 0 := funext fun a => by
      match a with
      | ⟨0, _⟩ => show win0_21.index lastPt 0 * _ = 0; rw [hi.1]; omega
      | ⟨1, _⟩ => show win0_21.index lastPt 1 * _ = 0; rw [hi.2.1]; omega
      | ⟨2, _⟩ => show win0_21.index lastPt 2 * _ = 0; rw [hi.2.2]; omega
    exact (Memref.read_access_unit_zero (Elt Ideal) main_v6_8 hz' (fun a => by rw [congrFun hz' a]; simp) G).symm
  · refine ⟨lastPt, (flush0_21 _).mpr rfl, ?_⟩
    have hi := hix lastPt
    show i ∈ ((View.whole main_v6_8).slice (win0_21.rect lastPt)).set
    rw [View.set_slice_whole, Rect.mem_set_unit]
    intro a
    have h0 : (i 0 : Nat) < 8 := (i 0).isLt
    have h1 : (i 1 : Nat) < 1 := (i 1).isLt
    have h2 : (i 2 : Nat) < 384 := (i 2).isLt
    match a with
    | ⟨0, _⟩ =>
      show win0_21.index lastPt 0 * 8 ≤ (i 0 : Nat) ∧ (i 0 : Nat) < win0_21.index lastPt 0 * 8 + 8
      rw [hi.1]; omega
    | ⟨1, _⟩ =>
      show win0_21.index lastPt 1 * 1 ≤ (i 1 : Nat) ∧ (i 1 : Nat) < win0_21.index lastPt 1 * 1 + 1
      rw [hi.2.1]; omega
    | ⟨2, _⟩ =>
      show win0_21.index lastPt 2 * 384 ≤ (i 2 : Nat) ∧ (i 2 : Nat) < win0_21.index lastPt 2 * 384 + 384
      rw [hi.2.2]; omega

end Cert.KArr

end
-- ==== Proof.RVal2.lean ====
/- The reference at real inputs, read at an index: the norm, the gates and the gradients. -/
module

public import proofs.«01_k».proof.Proof.RVal1

@[expose] public section

set_option maxRecDepth 16384

noncomputable section

namespace Cert.RVal

open Idealize.ShloMosaic Cert.ReferenceIdeal Cert.RDef Cert.Spec

theorem ne384 : (384 : ℝ) ≠ 0 := by norm_num
theorem sg_div (x : ℝ) : Ideal.div (1 : EReal) ((1 : EReal) + Ideal.exp (-(x : EReal))) = ((sg x : ℝ) : EReal) := by
  have : (1 + Real.exp (-x)) ≠ 0 := by positivity
  rw [← EReal.coe_one, ← EReal.coe_neg, Ideal.exp_coe, ← EReal.coe_add, div_coe this, one_div]; rfl

theorem ro_div (b : Fin 34) (t : Fin 128) (h) : (⟨(b.val * 128 + t.val) / 128, h⟩ : Fin 34) = b := Fin.ext (show (b.val * 128 + t.val) / 128 = b.val by omega)
theorem ro_mod (b : Fin 34) (t : Fin 128) (h) : (⟨(b.val * 128 + t.val) % 128, h⟩ : Fin 128) = t := Fin.ext (show (b.val * 128 + t.val) % 128 = t.val by omega)
theorem co_div (b : Fin 8) (t : Fin 384) (h) : (⟨(b.val * 384 + t.val) / 384, h⟩ : Fin 8) = b := Fin.ext (show (b.val * 384 + t.val) / 384 = b.val by omega)
theorem co_mod (b : Fin 8) (t : Fin 384) (h) : (⟨(b.val * 384 + t.val) % 384, h⟩ : Fin 384) = t := Fin.ext (show (b.val * 384 + t.val) % 384 = t.val by omega)

/-- A sum over the flat rows is a sum over the chunks and their rows. -/
theorem sum_rows (f : Fin 4352 → EReal) : ∑ x, f x = ∑ b : Fin 34, ∑ t : Fin 128, f (ro b t) := by
  rw [← Fintype.sum_prod_type', ← (finProdFinEquiv (m := 34) (n := 128)).sum_comp]
  refine Finset.sum_congr rfl fun x _ => congrArg f (Fin.ext ?_)
  show x.2.val + 128 * x.1.val = x.1.val * 128 + x.2.val
  ring

/-- A sum over the two leading axes of four. -/
theorem sum_lead {n0 n1 n2 n3 : ℕ} (h : (⟨4, ![n0, n1, n2, n3]⟩ : Shape).ReducesTo [0, 1] ⟨2, ![n2, n3]⟩)
    (v : (⟨4, ![n0, n1, n2, n3]⟩ : Shape).Idx → EReal) (a : Fin n2) (c : Fin n3) :
    Ideal.hostReduceAdd h v 0 (ix2 a c) = ∑ i : Fin n0, ∑ j : Fin n1, v (ix4 i j a c) := by
  have fib : ∀ i, h.drop i = ix2 a c ↔ ∃ k : Fin n0 × Fin n1, ix4 k.1 k.2 a c = i := by
    intro i
    constructor
    · intro e
      refine ⟨(i 0, i 1), ?_⟩
      funext x; apply Fin.ext
      match x with
      | ⟨0, _⟩ => rfl
      | ⟨1, _⟩ => rfl
      | ⟨2, _⟩ => exact (congrArg Fin.val (congrFun e 0)).symm
      | ⟨3, _⟩ => exact (congrArg Fin.val (congrFun e 1)).symm
    · rintro ⟨k, rfl⟩
      funext x; apply Fin.ext
      match x with
      | ⟨0, _⟩ => rfl
      | ⟨1, _⟩ => rfl
  show 0 + ∑ i ∈ Finset.univ.filter (fun i => h.drop i = ix2 a c), v i = _
  rw [zero_add]
  refine (Finset.sum_filter_eq_sum_of_fiber _ (fun k : Fin n0 × Fin n1 => ix4 k.1 k.2 a c)
    (fun _ _ e => Prod.ext (congrFun e 0) (congrFun e 1)) fib v).trans ?_
  simp only [Fintype.sum_prod_type]

variable {R : Fin 34 → Fin 8 → RBlk} {V : Vl} (H : Args R V)
include H

theorem h_eq (b t h e) : r67 V (ix4 b t h e) = (((R b h).h t e : ℝ) : EReal) := by
  rw [r67_def]; pointwise
  rw [num_eq H, b_eq H, div_coe ((R b h).b_pos t).ne']; rfl

theorem mu_eq (b t h) : r74 V (ix4 b t h 0) = (((R b h).mu t : ℝ) : EReal) := by
  rw [r74_def]; pointwise
  simp only [h_eq H, coe_sum, lit_384, div_coe ne384]; rfl

theorem hc_eq (b t h e) : r76 V (ix4 b t h e) = (((R b h).hc t e : ℝ) : EReal) := by
  rw [r76_def]; pointwise
  rw [h_eq H, mu_eq H, ← EReal.coe_sub]; rfl

theorem hc_eq' (b t h e) : r85 V (ix4 b t h e) = (((R b h).hc t e : ℝ) : EReal) := by
  rw [r85_def]; pointwise
  rw [h_eq H, mu_eq H, ← EReal.coe_sub]; rfl

theorem ve_eq (b t h) : r87 V (ix4 b t h 0) = (((R b h).ve t : ℝ) : EReal) := by
  rw [r87_def]; pointwise
  simp only [hc_eq H, ← EReal.coe_mul, coe_sum, lit_384, lit_ε.1, div_coe ne384, ← EReal.coe_add]; rfl

theorem r_eq (b t h) : r88 V (ix4 b t h 0) = (((R b h).r t : ℝ) : EReal) := by
  rw [r88_def]; pointwise
  rw [ve_eq H, Ideal.rsqrt_coe, if_neg ((R b h).ve_pos t).le.not_gt, if_neg ((R b h).ve_pos t).ne']; rfl

theorem hn_eq (b t h e) : r93 V (ix4 b t h e) = (((R b h).hn t e : ℝ) : EReal) := by
  rw [r93_def]; pointwise
  rw [hc_eq' H, r_eq H, ← EReal.coe_mul]; rfl

theorem nw_eq (b h d) : r95 V (ix4 0 0 h d) = (((R b h).nw d : ℝ) : EReal) := by
  rw [r95_def]; pointwise
  exact H.nw b h d

theorem sgc_eq (b t h d) : r99_2 V (ix2 (ro b t) (co h d)) = ((sg ((R b h).c t d) : ℝ) : EReal) := by
  rw [r99_2_def]; pointwise
  rw [H.c, sg_div]

theorem slc_eq (b t h d) : r99_0 V (ix2 (ro b t) (co h d)) = ((sl ((R b h).c t d) : ℝ) : EReal) := by
  rw [r99_0_def]; pointwise
  rw [H.c, sgc_eq H, ← EReal.coe_mul]; rfl

theorem sgz_eq (b t h d) : r103_2 V (ix2 (ro b t) (co h d)) = ((sg ((R b h).z t d) : ℝ) : EReal) := by
  rw [r103_2_def]; pointwise
  rw [H.z, sg_div]

theorem slz_eq (b t h d) : r103_0 V (ix2 (ro b t) (co h d)) = ((sl ((R b h).z t d) : ℝ) : EReal) := by
  rw [r103_0_def]; pointwise
  rw [H.z, sgz_eq H, ← EReal.coe_mul]; rfl

theorem y_eq (b t h d) : r102 V (ix2 (ro b t) (co h d)) = (((R b h).y t d : ℝ) : EReal) := by
  rw [r102_def]; pointwise
  rw [ro_div, ro_mod, co_div, co_mod, hn_eq H, nw_eq H b, show a8 V _ = _ from H.sk b h d, slc_eq H, ← EReal.coe_mul, ← EReal.coe_mul, ← EReal.coe_add]; rfl

theorem ydy_eq (b t h d) : r105 V (ix2 (ro b t) (co h d)) = (((R b h).y t d * (R b h).dy t d : ℝ) : EReal) := by
  rw [r105_def]; pointwise
  rw [y_eq H, H.dy, ← EReal.coe_mul]

theorem p_eq (b t h d) : r106 V (ix2 (ro b t) (co h d)) = (((R b h).p t d : ℝ) : EReal) := by
  rw [r106_def]; pointwise
  rw [slz_eq H, H.dy, ← EReal.coe_mul]; rfl

theorem skp_eq (b t h d) : r109 V (ix2 (ro b t) (co h d)) = (((R b h).sk d * (R b h).p t d : ℝ) : EReal) := by
  rw [r109_def]; pointwise
  rw [p_eq H, show a8 V _ = _ from H.sk b h d, ← EReal.coe_mul]

theorem dc_eq (b t h d) : rdc V (ix2 (ro b t) (co h d)) = (((R b h).dc t d : ℝ) : EReal) := by
  unfold rdc; pointwise
  rw [skp_eq H, sgc_eq H, H.c, ← EReal.coe_one]
  simp only [← EReal.coe_mul, ← EReal.coe_sub, ← EReal.coe_add]
  congr 1; unfold RBlk.dc; ring

theorem dz_eq (b t h d) : rdz V (ix2 (ro b t) (co h d)) = (((R b h).dz t d : ℝ) : EReal) := by
  unfold rdz; pointwise
  rw [ydy_eq H, sgz_eq H, H.z, ← EReal.coe_one]
  simp only [← EReal.coe_mul, ← EReal.coe_sub, ← EReal.coe_add]
  congr 1; unfold RBlk.dz; ring

theorem p4_eq (b t h d) : r114 V (ix4 b t h d) = (((R b h).p t d : ℝ) : EReal) := by
  rw [r114_def]; pointwise
  exact p_eq H b t h d

theorem g_eq (b t h d) : r119 V (ix4 b t h d) = (((R b h).g t d : ℝ) : EReal) := by
  rw [r119_def]; pointwise
  rw [p4_eq H, nw_eq H b, ← EReal.coe_mul]; rfl

theorem gr_eq (b t h d) : r126 V (ix4 b t h d) = (((R b h).g t d * (R b h).r t : ℝ) : EReal) := by
  rw [r126_def]; pointwise
  rw [g_eq H, r_eq H, ← EReal.coe_mul]

theorem uh_eq (b t h d) : r135 V (ix4 b t h d) = (((R b h).u t * (2 * (R b h).hc t d) : ℝ) : EReal) := by
  rw [r135_def]; pointwise [Fin.sum_univ_one]
  simp only [hc_eq H, hc_eq' H, g_eq H, r_eq H, ve_eq H, lit_384, lit_neg_half, lit_two, div_coe ((R b h).ve_pos t).ne', ← EReal.coe_mul, coe_sum, div_coe ne384]; rfl

theorem dh_eq (b t h d) : r145 V (ix4 b t h d) = (((R b h).dh t d : ℝ) : EReal) := by
  rw [r145_def]; pointwise [Fin.sum_univ_one]
  simp only [gr_eq H, uh_eq H, ← EReal.coe_neg, coe_sum, ← EReal.coe_add, lit_384, div_coe ne384]
  congr 1; unfold RBlk.dh RBlk.w
  rw [← Finset.sum_add_distrib]
  congr 2; exact Finset.sum_congr rfl fun d _ => by ring

theorem dnum_eq (b t h d) : r153 V (ix4 b t h d) = (((R b h).dnum t d : ℝ) : EReal) := by
  rw [r153_def]; pointwise
  rw [dh_eq H, b_eq H, div_coe ((R b h).b_pos t).ne']; rfl

theorem da_eq (b t h) : r155 V (ix3 b t h) = (((R b h).da t : ℝ) : EReal) := by
  have hb := mul_pos ((R b h).b_pos t) ((R b h).b_pos t)
  rw [r155_def]; pointwise [Fin.sum_univ_one]
  simp only [dh_eq H, num_eq H, b_eq H, aden_eq H, lo_eq H, lit_half, ← EReal.coe_one, ← EReal.coe_mul, div_coe hb.ne', coe_sum, ← EReal.coe_neg]
  rw [show (if (((R b h).lo t : ℝ) : EReal) < ((|(R b h).den t| : ℝ) : EReal) then ((1 : ℝ) : EReal)
      else if ((|(R b h).den t| : ℝ) : EReal) = (((R b h).lo t : ℝ) : EReal) then ((1 / 2 : ℝ) : EReal) else 0) = (((R b h).tie t : ℝ) : EReal) from ?_]
  · rw [← EReal.coe_mul]
    congr 1; unfold RBlk.da
    congr 1; rw [Finset.sum_div]
    congr 1; exact Finset.sum_congr rfl fun e _ => by ring
  · simp only [EReal.coe_lt_coe_iff, EReal.coe_eq_coe_iff, RBlk.tie, gt_iff_lt]
    split
    · rfl
    · split
      · rfl
      · rfl

theorem dden_eq (b t h) : r160 V (ix3 b t h) = (((R b h).dden t : ℝ) : EReal) := by
  rw [r160_def, r156_def]; pointwise
  rw [sgn_eq H, da_eq H]
  by_cases h' : 0 ≤ (R b h).den t
  · simp [h', Scalar.select, RBlk.dden]
  · simp [h', Scalar.select, RBlk.dden]

theorem dq_eq (b t h d) : rdq V (ix2 (ro b t) (co h d)) = (((R b h).dq t d : ℝ) : EReal) := by
  unfold rdq; pointwise
  simp only [ro_div, ro_mod, co_div, co_mod, wp_eq H, dden_eq H, ns_eq H, wpc_eq H, dnum_eq H, H.cs, v_eq H, wt_eq H, k_eq H, lit_κ, ← EReal.coe_mul, coe_sum, ← EReal.coe_add]; rfl

theorem dnw_eq (h d) : rdnw V (ix3 h 0 d) = ((∑ b, (R b h).dnw d : ℝ) : EReal) := by
  unfold rdnw; pointwise
  rw [sum_lead]
  simp only [Fin.sum_univ_one]
  pointwise
  rw [sum_lead]
  pointwise
  simp only [hn_eq H, p4_eq H, ← EReal.coe_mul, coe_sum]
  rfl

theorem dsk_eq (h d) : rdsk V (ix3 h 0 d) = ((∑ b, (R b h).dsk d : ℝ) : EReal) := by
  unfold rdsk; pointwise
  rw [sum_rows]
  simp only [p_eq H _ _ h d, slc_eq H _ _ h d, ← EReal.coe_mul, coe_sum]
  rfl

end Cert.RVal

end
-- ==== Proof.Algebraic.lean ====
/- The two programs' results agree on real arguments: both hold, entry by entry, the same real numbers. -/
module

public import proofs.«01_k».proof.Defs
public import proofs.«01_k».proof.Proof.Finite
public import proofs.«01_k».proof.Proof.KFinal
public import proofs.«01_k».proof.Proof.RVal2
public import Idealize.ShloMosaic.Lib.Quiescent

@[expose] public section

set_option maxRecDepth 16384

noncomputable section

namespace Cert.Alg

open Idealize.ShloMosaic Idealize.ShloMosaic.TcCoe Idealize.SL.Sem Cert.KArr Cert.Spec
open Cert.RVal (ro co)

local instance : Cert.Pre_finite.Facts := Cert.Pre_finite.facts

/-- The kernel's and the reference's memories. -/
abbrev MK := (ℓ : Loc Cert.KernelIdeal.nD Cert.KernelIdeal.τ Cert.KernelIdeal.sig) → Buf (Elt Ideal) ℓ
abbrev MR := (ℓ : Loc Cert.ReferenceIdeal.nD Cert.ReferenceIdeal.τ Cert.ReferenceIdeal.sig) → Buf (Elt Ideal) ℓ

/-- The precondition gives reals on every device. -/
theorem isReal {m : MK} (h : Cert.Pre_KernelIdeal_finite m) (c : Dev Cert.KernelIdeal.nD) : IsReal m c := by
  obtain ⟨⟨r0, h0⟩, ⟨r1, h1⟩, ⟨r2, h2⟩, ⟨r3, h3⟩, ⟨r4, h4⟩, ⟨r5, h5⟩, ⟨r6, h6⟩, ⟨r7, h7⟩, ⟨r8, h8⟩, ⟨r9, h9⟩, ⟨r10, h10⟩, ⟨r11, h11⟩, ⟨r12, h12⟩⟩ := Cert.Pre_finite.real _ _ _ _ _ _ _ _ _ _ _ _ _ (h c)
  exact ⟨fun i => ⟨r0 i, h0 i⟩, fun i => ⟨r1 i, h1 i⟩, fun i => ⟨r2 i, h2 i⟩, fun i => ⟨r3 i, h3 i⟩, fun i => ⟨r4 i, h4 i⟩, fun i => ⟨r5 i, h5 i⟩, fun i => ⟨r6 i, h6 i⟩, fun i => ⟨r7 i, h7 i⟩, fun i => ⟨r8 i, h8 i⟩, fun i => ⟨r9 i, h9 i⟩, fun i => ⟨r10 i, h10 i⟩, fun i => ⟨r11 i, h11 i⟩, fun i => ⟨r12 i, h12 i⟩⟩

/-- The memories agree on the arguments. -/
structure Agree (m : MK) (m' : MR) (c : Dev Cert.KernelIdeal.nD) : Prop where
  a0 : RDef.a0 (StableHlo.launchContents m' c) = arg0 m c
  a1 : RDef.a1 (StableHlo.launchContents m' c) = arg1 m c
  a2 : RDef.a2 (StableHlo.launchContents m' c) = arg2 m c
  a3 : RDef.a3 (StableHlo.launchContents m' c) = arg3 m c
  a4 : RDef.a4 (StableHlo.launchContents m' c) = arg4 m c
  a5 : RDef.a5 (StableHlo.launchContents m' c) = arg5 m c
  a6 : RDef.a6 (StableHlo.launchContents m' c) = arg6 m c
  a7 : RDef.a7 (StableHlo.launchContents m' c) = arg7 m c
  a8 : RDef.a8 (StableHlo.launchContents m' c) = arg8 m c
  a9 : RDef.a9 (StableHlo.launchContents m' c) = arg9 m c
  a10 : RDef.a10 (StableHlo.launchContents m' c) = arg10 m c
  a11 : RDef.a11 (StableHlo.launchContents m' c) = arg11 m c
  a12 : RDef.a12 (StableHlo.launchContents m' c) = arg12 m c

/-- So the reference's arguments hold the same reals. -/
theorem args {m : MK} {m' : MR} {c : Dev Cert.KernelIdeal.nD} (hr : IsReal m c) (ha : Agree m m' c) :
    RVal.Args (Rof m c) (StableHlo.launchContents m' c) where
  q b t h d := (congrFun ha.a0 _).trans (toReal_of (hr.a0 _))
  k b t h d := (congrFun ha.a1 _).trans (toReal_of (hr.a1 _))
  v b t h d := (congrFun ha.a2 _).trans (toReal_of (hr.a2 _))
  ig b t h := (congrFun ha.a3 _).trans (toReal_of (hr.a3 _))
  bc b t h := (congrFun ha.a4 _).trans (toReal_of (hr.a4 _))
  c b t h d := (congrFun ha.a5 _).trans (toReal_of (hr.a5 _))
  z b t h d := (congrFun ha.a6 _).trans (toReal_of (hr.a6 _))
  nw b h d := (congrFun ha.a7 _).trans (toReal_of (hr.a7 _))
  sk b h d := (congrFun ha.a8 _).trans (toReal_of (hr.a8 _))
  cs b h d e := (congrFun ha.a9 _).trans (toReal_of (hr.a9 _))
  ns b h d := (congrFun ha.a10 _).trans (toReal_of (hr.a10 _))
  m b h := (congrFun ha.a11 _).trans (toReal_of (hr.a11 _))
  dy b t h d := (congrFun ha.a12 _).trans (toReal_of (hr.a12 _))

section

variable {m : MK} {m' : MR} {c : Dev Cert.KernelIdeal.nD} (hr : IsReal m c) (ha : Agree m m' c)
include hr ha

theorem eq13 : (Cert.Body.dats m 0 c).arrAt 13 Cert.KernelIdeal.cfg0.N = RDef.rdq (StableHlo.launchContents m' c) :=
  final13 hr _ fun b r h d => RVal.dq_eq (args hr ha) b r h d
theorem eq16 : (Cert.Body.dats m 0 c).arrAt 16 Cert.KernelIdeal.cfg0.N = RDef.rdc (StableHlo.launchContents m' c) :=
  final16 hr _ fun b r h d => RVal.dc_eq (args hr ha) b r h d
theorem eq17 : (Cert.Body.dats m 0 c).arrAt 17 Cert.KernelIdeal.cfg0.N = RDef.rdz (StableHlo.launchContents m' c) :=
  final17 hr _ fun b r h d => RVal.dz_eq (args hr ha) b r h d
theorem eq20 : (Cert.Body.dats m 0 c).arrAt 20 Cert.KernelIdeal.cfg0.N = RDef.rdnw (StableHlo.launchContents m' c) :=
  final20 hr _ fun h d => RVal.dnw_eq (args hr ha) h d
theorem eq21 : (Cert.Body.dats m 0 c).arrAt 21 Cert.KernelIdeal.cfg0.N = RDef.rdsk (StableHlo.launchContents m' c) :=
  final21 hr _ fun h d => RVal.dsk_eq (args hr ha) h d

end

/-- The reference ends with its arguments unchanged and no semaphore counted. -/
theorem frameR : Cert.quiescent_ReferenceIdeal (hReferenceIdeal := Cert.ReferenceIdeal.Gen.facts) := fun m g _ =>
  (θ_run Cert.ReferenceIdeal.defs _ _).mono (fun r h => ⟨fun c => (h c).2.2.2.2.2, Idealize.ShloMosaic.sem_eq_zero_of_no_sems (by decide) r.2⟩) (RDef.run_full m g)

/-- Kernel and reference end with equal results over the extended reals, on finite arguments. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hag
  have hr := fun c => isReal hpre c
  have ha : ∀ c, Agree m m' c := fun c => by
    obtain ⟨h0, h1, h2, h3, h4, h5, h6, h7, h8, h9, h10, h11, h12⟩ := hag c
    exact ⟨h0, h1, h2, h3, h4, h5, h6, h7, h8, h9, h10, h11, h12⟩
  refine ⟨fun c => RDef.rdq (StableHlo.launchContents m' c), fun c => RDef.rdc (StableHlo.launchContents m' c), fun c => RDef.rdz (StableHlo.launchContents m' c),
    fun c => RDef.rdnw (StableHlo.launchContents m' c), fun c => RDef.rdsk (StableHlo.launchContents m' c), ?_, ?_⟩
  · refine (θ_run _ _ _).mono (fun r h c => ?_) (Cert.Body.run_main m g)
    exact ⟨(Cert.Body.arr_out h.1 c 13 rfl).trans (eq13 (hr c) (ha c)), (Cert.Body.arr_out h.1 c 16 rfl).trans (eq16 (hr c) (ha c)),
      (Cert.Body.arr_out h.1 c 17 rfl).trans (eq17 (hr c) (ha c)), (Cert.Body.arr_out h.1 c 20 rfl).trans (eq20 (hr c) (ha c)),
      (Cert.Body.arr_out h.1 c 21 rfl).trans (eq21 (hr c) (ha c)), Cert.Body.unchanged m h.1 c⟩
  · refine (θ_run _ _ _).mono (fun r h c => ?_) (RDef.run_full m' g')
    exact h c

end Cert.Alg

end
-- ==== Proof.Mm.Product.lean ====
/- The two products of a projection's derivative, read at an index over the extended reals: the gradient of the weight,
   which contracts the rows of both operands, and the gradient of the input, which contracts the columns of both. -/
module

public import Idealize.ShloMosaic.Lib.MatmulPlain
public import Idealize.ShloMosaic.Lib.ValueIdx

@[expose] public section

noncomputable section

namespace Cert.Mm

open Idealize.ShloMosaic Idealize.ShloMosaic.ValueIdx
open scoped BigOperators

/-- The gradient of the weight: entry (i, j) is the sum over the rows k of x[k,i] · y[k,j]. -/
def gradW {K M N : ℕ} (x : (⟨2, ![K, M]⟩ : Shape).Idx → EReal) (y : (⟨2, ![K, N]⟩ : Shape).Idx → EReal) (i : Fin M) (j : Fin N) : EReal :=
  ∑ k : Fin K, x (ix2 k i) * y (ix2 k j)

/-- The gradient of the input: entry (i, j) is the sum over the columns k of y[i,k] · w[j,k]. -/
def gradN {K M N : ℕ} (y : (⟨2, ![M, K]⟩ : Shape).Idx → EReal) (w : (⟨2, ![N, K]⟩ : Shape).Idx → EReal) (i : Fin M) (j : Fin N) : EReal :=
  ∑ k : Fin K, y (ix2 i k) * w (ix2 j k)

/-- The gradient of the input, added to an earlier gradient. -/
def gradNadd {K M N : ℕ} (y : (⟨2, ![M, K]⟩ : Shape).Idx → EReal) (w : (⟨2, ![N, K]⟩ : Shape).Idx → EReal)
    (r : (⟨2, ![M, N]⟩ : Shape).Idx → EReal) (i : (⟨2, ![M, N]⟩ : Shape).Idx) : EReal :=
  r i + gradN y w (i 0) (i 1)

/-- The sum over the columns in two parts. -/
theorem gradN_parts {K L J M N : ℕ} (h : K + L = J) (y : (⟨2, ![M, J]⟩ : Shape).Idx → EReal) (w : (⟨2, ![N, J]⟩ : Shape).Idx → EReal)
    (i : Fin M) (j : Fin N) :
    gradN y w i j = (∑ k : Fin K, y (ix2 i ⟨k.val, by omega⟩) * w (ix2 j ⟨k.val, by omega⟩))
      + ∑ k : Fin L, y (ix2 i ⟨K + k.val, by omega⟩) * w (ix2 j ⟨K + k.val, by omega⟩) := by
  subst h
  exact Fin.sum_univ_add fun k => y (ix2 i k) * w (ix2 j k)

/-- The dimension numbers of the first: both operands contract their first axis. -/
def rows (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- A product over the rows, read at an index: the accumulator plus the sum over the rows. -/
theorem rows_apply {K M N : ℕ} {φ₁ φ₂ : FTy} (prec : Option ContractPrecision) (x : FVec Ideal ⟨2, ![K, M]⟩ φ₁)
    (y : FVec Ideal ⟨2, ![K, N]⟩ φ₂) (acc : FVec Ideal ⟨2, ![M, N]⟩ .f32) (i : Fin M) (j : Fin N) :
    FloatOps.matmul (rows K M N) prec x y acc (ix2 i j) = acc (ix2 i j) + gradW x y i j := by
  rw [Ideal.matmul_apply, ← Equiv.sum_comp (contrEquiv1 (rows K M N) K rfl rfl).symm]
  refine congrArg (acc (ix2 i j) + ·) (Finset.sum_congr rfl fun k _ => ?_)
  have hk := contrEquiv1_symm_val (rows K M N) K rfl rfl k
  have el : (rows K M N).lhsIdx (ix2 i j) ((contrEquiv1 (rows K M N) K rfl rfl).symm k) = ix2 k i := by
    funext a; apply Fin.ext
    match a with
    | ⟨0, _⟩ => exact hk
    | ⟨1, _⟩ => rfl
  have er : (rows K M N).rhsIdx (ix2 i j) ((contrEquiv1 (rows K M N) K rfl rfl).symm k) = ix2 k j := by
    funext a; apply Fin.ext
    match a with
    | ⟨0, _⟩ => exact hk
    | ⟨1, _⟩ => rfl
  rw [el, er]

/-- A block's product over the rows, onto a zero accumulator. -/
theorem rows_block {K M N : ℕ} {φ₁ φ₂ : FTy} (x : FVec Ideal ⟨2, ![K, M]⟩ φ₁) (y : FVec Ideal ⟨2, ![K, N]⟩ φ₂)
    (j : (⟨2, ![M, N]⟩ : Shape).Idx) :
    FloatOps.matmul (rows K M N) none x y (constant (F := Ideal) ⟨2, ![M, N]⟩ .f32 0x00000000#32) j = gradW x y (j 0) (j 1) := by
  obtain ⟨a, b, rfl⟩ : ∃ a b, j = ix2 a b := ⟨j 0, j 1, eq_ix2 j⟩
  rw [rows_apply]; show Ideal.ofBits .f32 0x00000000#32 + _ = _; rw [Ideal.ofBits_zero_f32, zero_add]; rfl

/-- A block's product over the columns, onto a zero accumulator. -/
theorem cols_block {K M N : ℕ} {φ₁ φ₂ : FTy} (y : FVec Ideal ⟨2, ![M, K]⟩ φ₁) (w : FVec Ideal ⟨2, ![N, K]⟩ φ₂)
    (j : (⟨2, ![M, N]⟩ : Shape).Idx) :
    FloatOps.matmul (DotDims.transposedRhs M K N) none y w (constant (F := Ideal) ⟨2, ![M, N]⟩ .f32 0x00000000#32) j
      = gradN y w (j 0) (j 1) := by
  obtain ⟨a, b, rfl⟩ : ∃ a b, j = ix2 a b := ⟨j 0, j 1, eq_ix2 j⟩
  rw [Ideal.matmul_transposedRhs_apply]; show Ideal.ofBits .f32 0x00000000#32 + _ = _
  rw [Ideal.ofBits_zero_f32, zero_add]; rfl

/-- The reference's product over the rows, with the operands in the other order, transposed. -/
theorem rows_host {K M N : ℕ} {φ₁ φ₂ : FTy} (x : FVec Ideal ⟨2, ![K, M]⟩ φ₁) (y : FVec Ideal ⟨2, ![K, N]⟩ φ₂)
    (i : Fin M) (j : Fin N) : Host.dotGeneral (rows K N M) none y x (ix2 j i) = gradW x y i j := by
  have h : Host.dotGeneral (rows K N M) none y x (ix2 j i)
      = FloatOps.matmul (rows K N M) none y x (fun _ => (0 : EReal)) (ix2 j i) := by
    rw [Ideal.matmul_apply]; show FloatOps.dotGeneral _ none _ y x (ix2 j i) = _
    rw [Ideal.dotGeneral_apply, zero_add]
  rw [h, rows_apply, zero_add]
  exact Finset.sum_congr rfl fun k _ => mul_comm _ _

/-- The reference's product over the columns. -/
theorem cols_host {K M N : ℕ} {φ₁ φ₂ : FTy} (y : FVec Ideal ⟨2, ![M, K]⟩ φ₁) (w : FVec Ideal ⟨2, ![N, K]⟩ φ₂)
    (i : Fin M) (j : Fin N) : Host.dotGeneral (DotDims.transposedRhs M K N) none y w (ix2 i j) = gradN y w i j := by
  have h : Host.dotGeneral (DotDims.transposedRhs M K N) none y w (ix2 i j)
      = FloatOps.matmul (DotDims.transposedRhs M K N) none y w (fun _ => (0 : EReal)) (ix2 i j) := by
    rw [Ideal.matmul_apply]; show FloatOps.dotGeneral _ none _ y w (ix2 i j) = _
    rw [Ideal.dotGeneral_apply, zero_add]
  rw [h, Ideal.matmul_transposedRhs_apply, zero_add]
  rfl

/-- The derivative of the reference's product by its weight, rounded to bf16. -/
theorem host_gradW {K M N : ℕ} (x : FVec Ideal ⟨2, ![K, M]⟩ .bf16) (y : FVec Ideal ⟨2, ![K, N]⟩ .bf16)
    (h : FTy.bits .bf16 < FTy.bits .f32) (ht : (⟨2, ![N, M]⟩ : Shape).Transposes [1, 0] ⟨2, ![M, N]⟩) :
    truncf .bf16 (transpose ⟨2, ![M, N]⟩ [1, 0] (Host.dotGeneral (rows K N M) none (extf .f32 y h) (extf .f32 x h)) ht) h
      = fun i => gradW x y (i 0) (i 1) := by
  funext i
  refine Eq.trans ?_ (rows_host (φ₁ := .f32) (φ₂ := .f32) x y (i 0) (i 1))
  show Host.dotGeneral (rows K N M) none (extf .f32 y h) (extf .f32 x h) (ht.src i) = _
  refine congrArg (Host.dotGeneral (F := Ideal) (rows K N M) none (extf .f32 y h) (extf .f32 x h)) (funext fun a => Fin.ext ?_)
  match a with
  | ⟨0, _⟩ => rfl
  | ⟨1, _⟩ => rfl

/-- The derivative of the reference's product by its input. -/
theorem host_gradN {K M N : ℕ} (y : FVec Ideal ⟨2, ![M, K]⟩ .bf16) (w : FVec Ideal ⟨2, ![N, K]⟩ .bf16)
    (h : FTy.bits .bf16 < FTy.bits .f32) :
    Host.dotGeneral (DotDims.transposedRhs M K N) none (extf .f32 y h) (extf .f32 w h) = fun i => gradN y w (i 0) (i 1) := by
  funext i
  obtain ⟨a, b, rfl⟩ : ∃ a b, i = ix2 a b := ⟨i 0, i 1, eq_ix2 i⟩
  exact cols_host (φ₁ := .f32) (φ₂ := .f32) y w a b

end Cert.Mm

end
-- ==== Proof.Mm.P2.lean ====
/- The gradient of the weight of a projection of width 3072 (`Kernel2`): the kernel's array and
   the reference's result, both the sum over the rows, entry by entry. -/
module

public import proofs.«01_k».proof.Defs
public import proofs.«01_k».proof.Proof.Mm.Product
public import proofs.«01_k».proof.Proof.Gen.Kernel2Ideal.Value
public import proofs.«01_k».proof.Proof.Gen.Reference2Ideal.Run
public import Idealize.ShloMosaic.Lib.Pipeline.ValueKit
public import Idealize.ShloMosaic.Lib.Quiescent

@[expose] public section

set_option maxRecDepth 16384

noncomputable section

namespace Cert.Mm.P2

open Idealize.ShloMosaic Idealize.ShloMosaic.TcCoe Idealize.ShloMosaic.ValueIdx Idealize.SL.Sem
open Cert.Kernel2Ideal Cert.Kernel2Ideal.Gen

variable (m : (ℓ : Loc nD τ sig) → Buf (Elt Ideal) ℓ)

theorem w0 : ∀ t : Fin cfg0.N, win0_0.index t = ![0, win0_2.index t 0] := (by decide +kernel : ∀ t : Fin grid0.N, _)
theorem w1 : ∀ t : Fin cfg0.N, win0_1.index t = ![0, win0_2.index t 1] := (by decide +kernel : ∀ t : Fin grid0.N, _)

/-- The place of a result block's entry in the result. -/
theorem e0 (t : Fin cfg0.N) (y : S1024x1024.Idx) : ((win0_2.blk t).view.emb y 0 : ℕ) = win0_2.index t 0 * 1024 + (y 0 : ℕ) := by blk_simp
theorem e1 (t : Fin cfg0.N) (y : S1024x1024.Idx) : ((win0_2.blk t).view.emb y 1 : ℕ) = win0_2.index t 1 * 1024 + (y 1 : ℕ) := by blk_simp

/-- The result. -/
def G (c : Dev nD) : (⟨S2048x3072, .bf16⟩ : BufTy).Contents (Elt Ideal) := fun i =>
  gradW (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (rows_block (φ₁ := .bf16) (φ₂ := .bf16) (iblk m c 0 t) (iblk m c 1 t) y).trans ?_
  unfold G gradW
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

/-- Kernel and reference end with equal results over the extended reals. -/
theorem algebraic : Cert.algebraic_Kernel2Ideal_Reference2Ideal (hKernel2Ideal := Cert.Kernel2Ideal.Gen.facts)
    (hReference2Ideal := Cert.Reference2Ideal.Gen.facts) := by
  intro m ρ m' ρ' _ hag
  refine ⟨G m, ?_, ?_⟩
  · exact (θ_run _ _ _).mono (fun r h c => ⟨(h c).1.trans (final m c), (h c).2⟩) (Cert.Kernel2Ideal.Value.run_blocks m ρ)
  · refine (θ_run _ _ _).mono (fun r h c => ⟨(h c).1.trans ?_, (h c).2⟩) (Cert.Reference2Ideal.Value.run m' ρ')
    rw [(hag c).1, (hag c).2]
    exact host_gradW _ _ _ _

end Cert.Mm.P2

end
-- ==== Proof.Mm.P3.lean ====
/- The gradient of the input of a projection of width 3072, added to an earlier gradient
   (`Kernel3`): the kernel's array and the reference's result, entry by entry the sum over the contracted columns plus the entry that it is added to. -/
module

public import proofs.«01_k».proof.Defs
public import proofs.«01_k».proof.Proof.Mm.Product
public import proofs.«01_k».proof.Proof.Gen.Kernel3Ideal.Value
public import proofs.«01_k».proof.Proof.Gen.Reference3Ideal.Run
public import Idealize.ShloMosaic.Lib.Pipeline.ValueKit
public import Idealize.ShloMosaic.Lib.Quiescent

@[expose] public section

set_option maxRecDepth 16384

noncomputable section

namespace Cert.Mm.P3

open Idealize.ShloMosaic Idealize.ShloMosaic.TcCoe Idealize.ShloMosaic.ValueIdx Idealize.SL.Sem
open Cert.Kernel3Ideal Cert.Kernel3Ideal.Gen

variable (m : (ℓ : Loc nD τ sig) → Buf (Elt Ideal) ℓ)

theorem w0 : ∀ t : Fin cfg0.N, win0_0.index t = ![win0_3.index t 0, 0] := (by decide +kernel : ∀ t : Fin grid0.N, _)
theorem w1 : ∀ t : Fin cfg0.N, win0_1.index t = ![win0_3.index t 1, 0] := (by decide +kernel : ∀ t : Fin grid0.N, _)
theorem w2 : ∀ t : Fin cfg0.N, win0_2.index t = win0_3.index t := (by decide +kernel : ∀ t : Fin grid0.N, _)

/-- The place of a result block's entry in the result. -/
theorem e0 (t : Fin cfg0.N) (y : S1088x512.Idx) : ((win0_3.blk t).view.emb y 0 : ℕ) = win0_3.index t 0 * 1088 + (y 0 : ℕ) := by blk_simp
theorem e1 (t : Fin cfg0.N) (y : S1088x512.Idx) : ((win0_3.blk t).view.emb y 1 : ℕ) = win0_3.index t 1 * 512 + (y 1 : ℕ) := by blk_simp

/-- The result. -/
def G (c : Dev nD) : (⟨S4352x2048, .f32⟩ : BufTy).Contents (Elt Ideal) :=
  gradNadd (m ((c.tc : Thread nD τ).loc main_arg0)) (m ((c.tc : Thread nD τ).loc main_arg1)) (m ((c.tc : Thread nD τ).loc main_arg2))

theorem final (c : Dev nD) : (dats m 0 c).arrAt 3 cfg0.N = G m c := by
  refine (dats m 0 c).arrAt_eq_of_covers 3 _ (by decide +kernel) fun t _ y => ?_
  blk_simp
  rw [after0_3]
  frame_out
  refine (congrArg (fun a : EReal => a + iblk m c 2 t y) (cols_block (φ₁ := .bf16) (φ₂ := .bf16) (iblk m c 0 t) (iblk m c 1 t) y)).trans ?_
  unfold G gradNadd gradN
  refine (add_comm _ _).trans (congrArg₂ (· + ·) ?_ (Finset.sum_congr rfl fun k _ => congrArg₂ (· * ·) ?_ ?_))
  · blk_ext [iblk, V, w2 t]
  · blk_ext [iblk, V, w0 t]
    exact (e0 t y).symm
  · blk_ext [iblk, V, w1 t]
    exact (e1 t y).symm

/-- The reference's frame. -/
theorem frameR : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run m ρ)

/-- Kernel and reference end with equal results over the extended reals. -/
theorem algebraic : Cert.algebraic_Kernel3Ideal_Reference3Ideal (hKernel3Ideal := Cert.Kernel3Ideal.Gen.facts)
    (hReference3Ideal := Cert.Reference3Ideal.Gen.facts) := by
  intro m ρ m' ρ' _ hag
  refine ⟨G m, ?_, ?_⟩
  · exact (θ_run _ _ _).mono (fun r h c => ⟨(h c).1.trans (final m c), (h c).2⟩) (Cert.Kernel3Ideal.Value.run_blocks m ρ)
  · refine (θ_run _ _ _).mono (fun r h c => ⟨(h c).1.trans ?_, (h c).2⟩) (Cert.Reference3Ideal.Value.run m' ρ')
    rw [(hag c).1, (hag c).2.1, (hag c).2.2]
    exact congrArg (addf _) (host_gradN _ _ _)

end Cert.Mm.P3

end
-- ==== Proof.Mm.P4.lean ====
/- The gradient of the input of a projection of width 6144, added to an earlier gradient (`Kernel4`): the kernel's array and the reference's result, entry by entry the
   sum over the contracted columns plus the entry that it is added to. -/
module

public import proofs.«01_k».proof.Defs
public import proofs.«01_k».proof.Proof.Mm.Product
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Mm.P4

open Idealize.ShloMosaic Idealize.ShloMosaic.TcCoe Idealize.ShloMosaic.ValueIdx Idealize.SL.Sem
open Cert.Kernel4Ideal Cert.Kernel4Ideal.Gen

variable (m : (ℓ : Loc nD τ sig) → Buf (Elt Ideal) ℓ)

/-- The grid point before, where the first half of the columns was contracted. -/
def pre (t : Fin cfg0.N) : Fin cfg0.N := ⟨t.val - 1, lt_of_le_of_lt (Nat.sub_le _ _) t.isLt⟩

theorem w0 : ∀ t : Fin cfg0.N, t.val % 2 = 1 → win0_0.index t = ![win0_3.index t 0, 1] ∧ win0_0.index (pre t) = ![win0_3.index t 0, 0] :=
  (by decide +kernel : ∀ t : Fin grid0.N, _)
theorem w1 : ∀ t : Fin cfg0.N, t.val % 2 = 1 → win0_1.index t = ![win0_3.index t 1, 1] ∧ win0_1.index (pre t) = ![win0_3.index t 1, 0] :=
  (by decide +kernel : ∀ t : Fin grid0.N, _)
theorem w2 : ∀ t : Fin cfg0.N, win0_2.index t = win0_3.index t := (by decide +kernel : ∀ t : Fin grid0.N, _)

/-- The place of a result block's entry in the result. -/
theorem e0 (t : Fin cfg0.N) (y : S1088x512.Idx) : ((win0_3.blk t).view.emb y 0 : ℕ) = win0_3.index t 0 * 1088 + (y 0 : ℕ) := by blk_simp
theorem e1 (t : Fin cfg0.N) (y : S1088x512.Idx) : ((win0_3.blk t).view.emb y 1 : ℕ) = win0_3.index t 1 * 512 + (y 1 : ℕ) := by blk_simp

/-- The result. -/
def G (c : Dev nD) : (⟨S4352x2048, .f32⟩ : BufTy).Contents (Elt Ideal) :=
  gradNadd (m ((c.tc : Thread nD τ).loc main_arg0)) (m ((c.tc : Thread nD τ).loc main_arg1)) (m ((c.tc : Thread nD τ).loc main_arg2))

/-- What the second point of a block stores: both halves' products, and the gradient that they are added to. -/
theorem pay (a a' : FVec Ideal S1088x3072 .bf16) (b b' : FVec Ideal S512x3072 .bf16) (r : FVec Ideal S1088x512 .f32) (y : S1088x512.Idx) : k0_pay4 (F := Ideal) a b (k0_pay2 (F := Ideal) a' b') r y
    = ((gradN (K := 3072) (M := 1088) (N := 512) a' b' (y 0) (y 1) + gradN (K := 3072) (M := 1088) (N := 512) a b (y 0) (y 1)) + r y : EReal) :=
  congrArg (fun z : EReal => z + r y) (congrArg₂ (fun u v : EReal => u + v)
    ((congrFun (shapeCast_self (k0_pay1 (F := Ideal) a' b') _) y).trans (cols_block (φ₁ := .bf16) (φ₂ := .bf16) a' b' y))
    (cols_block (φ₁ := .bf16) (φ₂ := .bf16) a b y))

theorem final (c : Dev nD) : (dats m 0 c).arrAt 3 cfg0.N = G m c := by
  refine (dats m 0 c).arrAt_eq_of_covers 3 _ (by decide +kernel) fun t hf y => ?_
  have h2 : t.val % 2 = 1 := (flush0_3 t).mp hf
  have hA := outsAt0_A m c (pre t) (by show (t.val - 1) % 2 = 0; omega) (by show ¬(t.val - 1) % 2 = 1; omega)
  blk_simp
  rw [after0_3, outsAt0_B m c t (by omega) h2]
  frame_out
  rw [show outsAt0 m c (t.val - 1) _ = _ from hA]
  frame_out
  rw [read_unread_whole]
  refine (pay (iblk m c 0 t) (iblk m c 0 (pre t)) (iblk m c 1 t) (iblk m c 1 (pre t)) (iblk m c 2 t) y).trans ?_
  unfold G gradNadd
  refine (add_comm _ _).trans (congrArg₂ (· + ·) ?_ (Eq.trans (congrArg₂ (· + ·) (Finset.sum_congr rfl fun k _ => congrArg₂ (· * ·) ?_ ?_)
    (Finset.sum_congr rfl fun k _ => congrArg₂ (· * ·) ?_ ?_))
    (gradN_parts (K := 3072) (L := 3072) (J := 6144) (M := 4352) (N := 2048) rfl (m ((c.tc : Thread nD τ).loc main_arg0)) (m ((c.tc : Thread nD τ).loc main_arg1)) _ _).symm))
  · blk_ext [iblk, V, w2 t]
  · blk_ext [iblk, V, (w0 t h2).2]
    exact (e0 t y).symm
  · blk_ext [iblk, V, (w1 t h2).2]
    exact (e1 t y).symm
  · blk_ext [iblk, V, (w0 t h2).1]
    exact (e0 t y).symm
  · blk_ext [iblk, V, (w1 t h2).1]
    exact (e1 t y).symm

/-- The reference's frame. -/
theorem frameR : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run m ρ)

/-- Kernel and reference end with equal results over the extended reals. -/
theorem algebraic : Cert.algebraic_Kernel4Ideal_Reference4Ideal (hKernel4Ideal := Cert.Kernel4Ideal.Gen.facts)
    (hReference4Ideal := Cert.Reference4Ideal.Gen.facts) := by
  intro m ρ m' ρ' _ hag
  refine ⟨G m, ?_, ?_⟩
  · exact (θ_run _ _ _).mono (fun r h c => ⟨(h c).1.trans (final m c), (h c).2⟩) (Cert.Kernel4Ideal.Value.run_blocks m ρ)
  · refine (θ_run _ _ _).mono (fun r h c => ⟨(h c).1.trans ?_, (h c).2⟩) (Cert.Reference4Ideal.Value.run m' ρ')
    rw [(hag c).1, (hag c).2.1, (hag c).2.2]
    exact congrArg (addf _) (host_gradN _ _ _)

end Cert.Mm.P4

end
-- ==== Proof.Mm.P5.lean ====
/- The gradient of the weight of a projection of width 6144 (`Kernel5`): the kernel's array and
   the reference's result, both the sum over the rows, entry by entry. -/
module

public import proofs.«01_k».proof.Defs
public import proofs.«01_k».proof.Proof.Mm.Product
public import proofs.«01_k».proof.Proof.Gen.Kernel5Ideal.Value
public import proofs.«01_k».proof.Proof.Gen.Reference5Ideal.Run
public import Idealize.ShloMosaic.Lib.Pipeline.ValueKit
public import Idealize.ShloMosaic.Lib.Quiescent

@[expose] public section

set_option maxRecDepth 16384

noncomputable section

namespace Cert.Mm.P5

open Idealize.ShloMosaic Idealize.ShloMosaic.TcCoe Idealize.ShloMosaic.ValueIdx Idealize.SL.Sem
open Cert.Kernel5Ideal Cert.Kernel5Ideal.Gen

variable (m : (ℓ : Loc nD τ sig) → Buf (Elt Ideal) ℓ)

theorem w0 : ∀ t : Fin cfg0.N, win0_0.index t = ![0, win0_2.index t 0] := (by decide +kernel : ∀ t : Fin grid0.N, _)
theorem w1 : ∀ t : Fin cfg0.N, win0_1.index t = ![0, win0_2.index t 1] := (by decide +kernel : ∀ t : Fin grid0.N, _)

/-- The place of a result block's entry in the result. -/
theorem e0 (t : Fin cfg0.N) (y : S1024x1024.Idx) : ((win0_2.blk t).view.emb y 0 : ℕ) = win0_2.index t 0 * 1024 + (y 0 : ℕ) := by blk_simp
theorem e1 (t : Fin cfg0.N) (y : S1024x1024.Idx) : ((win0_2.blk t).view.emb y 1 : ℕ) = win0_2.index t 1 * 1024 + (y 1 : ℕ) := by blk_simp

/-- The result. -/
def G (c : Dev nD) : (⟨S2048x6144, .bf16⟩ : BufTy).Contents (Elt Ideal) := fun i =>
  gradW (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (rows_block (φ₁ := .bf16) (φ₂ := .bf16) (iblk m c 0 t) (iblk m c 1 t) y).trans ?_
  unfold G gradW
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run m ρ)

/-- Kernel and reference end with equal results over the extended reals. -/
theorem algebraic : Cert.algebraic_Kernel5Ideal_Reference5Ideal (hKernel5Ideal := Cert.Kernel5Ideal.Gen.facts)
    (hReference5Ideal := Cert.Reference5Ideal.Gen.facts) := by
  intro m ρ m' ρ' _ hag
  refine ⟨G m, ?_, ?_⟩
  · exact (θ_run _ _ _).mono (fun r h c => ⟨(h c).1.trans (final m c), (h c).2⟩) (Cert.Kernel5Ideal.Value.run_blocks m ρ)
  · refine (θ_run _ _ _).mono (fun r h c => ⟨(h c).1.trans ?_, (h c).2⟩) (Cert.Reference5Ideal.Value.run m' ρ')
    rw [(hag c).1, (hag c).2]
    exact host_gradW _ _ _ _

end Cert.Mm.P5

end
-- ==== Proof.Mm.P6.lean ====
/- The gradient of the weight of a projection of width 4096 (`Kernel6`): the kernel's array and
   the reference's result, both the sum over the rows, entry by entry. -/
module

public import proofs.«01_k».proof.Defs
public import proofs.«01_k».proof.Proof.Mm.Product
public import proofs.«01_k».proof.Proof.Gen.Kernel6Ideal.Value
public import proofs.«01_k».proof.Proof.Gen.Reference6Ideal.Run
public import Idealize.ShloMosaic.Lib.Pipeline.ValueKit
public import Idealize.ShloMosaic.Lib.Quiescent

@[expose] public section

set_option maxRecDepth 16384

noncomputable section

namespace Cert.Mm.P6

open Idealize.ShloMosaic Idealize.ShloMosaic.TcCoe Idealize.ShloMosaic.ValueIdx Idealize.SL.Sem
open Cert.Kernel6Ideal Cert.Kernel6Ideal.Gen

variable (m : (ℓ : Loc nD τ sig) → Buf (Elt Ideal) ℓ)

theorem w0 : ∀ t : Fin cfg0.N, win0_0.index t = ![0, win0_2.index t 0] := (by decide +kernel : ∀ t : Fin grid0.N, _)
theorem w1 : ∀ t : Fin cfg0.N, win0_1.index t = ![0, win0_2.index t 1] := (by decide +kernel : ∀ t : Fin grid0.N, _)

/-- The place of a result block's entry in the result. -/
theorem e0 (t : Fin cfg0.N) (y : S1024x1024.Idx) : ((win0_2.blk t).view.emb y 0 : ℕ) = win0_2.index t 0 * 1024 + (y 0 : ℕ) := by blk_simp
theorem e1 (t : Fin cfg0.N) (y : S1024x1024.Idx) : ((win0_2.blk t).view.emb y 1 : ℕ) = win0_2.index t 1 * 1024 + (y 1 : ℕ) := by blk_simp

/-- The result. -/
def G (c : Dev nD) : (⟨S2048x4096, .bf16⟩ : BufTy).Contents (Elt Ideal) := fun i =>
  gradW (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (rows_block (φ₁ := .bf16) (φ₂ := .bf16) (iblk m c 0 t) (iblk m c 1 t) y).trans ?_
  unfold G gradW
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run m ρ)

/-- Kernel and reference end with equal results over the extended reals. -/
theorem algebraic : Cert.algebraic_Kernel6Ideal_Reference6Ideal (hKernel6Ideal := Cert.Kernel6Ideal.Gen.facts)
    (hReference6Ideal := Cert.Reference6Ideal.Gen.facts) := by
  intro m ρ m' ρ' _ hag
  refine ⟨G m, ?_, ?_⟩
  · exact (θ_run _ _ _).mono (fun r h c => ⟨(h c).1.trans (final m c), (h c).2⟩) (Cert.Kernel6Ideal.Value.run_blocks m ρ)
  · refine (θ_run _ _ _).mono (fun r h c => ⟨(h c).1.trans ?_, (h c).2⟩) (Cert.Reference6Ideal.Value.run m' ρ')
    rw [(hag c).1, (hag c).2]
    exact host_gradW _ _ _ _

end Cert.Mm.P6

end
-- ==== Proof.Mm.P7.lean ====
/- The gradient of the weight of an output projection from 4096 columns (`Kernel7`): the kernel's array and
   the reference's result, both the sum over the rows, entry by entry. -/
module

public import proofs.«01_k».proof.Defs
public import proofs.«01_k».proof.Proof.Mm.Product
public import proofs.«01_k».proof.Proof.Gen.Kernel7Ideal.Value
public import proofs.«01_k».proof.Proof.Gen.Reference7Ideal.Run
public import Idealize.ShloMosaic.Lib.Pipeline.ValueKit
public import Idealize.ShloMosaic.Lib.Quiescent

@[expose] public section

set_option maxRecDepth 16384

noncomputable section

namespace Cert.Mm.P7

open Idealize.ShloMosaic Idealize.ShloMosaic.TcCoe Idealize.ShloMosaic.ValueIdx Idealize.SL.Sem
open Cert.Kernel7Ideal Cert.Kernel7Ideal.Gen

variable (m : (ℓ : Loc nD τ sig) → Buf (Elt Ideal) ℓ)

theorem w0 : ∀ t : Fin cfg0.N, win0_0.index t = ![0, win0_2.index t 0] := (by decide +kernel : ∀ t : Fin grid0.N, _)
theorem w1 : ∀ t : Fin cfg0.N, win0_1.index t = ![0, win0_2.index t 1] := (by decide +kernel : ∀ t : Fin grid0.N, _)

/-- The place of a result block's entry in the result. -/
theorem e0 (t : Fin cfg0.N) (y : S1024x1024.Idx) : ((win0_2.blk t).view.emb y 0 : ℕ) = win0_2.index t 0 * 1024 + (y 0 : ℕ) := by blk_simp
theorem e1 (t : Fin cfg0.N) (y : S1024x1024.Idx) : ((win0_2.blk t).view.emb y 1 : ℕ) = win0_2.index t 1 * 1024 + (y 1 : ℕ) := by blk_simp

/-- The result. -/
def G (c : Dev nD) : (⟨S4096x2048, .bf16⟩ : BufTy).Contents (Elt Ideal) := fun i =>
  gradW (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (rows_block (φ₁ := .bf16) (φ₂ := .bf16) (iblk m c 0 t) (iblk m c 1 t) y).trans ?_
  unfold G gradW
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run m ρ)

/-- Kernel and reference end with equal results over the extended reals. -/
theorem algebraic : Cert.algebraic_Kernel7Ideal_Reference7Ideal (hKernel7Ideal := Cert.Kernel7Ideal.Gen.facts)
    (hReference7Ideal := Cert.Reference7Ideal.Gen.facts) := by
  intro m ρ m' ρ' _ hag
  refine ⟨G m, ?_, ?_⟩
  · exact (θ_run _ _ _).mono (fun r h c => ⟨(h c).1.trans (final m c), (h c).2⟩) (Cert.Kernel7Ideal.Value.run_blocks m ρ)
  · refine (θ_run _ _ _).mono (fun r h c => ⟨(h c).1.trans ?_, (h c).2⟩) (Cert.Reference7Ideal.Value.run m' ρ')
    rw [(hag c).1, (hag c).2]
    exact host_gradW _ _ _ _

end Cert.Mm.P7

end
-- ==== Proof.Mm.P8.lean ====
/- The gradient of the input of a projection of width 4096
   (`Kernel8`): the kernel's array and the reference's result, entry by entry the sum over the contracted columns. -/
module

public import proofs.«01_k».proof.Defs
public import proofs.«01_k».proof.Proof.Mm.Product
public import proofs.«01_k».proof.Proof.Gen.Kernel8Ideal.Value
public import proofs.«01_k».proof.Proof.Gen.Reference8Ideal.Run
public import Idealize.ShloMosaic.Lib.Pipeline.ValueKit
public import Idealize.ShloMosaic.Lib.Quiescent

@[expose] public section

set_option maxRecDepth 16384

noncomputable section

namespace Cert.Mm.P8

open Idealize.ShloMosaic Idealize.ShloMosaic.TcCoe Idealize.ShloMosaic.ValueIdx Idealize.SL.Sem
open Cert.Kernel8Ideal Cert.Kernel8Ideal.Gen

variable (m : (ℓ : Loc nD τ sig) → Buf (Elt Ideal) ℓ)

theorem w0 : ∀ t : Fin cfg0.N, win0_0.index t = ![win0_2.index t 0, 0] := (by decide +kernel : ∀ t : Fin grid0.N, _)
theorem w1 : ∀ t : Fin cfg0.N, win0_1.index t = ![win0_2.index t 1, 0] := (by decide +kernel : ∀ t : Fin grid0.N, _)

/-- The place of a result block's entry in the result. -/
theorem e0 (t : Fin cfg0.N) (y : S1088x512.Idx) : ((win0_2.blk t).view.emb y 0 : ℕ) = win0_2.index t 0 * 1088 + (y 0 : ℕ) := by blk_simp
theorem e1 (t : Fin cfg0.N) (y : S1088x512.Idx) : ((win0_2.blk t).view.emb y 1 : ℕ) = win0_2.index t 1 * 512 + (y 1 : ℕ) := by blk_simp

/-- The result. -/
def G (c : Dev nD) : (⟨S4352x2048, .f32⟩ : BufTy).Contents (Elt Ideal) :=
  fun i => gradN (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (cols_block (φ₁ := .bf16) (φ₂ := .bf16) (iblk m c 0 t) (iblk m c 1 t) y).trans ?_
  unfold G gradN
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run m ρ)

/-- Kernel and reference end with equal results over the extended reals. -/
theorem algebraic : Cert.algebraic_Kernel8Ideal_Reference8Ideal (hKernel8Ideal := Cert.Kernel8Ideal.Gen.facts)
    (hReference8Ideal := Cert.Reference8Ideal.Gen.facts) := by
  intro m ρ m' ρ' _ hag
  refine ⟨G m, ?_, ?_⟩
  · exact (θ_run _ _ _).mono (fun r h c => ⟨(h c).1.trans (final m c), (h c).2⟩) (Cert.Kernel8Ideal.Value.run_blocks m ρ)
  · refine (θ_run _ _ _).mono (fun r h c => ⟨(h c).1.trans ?_, (h c).2⟩) (Cert.Reference8Ideal.Value.run m' ρ')
    rw [(hag c).1, (hag c).2]
    exact host_gradN _ _ _

end Cert.Mm.P8

end
-- ==== Proof.Mm.P9.lean ====
/- The gradient of the input of an output projection from 4096 columns
   (`Kernel9`): the kernel's array and the reference's result, entry by entry the sum over the contracted columns. -/
module

public import proofs.«01_k».proof.Defs
public import proofs.«01_k».proof.Proof.Mm.Product
public import proofs.«01_k».proof.Proof.Gen.Kernel9Ideal.Value
public import proofs.«01_k».proof.Proof.Gen.Reference9Ideal.Run
public import Idealize.ShloMosaic.Lib.Pipeline.ValueKit
public import Idealize.ShloMosaic.Lib.Quiescent

@[expose] public section

set_option maxRecDepth 16384

noncomputable section

namespace Cert.Mm.P9

open Idealize.ShloMosaic Idealize.ShloMosaic.TcCoe Idealize.ShloMosaic.ValueIdx Idealize.SL.Sem
open Cert.Kernel9Ideal Cert.Kernel9Ideal.Gen

variable (m : (ℓ : Loc nD τ sig) → Buf (Elt Ideal) ℓ)

theorem w0 : ∀ t : Fin cfg0.N, win0_0.index t = ![win0_2.index t 0, 0] := (by decide +kernel : ∀ t : Fin grid0.N, _)
theorem w1 : ∀ t : Fin cfg0.N, win0_1.index t = ![win0_2.index t 1, 0] := (by decide +kernel : ∀ t : Fin grid0.N, _)

/-- The place of a result block's entry in the result. -/
theorem e0 (t : Fin cfg0.N) (y : S1088x512.Idx) : ((win0_2.blk t).view.emb y 0 : ℕ) = win0_2.index t 0 * 1088 + (y 0 : ℕ) := by blk_simp
theorem e1 (t : Fin cfg0.N) (y : S1088x512.Idx) : ((win0_2.blk t).view.emb y 1 : ℕ) = win0_2.index t 1 * 512 + (y 1 : ℕ) := by blk_simp

/-- The result. -/
def G (c : Dev nD) : (⟨S4352x4096, .f32⟩ : BufTy).Contents (Elt Ideal) :=
  fun i => gradN (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (cols_block (φ₁ := .bf16) (φ₂ := .bf16) (iblk m c 0 t) (iblk m c 1 t) y).trans ?_
  unfold G gradN
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run m ρ)

/-- Kernel and reference end with equal results over the extended reals. -/
theorem algebraic : Cert.algebraic_Kernel9Ideal_Reference9Ideal (hKernel9Ideal := Cert.Kernel9Ideal.Gen.facts)
    (hReference9Ideal := Cert.Reference9Ideal.Gen.facts) := by
  intro m ρ m' ρ' _ hag
  refine ⟨G m, ?_, ?_⟩
  · exact (θ_run _ _ _).mono (fun r h c => ⟨(h c).1.trans (final m c), (h c).2⟩) (Cert.Kernel9Ideal.Value.run_blocks m ρ)
  · refine (θ_run _ _ _).mono (fun r h c => ⟨(h c).1.trans ?_, (h c).2⟩) (Cert.Reference9Ideal.Value.run m' ρ')
    rw [(hag c).1, (hag c).2]
    exact host_gradN _ _ _

end Cert.Mm.P9

end
-- ==== Proof.Mm.P10.lean ====
/- The gradient of the weight of an output projection from 3072 columns (`Kernel10`): the kernel's array and
   the reference's result, both the sum over the rows, entry by entry. -/
module

public import proofs.«01_k».proof.Defs
public import proofs.«01_k».proof.Proof.Mm.Product
public import proofs.«01_k».proof.Proof.Gen.Kernel10Ideal.Value
public import proofs.«01_k».proof.Proof.Gen.Reference10Ideal.Run
public import Idealize.ShloMosaic.Lib.Pipeline.ValueKit
public import Idealize.ShloMosaic.Lib.Quiescent

@[expose] public section

set_option maxRecDepth 16384

noncomputable section

namespace Cert.Mm.P10

open Idealize.ShloMosaic Idealize.ShloMosaic.TcCoe Idealize.ShloMosaic.ValueIdx Idealize.SL.Sem
open Cert.Kernel10Ideal Cert.Kernel10Ideal.Gen

variable (m : (ℓ : Loc nD τ sig) → Buf (Elt Ideal) ℓ)

theorem w0 : ∀ t : Fin cfg0.N, win0_0.index t = ![0, win0_2.index t 0] := (by decide +kernel : ∀ t : Fin grid0.N, _)
theorem w1 : ∀ t : Fin cfg0.N, win0_1.index t = ![0, win0_2.index t 1] := (by decide +kernel : ∀ t : Fin grid0.N, _)

/-- The place of a result block's entry in the result. -/
theorem e0 (t : Fin cfg0.N) (y : S1024x1024.Idx) : ((win0_2.blk t).view.emb y 0 : ℕ) = win0_2.index t 0 * 1024 + (y 0 : ℕ) := by blk_simp
theorem e1 (t : Fin cfg0.N) (y : S1024x1024.Idx) : ((win0_2.blk t).view.emb y 1 : ℕ) = win0_2.index t 1 * 1024 + (y 1 : ℕ) := by blk_simp

/-- The result. -/
def G (c : Dev nD) : (⟨S3072x2048, .bf16⟩ : BufTy).Contents (Elt Ideal) := fun i =>
  gradW (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (rows_block (φ₁ := .bf16) (φ₂ := .bf16) (iblk m c 0 t) (iblk m c 1 t) y).trans ?_
  unfold G gradW
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run m ρ)

/-- Kernel and reference end with equal results over the extended reals. -/
theorem algebraic : Cert.algebraic_Kernel10Ideal_Reference10Ideal (hKernel10Ideal := Cert.Kernel10Ideal.Gen.facts)
    (hReference10Ideal := Cert.Reference10Ideal.Gen.facts) := by
  intro m ρ m' ρ' _ hag
  refine ⟨G m, ?_, ?_⟩
  · exact (θ_run _ _ _).mono (fun r h c => ⟨(h c).1.trans (final m c), (h c).2⟩) (Cert.Kernel10Ideal.Value.run_blocks m ρ)
  · refine (θ_run _ _ _).mono (fun r h c => ⟨(h c).1.trans ?_, (h c).2⟩) (Cert.Reference10Ideal.Value.run m' ρ')
    rw [(hag c).1, (hag c).2]
    exact host_gradW _ _ _ _

end Cert.Mm.P10

end
-- ==== Proof.Mm.P11.lean ====
/- The gradient of the input of an output projection from 3072 columns
   (`Kernel11`): the kernel's array and the reference's result, entry by entry the sum over the contracted columns. -/
module

public import proofs.«01_k».proof.Defs
public import proofs.«01_k».proof.Proof.Mm.Product
public import proofs.«01_k».proof.Proof.Gen.Kernel11Ideal.Value
public import proofs.«01_k».proof.Proof.Gen.Reference11Ideal.Run
public import Idealize.ShloMosaic.Lib.Pipeline.ValueKit
public import Idealize.ShloMosaic.Lib.Quiescent

@[expose] public section

set_option maxRecDepth 16384

noncomputable section

namespace Cert.Mm.P11

open Idealize.ShloMosaic Idealize.ShloMosaic.TcCoe Idealize.ShloMosaic.ValueIdx Idealize.SL.Sem
open Cert.Kernel11Ideal Cert.Kernel11Ideal.Gen

variable (m : (ℓ : Loc nD τ sig) → Buf (Elt Ideal) ℓ)

theorem w0 : ∀ t : Fin cfg0.N, win0_0.index t = ![win0_2.index t 0, 0] := (by decide +kernel : ∀ t : Fin grid0.N, _)
theorem w1 : ∀ t : Fin cfg0.N, win0_1.index t = ![win0_2.index t 1, 0] := (by decide +kernel : ∀ t : Fin grid0.N, _)

/-- The place of a result block's entry in the result. -/
theorem e0 (t : Fin cfg0.N) (y : S1088x512.Idx) : ((win0_2.blk t).view.emb y 0 : ℕ) = win0_2.index t 0 * 1088 + (y 0 : ℕ) := by blk_simp
theorem e1 (t : Fin cfg0.N) (y : S1088x512.Idx) : ((win0_2.blk t).view.emb y 1 : ℕ) = win0_2.index t 1 * 512 + (y 1 : ℕ) := by blk_simp

/-- The result. -/
def G (c : Dev nD) : (⟨S4352x3072, .f32⟩ : BufTy).Contents (Elt Ideal) :=
  fun i => gradN (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (cols_block (φ₁ := .bf16) (φ₂ := .bf16) (iblk m c 0 t) (iblk m c 1 t) y).trans ?_
  unfold G gradN
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run m ρ)

/-- Kernel and reference end with equal results over the extended reals. -/
theorem algebraic : Cert.algebraic_Kernel11Ideal_Reference11Ideal (hKernel11Ideal := Cert.Kernel11Ideal.Gen.facts)
    (hReference11Ideal := Cert.Reference11Ideal.Gen.facts) := by
  intro m ρ m' ρ' _ hag
  refine ⟨G m, ?_, ?_⟩
  · exact (θ_run _ _ _).mono (fun r h c => ⟨(h c).1.trans (final m c), (h c).2⟩) (Cert.Kernel11Ideal.Value.run_blocks m ρ)
  · refine (θ_run _ _ _).mono (fun r h c => ⟨(h c).1.trans ?_, (h c).2⟩) (Cert.Reference11Ideal.Value.run m' ρ')
    rw [(hag c).1, (hag c).2]
    exact host_gradN _ _ _

end Cert.Mm.P11

end
-- ==== Proof.Mm.P12.lean ====
/- The gradient of the weight of a projection of width 2048 (`Kernel12`): the kernel's array and
   the reference's result, both the sum over the rows, entry by entry. -/
module

public import proofs.«01_k».proof.Defs
public import proofs.«01_k».proof.Proof.Mm.Product
public import proofs.«01_k».proof.Proof.Gen.Kernel12Ideal.Value
public import proofs.«01_k».proof.Proof.Gen.Reference12Ideal.Run
public import Idealize.ShloMosaic.Lib.Pipeline.ValueKit
public import Idealize.ShloMosaic.Lib.Quiescent

@[expose] public section

set_option maxRecDepth 16384

noncomputable section

namespace Cert.Mm.P12

open Idealize.ShloMosaic Idealize.ShloMosaic.TcCoe Idealize.ShloMosaic.ValueIdx Idealize.SL.Sem
open Cert.Kernel12Ideal Cert.Kernel12Ideal.Gen

variable (m : (ℓ : Loc nD τ sig) → Buf (Elt Ideal) ℓ)

theorem w0 : ∀ t : Fin cfg0.N, win0_0.index t = ![0, win0_2.index t 0] := (by decide +kernel : ∀ t : Fin grid0.N, _)
theorem w1 : ∀ t : Fin cfg0.N, win0_1.index t = ![0, win0_2.index t 1] := (by decide +kernel : ∀ t : Fin grid0.N, _)

/-- The place of a result block's entry in the result. -/
theorem e0 (t : Fin cfg0.N) (y : S1024x1024.Idx) : ((win0_2.blk t).view.emb y 0 : ℕ) = win0_2.index t 0 * 1024 + (y 0 : ℕ) := by blk_simp
theorem e1 (t : Fin cfg0.N) (y : S1024x1024.Idx) : ((win0_2.blk t).view.emb y 1 : ℕ) = win0_2.index t 1 * 1024 + (y 1 : ℕ) := by blk_simp

/-- The result. -/
def G (c : Dev nD) : (⟨S2048x2048, .bf16⟩ : BufTy).Contents (Elt Ideal) := fun i =>
  gradW (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (rows_block (φ₁ := .bf16) (φ₂ := .bf16) (iblk m c 0 t) (iblk m c 1 t) y).trans ?_
  unfold G gradW
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run m ρ)

/-- Kernel and reference end with equal results over the extended reals. -/
theorem algebraic : Cert.algebraic_Kernel12Ideal_Reference12Ideal (hKernel12Ideal := Cert.Kernel12Ideal.Gen.facts)
    (hReference12Ideal := Cert.Reference12Ideal.Gen.facts) := by
  intro m ρ m' ρ' _ hag
  refine ⟨G m, ?_, ?_⟩
  · exact (θ_run _ _ _).mono (fun r h c => ⟨(h c).1.trans (final m c), (h c).2⟩) (Cert.Kernel12Ideal.Value.run_blocks m ρ)
  · refine (θ_run _ _ _).mono (fun r h c => ⟨(h c).1.trans ?_, (h c).2⟩) (Cert.Reference12Ideal.Value.run m' ρ')
    rw [(hag c).1, (hag c).2]
    exact host_gradW _ _ _ _

end Cert.Mm.P12

end
-- ==== Proof.Mm.P13.lean ====
/- The gradient of the input of a projection of width 2048
   (`Kernel13`): the kernel's array and the reference's result, entry by entry the sum over the contracted columns. -/
module

public import proofs.«01_k».proof.Defs
public import proofs.«01_k».proof.Proof.Mm.Product
public import proofs.«01_k».proof.Proof.Gen.Kernel13Ideal.Value
public import proofs.«01_k».proof.Proof.Gen.Reference13Ideal.Run
public import Idealize.ShloMosaic.Lib.Pipeline.ValueKit
public import Idealize.ShloMosaic.Lib.Quiescent

@[expose] public section

set_option maxRecDepth 16384

noncomputable section

namespace Cert.Mm.P13

open Idealize.ShloMosaic Idealize.ShloMosaic.TcCoe Idealize.ShloMosaic.ValueIdx Idealize.SL.Sem
open Cert.Kernel13Ideal Cert.Kernel13Ideal.Gen

variable (m : (ℓ : Loc nD τ sig) → Buf (Elt Ideal) ℓ)

theorem w0 : ∀ t : Fin cfg0.N, win0_0.index t = ![win0_2.index t 0, 0] := (by decide +kernel : ∀ t : Fin grid0.N, _)
theorem w1 : ∀ t : Fin cfg0.N, win0_1.index t = ![win0_2.index t 1, 0] := (by decide +kernel : ∀ t : Fin grid0.N, _)

/-- The place of a result block's entry in the result. -/
theorem e0 (t : Fin cfg0.N) (y : S1088x512.Idx) : ((win0_2.blk t).view.emb y 0 : ℕ) = win0_2.index t 0 * 1088 + (y 0 : ℕ) := by blk_simp
theorem e1 (t : Fin cfg0.N) (y : S1088x512.Idx) : ((win0_2.blk t).view.emb y 1 : ℕ) = win0_2.index t 1 * 512 + (y 1 : ℕ) := by blk_simp

/-- The result. -/
def G (c : Dev nD) : (⟨S4352x2048, .f32⟩ : BufTy).Contents (Elt Ideal) :=
  fun i => gradN (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (cols_block (φ₁ := .bf16) (φ₂ := .bf16) (iblk m c 0 t) (iblk m c 1 t) y).trans ?_
  unfold G gradN
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run m ρ)

/-- Kernel and reference end with equal results over the extended reals. -/
theorem algebraic : Cert.algebraic_Kernel13Ideal_Reference13Ideal (hKernel13Ideal := Cert.Kernel13Ideal.Gen.facts)
    (hReference13Ideal := Cert.Reference13Ideal.Gen.facts) := by
  intro m ρ m' ρ' _ hag
  refine ⟨G m, ?_, ?_⟩
  · exact (θ_run _ _ _).mono (fun r h c => ⟨(h c).1.trans (final m c), (h c).2⟩) (Cert.Kernel13Ideal.Value.run_blocks m ρ)
  · refine (θ_run _ _ _).mono (fun r h c => ⟨(h c).1.trans ?_, (h c).2⟩) (Cert.Reference13Ideal.Value.run m' ρ')
    rw [(hag c).1, (hag c).2]
    exact host_gradN _ _ _

end Cert.Mm.P13

end
-- ==== Proof.Norm.Row.lean ====
/- The gradient of the RMS norm, row by row over the extended reals: what the kernel's block computes of its rows, and
   what the reference computes of its rows, are the same functions of one row. -/
module

public import proofs.«01_k».proof.Proof.Gen.Kernel14Ideal.Skeleton
public import proofs.«01_k».proof.Proof.Gen.Reference14Ideal
public import Idealize.ShloMosaic.Lib.Pointwise

@[expose] public section

set_option maxRecDepth 16384

noncomputable section

namespace Cert.Norm

open Idealize.ShloMosaic
open scoped BigOperators

/-- A row. -/
abbrev Row := Fin 2048 → EReal

/-- The number of columns, the constant inside the root, and the factor −1/2 of the root's derivative. -/
def width : EReal := Ideal.ofBits .f32 0x45000000#32
def eps : EReal := Ideal.ofBits .f32 0x358637BD#32
def half : EReal := Ideal.ofBits .f32 0xBF000000#32

/-- The mean square of a row, plus the constant. -/
def ms (a : Row) : EReal := Ideal.div (∑ k, a k * a k) width + eps
/-- Its inverse root. -/
def rs (a : Row) : EReal := Ideal.rsqrt (ms a)
/-- The gradient of the mean square, spread over the columns. -/
def dms (a d g : Row) : EReal := Ideal.div ((∑ k, a k * (d k * g k)) * (half * Ideal.div (rs a) (ms a))) width
/-- The gradient of the row. -/
def dx (a d g : Row) (j : Fin 2048) : EReal := (d j * g j) * rs a + a j * dms a d g + dms a d g * a j
/-- What the row adds to the gradient of the weight. -/
def dg (a d : Row) (j : Fin 2048) : EReal := (a j * rs a) * d j

/-- Row `i` of an array. -/
abbrev row {M : ℕ} (x : (⟨2, ![M, 2048]⟩ : Shape).Idx → EReal) (i : Fin M) : Row := fun k => x (ix2 i k)

/-- An index is the pair of its coordinates. -/
theorem eta {M N : ℕ} (y : (⟨2, ![M, N]⟩ : Shape).Idx) : ix2 (y 0) (y 1) = y := by
  funext a
  match a with
  | ⟨0, _⟩ => rfl
  | ⟨1, _⟩ => rfl

section Kernel

open Cert.Kernel14Ideal Cert.Kernel14Ideal.Gen

variable (x d : FVec Ideal S256x2048 .f32) (g : FVec Ideal S1x2048 .f32)

theorem k_ms (r : Fin 256) : k0_pay4 (F := Ideal) x (ix2 r 0) = ms (row x r) := by
  pointwise [k0_pay4]
  rfl

theorem k_rs (r : Fin 256) : k0_pay5 (F := Ideal) x (ix2 r 0) = rs (row x r) := by
  show Ideal.rsqrt (k0_pay4 (F := Ideal) x (ix2 r 0)) = _
  rw [k_ms]; rfl

theorem k_dx (r : Fin 256) (j : Fin 2048) : k0_pay7 (F := Ideal) x d g (ix2 r j) = dx (row x r) (row d r) (row g 0) j := by
  pointwise [k0_pay7]
  rw [Fin.sum_univ_one, k_ms, k_rs]
  rfl

theorem k_dg (j : Fin 2048) : k0_pay6 (F := Ideal) x d (ix2 0 j) = ∑ r : Fin 256, dg (row x r) (row d r) j := by
  pointwise [k0_pay6]
  refine Finset.sum_congr rfl fun r _ => ?_
  rw [k_rs]
  rfl

end Kernel

section Reference

open Cert.Reference14Ideal Cert.Reference14Ideal.Gen

variable (x d : FVec Ideal S4352x2048 .f32) (g : FVec Ideal S1x2048 .f32)

/-- The reference's values, in its own operations. -/
def rMs : FVec Ideal S4352x1 .f32 := addf (Host.divf (broadcastInDim S4352x1 ![0] bcast_S4352_S4352x1_0 (Host.reduceAdd (mulf x x) (constant S_ .f32 0x00000000#32) reducesTo_S4352x2048_S4352_d1 h_S_)) (broadcastInDim S4352x1 ![] bcast_S_S4352x1 (constant S_ .f32 0x45000000#32))) (broadcastInDim S4352x1 ![] bcast_S_S4352x1 (constant S_ .f32 0x358637BD#32))
def rRs : FVec Ideal S4352x1 .f32 := Host.rsqrt (rMs x)
def rDn : FVec Ideal S4352x2048 .f32 := mulf d (broadcastInDim S4352x2048 ![0, 1] bcast_S1x2048_S4352x2048_0_1 g)
def rDms : FVec Ideal S4352 .f32 := Host.reduceAdd (Host.divf (mulf (shapeCast _ (Host.reduceAdd (mulf x (rDn d g)) (constant S_ .f32 0x00000000#32) reducesTo_S4352x2048_S4352_d1 h_S_) shapeCasts_S4352_S4352x1) (mulf (broadcastInDim S4352x1 ![] bcast_S_S4352x1 (constant S_ .f32 0xBF000000#32)) (Host.divf (rRs x) (rMs x)))) (broadcastInDim S4352x1 ![] bcast_S_S4352x1 (constant S_ .f32 0x45000000#32))) (constant S_ .f32 0x00000000#32) reducesTo_S4352x1_S4352_d1 h_S_
def rDx : FVec Ideal S4352x2048 .f32 := addf (addf (mulf (rDn d g) (broadcastInDim S4352x2048 ![0, 1] bcast_S4352x1_S4352x2048_0_1 (rRs x))) (mulf x (broadcastInDim S4352x2048 ![0] bcast_S4352_S4352x2048_0 (rDms x d g)))) (mulf (broadcastInDim S4352x2048 ![0] bcast_S4352_S4352x2048_0 (rDms x d g)) x)
def rDg : FVec Ideal S1x2048 .f32 := shapeCast _ (Host.reduceAdd (mulf (mulf x (broadcastInDim S4352x2048 ![0, 1] bcast_S4352x1_S4352x2048_0_1 (rRs x))) d) (constant S_ .f32 0x00000000#32) reducesTo_S4352x2048_S2048_d0 h_S_) shapeCasts_S2048_S1x2048

theorem r_ms (r : Fin 4352) : rMs x (ix2 r 0) = ms (row x r) := by
  pointwise [rMs]
  rfl

theorem r_rs (r : Fin 4352) : rRs x (ix2 r 0) = rs (row x r) := by
  show Ideal.rsqrt (rMs x (ix2 r 0)) = _
  rw [r_ms]; rfl

theorem r_dms (r : Fin 4352) : rDms x d g (ix1 r) = dms (row x r) (row d r) (row g 0) := by
  pointwise [rDms, rDn]
  rw [Fin.sum_univ_one, r_ms, r_rs]
  rfl

theorem r_dx (r : Fin 4352) (j : Fin 2048) : rDx x d g (ix2 r j) = dx (row x r) (row d r) (row g 0) j := by
  pointwise [rDx, rDn]
  rw [r_rs, r_dms]
  rfl

theorem r_dg (j : Fin 2048) : rDg x d (ix2 0 j) = ∑ r : Fin 4352, dg (row x r) (row d r) j := by
  pointwise [rDg]
  refine Finset.sum_congr rfl fun r _ => ?_
  rw [r_rs]
  rfl

end Reference

end Cert.Norm

end
-- ==== Proof.Norm.P14.lean ====
/- The backward pass of the RMS norm with the residual added (`Kernel14`): the kernel's three arrays and the reference's
   three results. The gradient of the rows is the same function of each row; the gradient of the weight is accumulated
   over the 17 blocks of 256 rows and compared with the sum over all 4352 rows. -/
module

public import proofs.«01_k».proof.Defs
public import proofs.«01_k».proof.Proof.Norm.Row
public import proofs.«01_k».proof.Proof.Gen.Kernel14Ideal.Value
public import proofs.«01_k».proof.Proof.Gen.Reference14Ideal.Run
public import Idealize.ShloMosaic.Lib.Pipeline.ValueKit
public import Idealize.ShloMosaic.Lib.Pipeline.ReadBack
public import Idealize.ShloMosaic.Lib.Quiescent

@[expose] public section

set_option maxRecDepth 16384

noncomputable section

namespace Cert.Norm.P14

open Idealize.ShloMosaic Idealize.ShloMosaic.TcCoe Idealize.SL.Sem
open Cert.Kernel14Ideal Cert.Kernel14Ideal.Gen
open scoped BigOperators

variable (m : (ℓ : Loc nD τ sig) → Buf (Elt Ideal) ℓ)

theorem w0 : ∀ t : Fin cfg0.N, win0_0.index t = ![t.val, 0] := (by decide +kernel : ∀ t : Fin grid0.N, _)
theorem w1 : ∀ t : Fin cfg0.N, win0_1.index t = ![t.val, 0] := (by decide +kernel : ∀ t : Fin grid0.N, _)
theorem w2 : ∀ t : Fin cfg0.N, win0_2.index t = ![t.val, 0] := (by decide +kernel : ∀ t : Fin grid0.N, _)
theorem w3 : ∀ t : Fin cfg0.N, win0_3.index t = ![0, 0] := (by decide +kernel : ∀ t : Fin grid0.N, _)
theorem w4 : ∀ t : Fin cfg0.N, win0_4.index t = ![t.val, 0] := (by decide +kernel : ∀ t : Fin grid0.N, _)
theorem w5 : ∀ t : Fin cfg0.N, win0_5.index t = ![t.val, 0] := (by decide +kernel : ∀ t : Fin grid0.N, _)
theorem w6 : ∀ t : Fin cfg0.N, win0_6.index t = ![0, 0] := (by decide +kernel : ∀ t : Fin grid0.N, _)

/-- The arguments: the rows, the weight, the cotangent, the gradient that the result is added to. -/
abbrev X (c : Dev nD) : FVec Ideal S4352x2048 .f32 := m ((c.tc : Thread nD τ).loc main_arg0)
abbrev W (c : Dev nD) : FVec Ideal S1x2048 .f32 := m ((c.tc : Thread nD τ).loc main_arg1)
abbrev D (c : Dev nD) : FVec Ideal S4352x2048 .f32 := m ((c.tc : Thread nD τ).loc main_arg2)
abbrev R (c : Dev nD) : FVec Ideal S4352x2048 .f32 := m ((c.tc : Thread nD τ).loc main_arg3)

/-- Row `r` of block `s`. -/
def ro (s : ℕ) (r : Fin 256) : Fin 4352 := ⟨(s * 256 + r.val) % 4352, Nat.mod_lt _ (by decide)⟩

theorem ro_val (t : Fin cfg0.N) (r : Fin 256) : (ro t.val r : ℕ) = t.val * 256 + r.val :=
  Nat.mod_eq_of_lt (by have h : t.val < 17 := t.isLt; omega)

/-- The rows of the blocks that a grid point reads. -/
theorem row0 (c : Dev nD) (t : Fin cfg0.N) (r : Fin 256) : row (iblk m c 0 t) r = row (X m c) (ro t.val r) := by
  funext k
  show iblk m c 0 t (ix2 r k) = X m c (ix2 (ro t.val r) k)
  blk_ext [iblk, V, w0 t]
  exact (ro_val t r).symm
theorem row1 (c : Dev nD) (t : Fin cfg0.N) (r : Fin 256) : row (iblk m c 1 t) r = row (D m c) (ro t.val r) := by
  funext k
  show iblk m c 1 t (ix2 r k) = D m c (ix2 (ro t.val r) k)
  blk_ext [iblk, V, w1 t]
  exact (ro_val t r).symm
theorem row2 (c : Dev nD) (t : Fin cfg0.N) (r : Fin 256) : row (iblk m c 2 t) r = row (R m c) (ro t.val r) := by
  funext k
  show iblk m c 2 t (ix2 r k) = R m c (ix2 (ro t.val r) k)
  blk_ext [iblk, V, w2 t]
  exact (ro_val t r).symm
theorem row3 (c : Dev nD) (t : Fin cfg0.N) : row (iblk m c 3 t) 0 = row (W m c) 0 := by
  funext k
  show iblk m c 3 t (ix2 0 k) = W m c (ix2 0 k)
  blk_ext [iblk, V, w3 t]

/-- The gradient of the rows, added to the earlier one. -/
def G (c : Dev nD) : S4352x2048.Idx → EReal := fun i => dx (row (X m c) (i 0)) (row (D m c) (i 0)) (row (W m c) 0) (i 1) + row (R m c) (i 0) (i 1)

/-- The gradient of the weight. -/
def H (c : Dev nD) : S1x2048.Idx → EReal := fun i => ∑ r : Fin 4352, dg (row (X m c) r) (row (D m c) r) (i 1)

/-- What a grid point stores of its rows. -/
theorem pay (c : Dev nD) (t : Fin cfg0.N) (y : S256x2048.Idx) :
    k0_pay8 (F := Ideal) (iblk m c 0 t) (iblk m c 1 t) (iblk m c 2 t) (iblk m c 3 t) y
      = dx (row (X m c) (ro t.val (y 0))) (row (D m c) (ro t.val (y 0))) (row (W m c) 0) (y 1) + row (R m c) (ro t.val (y 0)) (y 1) := by
  obtain ⟨r, j, rfl⟩ : ∃ r j, y = ix2 r j := ⟨y 0, y 1, (eta y).symm⟩
  show k0_pay7 (F := Ideal) _ _ _ (ix2 r j) + row (iblk m c 2 t) r j = _
  rw [k_dx, row0, row1, row2, row3]
  rfl

theorem at4 (c : Dev nD) (t : Fin cfg0.N) : (outsAt0 m c t.val t.isLt).1 = k0_pay8 (F := Ideal) (iblk m c 0 t) (iblk m c 1 t) (iblk m c 2 t) (iblk m c 3 t) := by
  by_cases h : t.val % 17 = 0
  · rw [outsAt0_A m c t h]
    frame_out
  · rw [outsAt0_B m c t h]
    frame_out

theorem at5 (c : Dev nD) (t : Fin cfg0.N) : (outsAt0 m c t.val t.isLt).2.1 = k0_pay1 (F := Ideal) (k0_pay9 (F := Ideal) (iblk m c 0 t) (iblk m c 1 t) (iblk m c 2 t) (iblk m c 3 t)) := by
  by_cases h : t.val % 17 = 0
  · rw [outsAt0_A m c t h]
    frame_out
  · rw [outsAt0_B m c t h]
    frame_out

theorem at6_A (c : Dev nD) (t : Fin cfg0.N) (h : t.val % 17 = 0) :
    (outsAt0 m c t.val t.isLt).2.2 = k0_pay3 (F := Ideal) (k0_pay6 (F := Ideal) (iblk m c 0 t) (iblk m c 1 t)) (k0_pay2 (F := Ideal)) := by
  rw [outsAt0_A m c t h]
  frame_out

theorem at6_B (c : Dev nD) (t : Fin cfg0.N) (h : ¬t.val % 17 = 0) :
    (outsAt0 m c t.val t.isLt).2.2 = k0_pay3 (F := Ideal) (k0_pay6 (F := Ideal) (iblk m c 0 t) (iblk m c 1 t))
      (outsAt0 m c (t.val - 1) (Nat.lt_of_le_of_lt (Nat.sub_le _ _) t.isLt)).2.2 := by
  rw [outsAt0_B m c t h]
  frame_out

/-- A block's part of the gradient of the weight. -/
def part (c : Dev nD) (j : Fin 2048) (s : ℕ) : EReal := ∑ r : Fin 256, dg (row (X m c) (ro s r)) (row (D m c) (ro s r)) j

theorem part_eq (c : Dev nD) (t : Fin cfg0.N) (j : Fin 2048) : k0_pay6 (F := Ideal) (iblk m c 0 t) (iblk m c 1 t) (ix2 0 j) = part m c j t.val := by
  rw [k_dg]
  exact Finset.sum_congr rfl fun r _ => by rw [row0, row1]

theorem add_eq (a b : FVec Ideal S1x2048 .f32) (j : Fin 2048) : k0_pay3 (F := Ideal) a b (ix2 0 j) = (b (ix2 0 j) + a (ix2 0 j) : EReal) :=
  congrArg (fun z : EReal => z + a (ix2 0 j)) (congrFun (shapeCast_self b _) (ix2 0 j))

/-- After point `n` the accumulator holds the parts of the blocks so far. -/
theorem acc (c : Dev nD) (j : Fin 2048) : ∀ (n : ℕ) (hn : n < cfg0.N), (outsAt0 m c n hn).2.2 (ix2 0 j) = ∑ s ∈ Finset.range (n + 1), part m c j s
  | 0, hn => by
    refine (congrFun (at6_A m c ⟨0, hn⟩ rfl) _).trans ?_
    rw [add_eq, part_eq, Finset.sum_range_one]
    show Ideal.ofBits .f32 0x00000000#32 + _ = _
    rw [Ideal.ofBits_zero_f32, zero_add]
  | n + 1, hn => by
    have h17 : n + 1 < 17 := hn
    refine (congrFun (at6_B m c ⟨n + 1, hn⟩ (by show ¬(n + 1) % 17 = 0; omega)) _).trans ?_
    rw [add_eq, part_eq, Finset.sum_range_succ]
    exact congrArg (fun z : EReal => z + part m c j (n + 1)) (acc c j n (Nat.lt_of_succ_lt hn))

/-- A sum over all rows is a sum over the blocks and their rows. -/
theorem sum_blocks (f : Fin 4352 → EReal) : ∑ s ∈ Finset.range 17, ∑ r : Fin 256, f (ro s r) = ∑ i, f i := by
  rw [Finset.sum_range, ← Fintype.sum_prod_type', ← (finProdFinEquiv (m := 17) (n := 256)).sum_comp]
  refine Finset.sum_congr rfl fun x _ => congrArg f (Fin.ext ?_)
  show (x.1.val * 256 + x.2.val) % 4352 = x.2.val + 256 * x.1.val
  have h1 := x.1.isLt
  have h2 := x.2.isLt
  omega

theorem place4 (t : Fin cfg0.N) (y : S256x2048.Idx) : (win0_4.blk t).view.emb y = ix2 (ro t.val (y 0)) (y 1) := by
  funext a
  apply Fin.ext
  match a with
  | ⟨0, _⟩ =>
    refine Eq.trans (b := win0_4.index t 0 * 256 + (y 0 : ℕ)) (by blk_simp; rfl) ?_
    rw [w4 t]; exact (ro_val t (y 0)).symm
  | ⟨1, _⟩ =>
    refine Eq.trans (b := win0_4.index t 1 * 2048 + (y 1 : ℕ)) (by blk_simp; rfl) ?_
    rw [w4 t]; exact (congrArg (· + (y 1 : ℕ)) (Nat.zero_mul 2048)).trans (Nat.zero_add _)

theorem place5 (t : Fin cfg0.N) (y : S256x2048.Idx) : (win0_5.blk t).view.emb y = ix2 (ro t.val (y 0)) (y 1) := by
  funext a
  apply Fin.ext
  match a with
  | ⟨0, _⟩ =>
    refine Eq.trans (b := win0_5.index t 0 * 256 + (y 0 : ℕ)) (by blk_simp; rfl) ?_
    rw [w5 t]; exact (ro_val t (y 0)).symm
  | ⟨1, _⟩ =>
    refine Eq.trans (b := win0_5.index t 1 * 2048 + (y 1 : ℕ)) (by blk_simp; rfl) ?_
    rw [w5 t]; exact (congrArg (· + (y 1 : ℕ)) (Nat.zero_mul 2048)).trans (Nat.zero_add _)

theorem place6 (t : Fin cfg0.N) (y : S1x2048.Idx) : (win0_6.blk t).view.emb y = y := by
  funext a
  apply Fin.ext
  match a with
  | ⟨0, _⟩ =>
    refine Eq.trans (b := win0_6.index t 0 * 1 + (y 0 : ℕ)) (by blk_simp) ?_
    rw [w6 t]; exact (congrArg (· + (y 0 : ℕ)) (Nat.zero_mul 1)).trans (Nat.zero_add _)
  | ⟨1, _⟩ =>
    refine Eq.trans (b := win0_6.index t 1 * 2048 + (y 1 : ℕ)) (by blk_simp; rfl) ?_
    rw [w6 t]; exact (congrArg (· + (y 1 : ℕ)) (Nat.zero_mul 2048)).trans (Nat.zero_add _)

theorem final4 (c : Dev nD) : (dats m 0 c).arrAt 4 cfg0.N = G m c := by
  refine (dats m 0 c).arrAt_eq_of_covers 4 _ (by decide +kernel) fun t hf y => ?_
  blk_simp
  rw [after0_4, at4]
  exact (pay m c t y).trans (congrArg (G m c) (place4 t y)).symm

theorem final5 (c : Dev nD) : (dats m 0 c).arrAt 5 cfg0.N = G m c := by
  refine (dats m 0 c).arrAt_eq_of_covers 5 _ (by decide +kernel) fun t hf y => ?_
  blk_simp
  rw [after0_5, at5]
  exact (pay m c t y).trans (congrArg (G m c) (place5 t y)).symm

theorem final6 (c : Dev nD) : (dats m 0 c).arrAt 6 cfg0.N = H m c := by
  refine (dats m 0 c).arrAt_eq_of_covers 6 _ (by decide +kernel) fun t hf y => ?_
  have h16 : t.val % 17 = 16 := (flush0_6 t).mp hf
  have ht : t.val + 1 = 17 := by have h : t.val < 17 := t.isLt; omega
  blk_simp
  rw [after0_6]
  refine Eq.trans ?_ (congrArg (H m c) (place6 t y)).symm
  obtain ⟨r, j, rfl⟩ : ∃ r j, y = ix2 r j := ⟨y 0, y 1, (eta y).symm⟩
  obtain rfl : r = 0 := Subsingleton.elim _ _
  refine (acc m c j t.val t.isLt).trans ?_
  rw [ht]
  exact sum_blocks fun i => dg (row (X m c) i) (row (D m c) i) j

/-- The reference's frame. -/
theorem frameR : Cert.quiescent_Reference14Ideal (hReference14Ideal := Cert.Reference14Ideal.Gen.facts) := fun m ρ _ =>
  (θ_run Cert.Reference14Ideal.defs _ _).mono (fun r h => ⟨fun c => (h c).2.2.2, sem_eq_zero_of_no_sems (by decide) r.2⟩)
    (Cert.Reference14Ideal.Value.run m ρ)

/-- The reference's results. -/
theorem ref_dx (c : Dev nD) : addf (R m c) (rDx (X m c) (D m c) (W m c)) = G m c := by
  funext i
  obtain ⟨r, j, rfl⟩ : ∃ r j, i = ix2 r j := ⟨i 0, i 1, (eta i).symm⟩
  exact (congrArg (fun z : EReal => R m c (ix2 r j) + z) (r_dx (X m c) (D m c) (W m c) r j)).trans (add_comm _ _)

theorem ref_dg (c : Dev nD) : rDg (X m c) (D m c) = H m c := by
  funext i
  obtain ⟨r, j, rfl⟩ : ∃ r j, i = ix2 r j := ⟨i 0, i 1, (eta i).symm⟩
  obtain rfl : r = 0 := Subsingleton.elim _ _
  exact r_dg (X m c) (D m c) j

/-- Kernel and reference end with equal results over the extended reals. -/
theorem algebraic : Cert.algebraic_Kernel14Ideal_Reference14Ideal (hKernel14Ideal := Cert.Kernel14Ideal.Gen.facts)
    (hReference14Ideal := Cert.Reference14Ideal.Gen.facts) := by
  intro m ρ m' ρ' _ hag
  refine ⟨G m, G m, H m, ?_, ?_⟩
  · exact (θ_run _ _ _).mono (fun r h c => ⟨(h c).1.trans (final4 m c), (h c).2.1.trans (final5 m c), (h c).2.2.1.trans (final6 m c), (h c).2.2.2⟩)
      (Cert.Kernel14Ideal.Value.run_blocks m ρ)
  · refine (θ_run _ _ _).mono (fun r h c => ⟨(h c).1.trans ?_, (h c).2.1.trans ?_, (h c).2.2.1.trans ?_, (h c).2.2.2⟩) (Cert.Reference14Ideal.Value.run m' ρ')
    · rw [(hag c).1, (hag c).2.1, (hag c).2.2.1, (hag c).2.2.2]
      exact ref_dx m c
    · rw [(hag c).1, (hag c).2.1, (hag c).2.2.1, (hag c).2.2.2]
      exact ref_dx m c
    · rw [(hag c).1, (hag c).2.2.1]
      exact ref_dg m c

end Cert.Norm.P14

end
-- ==== Proof.Mm.P15.lean ====
/- The gradient of the weight of an output projection from 1024 columns (`Kernel15`): the kernel's array and
   the reference's result, both the sum over the rows, entry by entry. -/
module

public import proofs.«01_k».proof.Defs
public import proofs.«01_k».proof.Proof.Mm.Product
public import proofs.«01_k».proof.Proof.Gen.Kernel15Ideal.Value
public import proofs.«01_k».proof.Proof.Gen.Reference15Ideal.Run
public import Idealize.ShloMosaic.Lib.Pipeline.ValueKit
public import Idealize.ShloMosaic.Lib.Quiescent

@[expose] public section

set_option maxRecDepth 16384

noncomputable section

namespace Cert.Mm.P15

open Idealize.ShloMosaic Idealize.ShloMosaic.TcCoe Idealize.ShloMosaic.ValueIdx Idealize.SL.Sem
open Cert.Kernel15Ideal Cert.Kernel15Ideal.Gen

variable (m : (ℓ : Loc nD τ sig) → Buf (Elt Ideal) ℓ)

theorem w0 : ∀ t : Fin cfg0.N, win0_0.index t = ![0, win0_2.index t 0] := (by decide +kernel : ∀ t : Fin grid0.N, _)
theorem w1 : ∀ t : Fin cfg0.N, win0_1.index t = ![0, win0_2.index t 1] := (by decide +kernel : ∀ t : Fin grid0.N, _)

/-- The place of a result block's entry in the result. -/
theorem e0 (t : Fin cfg0.N) (y : S1024x1024.Idx) : ((win0_2.blk t).view.emb y 0 : ℕ) = win0_2.index t 0 * 1024 + (y 0 : ℕ) := by blk_simp
theorem e1 (t : Fin cfg0.N) (y : S1024x1024.Idx) : ((win0_2.blk t).view.emb y 1 : ℕ) = win0_2.index t 1 * 1024 + (y 1 : ℕ) := by blk_simp

/-- The result. -/
def G (c : Dev nD) : (⟨S1024x2048, .bf16⟩ : BufTy).Contents (Elt Ideal) := fun i =>
  gradW (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (rows_block (φ₁ := .bf16) (φ₂ := .bf16) (iblk m c 0 t) (iblk m c 1 t) y).trans ?_
  unfold G gradW
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run m ρ)

/-- Kernel and reference end with equal results over the extended reals. -/
theorem algebraic : Cert.algebraic_Kernel15Ideal_Reference15Ideal (hKernel15Ideal := Cert.Kernel15Ideal.Gen.facts)
    (hReference15Ideal := Cert.Reference15Ideal.Gen.facts) := by
  intro m ρ m' ρ' _ hag
  refine ⟨G m, ?_, ?_⟩
  · exact (θ_run _ _ _).mono (fun r h c => ⟨(h c).1.trans (final m c), (h c).2⟩) (Cert.Kernel15Ideal.Value.run_blocks m ρ)
  · refine (θ_run _ _ _).mono (fun r h c => ⟨(h c).1.trans ?_, (h c).2⟩) (Cert.Reference15Ideal.Value.run m' ρ')
    rw [(hag c).1, (hag c).2]
    exact host_gradW _ _ _ _

end Cert.Mm.P15

end
-- ==== Proof.Mm.P16.lean ====
/- The gradient of the input of an output projection from 1024 columns
   (`Kernel16`): the kernel's array and the reference's result, entry by entry the sum over the contracted columns. -/
module

public import proofs.«01_k».proof.Defs
public import proofs.«01_k».proof.Proof.Mm.Product
public import proofs.«01_k».proof.Proof.Gen.Kernel16Ideal.Value
public import proofs.«01_k».proof.Proof.Gen.Reference16Ideal.Run
public import Idealize.ShloMosaic.Lib.Pipeline.ValueKit
public import Idealize.ShloMosaic.Lib.Quiescent

@[expose] public section

set_option maxRecDepth 16384

noncomputable section

namespace Cert.Mm.P16

open Idealize.ShloMosaic Idealize.ShloMosaic.TcCoe Idealize.ShloMosaic.ValueIdx Idealize.SL.Sem
open Cert.Kernel16Ideal Cert.Kernel16Ideal.Gen

variable (m : (ℓ : Loc nD τ sig) → Buf (Elt Ideal) ℓ)

theorem w0 : ∀ t : Fin cfg0.N, win0_0.index t = ![win0_2.index t 0, 0] := (by decide +kernel : ∀ t : Fin grid0.N, _)
theorem w1 : ∀ t : Fin cfg0.N, win0_1.index t = ![win0_2.index t 1, 0] := (by decide +kernel : ∀ t : Fin grid0.N, _)

/-- The place of a result block's entry in the result. -/
theorem e0 (t : Fin cfg0.N) (y : S1088x512.Idx) : ((win0_2.blk t).view.emb y 0 : ℕ) = win0_2.index t 0 * 1088 + (y 0 : ℕ) := by blk_simp
theorem e1 (t : Fin cfg0.N) (y : S1088x512.Idx) : ((win0_2.blk t).view.emb y 1 : ℕ) = win0_2.index t 1 * 512 + (y 1 : ℕ) := by blk_simp

/-- The result. -/
def G (c : Dev nD) : (⟨S4352x1024, .f32⟩ : BufTy).Contents (Elt Ideal) :=
  fun i => gradN (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (cols_block (φ₁ := .bf16) (φ₂ := .bf16) (iblk m c 0 t) (iblk m c 1 t) y).trans ?_
  unfold G gradN
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run m ρ)

/-- Kernel and reference end with equal results over the extended reals. -/
theorem algebraic : Cert.algebraic_Kernel16Ideal_Reference16Ideal (hKernel16Ideal := Cert.Kernel16Ideal.Gen.facts)
    (hReference16Ideal := Cert.Reference16Ideal.Gen.facts) := by
  intro m ρ m' ρ' _ hag
  refine ⟨G m, ?_, ?_⟩
  · exact (θ_run _ _ _).mono (fun r h c => ⟨(h c).1.trans (final m c), (h c).2⟩) (Cert.Kernel16Ideal.Value.run_blocks m ρ)
  · refine (θ_run _ _ _).mono (fun r h c => ⟨(h c).1.trans ?_, (h c).2⟩) (Cert.Reference16Ideal.Value.run m' ρ')
    rw [(hag c).1, (hag c).2]
    exact host_gradN _ _ _

end Cert.Mm.P16

end
-- ==== Proof.Mm.P17.lean ====
/- The gradient of the weight of the gated linear unit (`Kernel17`): the kernel's array and
   the reference's result, both the sum over the rows, entry by entry. -/
module

public import proofs.«01_k».proof.Defs
public import proofs.«01_k».proof.Proof.Mm.Product
public import proofs.«01_k».proof.Proof.Gen.Kernel17Ideal.Value
public import proofs.«01_k».proof.Proof.Gen.Reference17Ideal.Run
public import Idealize.ShloMosaic.Lib.Pipeline.ValueKit
public import Idealize.ShloMosaic.Lib.Quiescent

@[expose] public section

set_option maxRecDepth 16384

noncomputable section

namespace Cert.Mm.P17

open Idealize.ShloMosaic Idealize.ShloMosaic.TcCoe Idealize.ShloMosaic.ValueIdx Idealize.SL.Sem
open Cert.Kernel17Ideal Cert.Kernel17Ideal.Gen

variable (m : (ℓ : Loc nD τ sig) → Buf (Elt Ideal) ℓ)

theorem w0 : ∀ t : Fin cfg0.N, win0_0.index t = ![0, win0_2.index t 0] := (by decide +kernel : ∀ t : Fin grid0.N, _)
theorem w1 : ∀ t : Fin cfg0.N, win0_1.index t = ![0, win0_2.index t 1] := (by decide +kernel : ∀ t : Fin grid0.N, _)

/-- The place of a result block's entry in the result. -/
theorem e0 (t : Fin cfg0.N) (y : S1024x1024.Idx) : ((win0_2.blk t).view.emb y 0 : ℕ) = win0_2.index t 0 * 1024 + (y 0 : ℕ) := by blk_simp
theorem e1 (t : Fin cfg0.N) (y : S1024x1024.Idx) : ((win0_2.blk t).view.emb y 1 : ℕ) = win0_2.index t 1 * 1024 + (y 1 : ℕ) := by blk_simp

/-- The result. -/
def G (c : Dev nD) : (⟨S1024x1024, .bf16⟩ : BufTy).Contents (Elt Ideal) := fun i =>
  gradW (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (rows_block (φ₁ := .bf16) (φ₂ := .bf16) (iblk m c 0 t) (iblk m c 1 t) y).trans ?_
  unfold G gradW
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run m ρ)

/-- Kernel and reference end with equal results over the extended reals. -/
theorem algebraic : Cert.algebraic_Kernel17Ideal_Reference17Ideal (hKernel17Ideal := Cert.Kernel17Ideal.Gen.facts)
    (hReference17Ideal := Cert.Reference17Ideal.Gen.facts) := by
  intro m ρ m' ρ' _ hag
  refine ⟨G m, ?_, ?_⟩
  · exact (θ_run _ _ _).mono (fun r h c => ⟨(h c).1.trans (final m c), (h c).2⟩) (Cert.Kernel17Ideal.Value.run_blocks m ρ)
  · refine (θ_run _ _ _).mono (fun r h c => ⟨(h c).1.trans ?_, (h c).2⟩) (Cert.Reference17Ideal.Value.run m' ρ')
    rw [(hag c).1, (hag c).2]
    exact host_gradW _ _ _ _

end Cert.Mm.P17

end
-- ==== Proof.Mm.P18.lean ====
/- The gradient of the input of the gated linear unit
   (`Kernel18`): the kernel's array and the reference's result, entry by entry the sum over the contracted columns. -/
module

public import proofs.«01_k».proof.Defs
public import proofs.«01_k».proof.Proof.Mm.Product
public import proofs.«01_k».proof.Proof.Gen.Kernel18Ideal.Value
public import proofs.«01_k».proof.Proof.Gen.Reference18Ideal.Run
public import Idealize.ShloMosaic.Lib.Pipeline.ValueKit
public import Idealize.ShloMosaic.Lib.Quiescent

@[expose] public section

set_option maxRecDepth 16384

noncomputable section

namespace Cert.Mm.P18

open Idealize.ShloMosaic Idealize.ShloMosaic.TcCoe Idealize.ShloMosaic.ValueIdx Idealize.SL.Sem
open Cert.Kernel18Ideal Cert.Kernel18Ideal.Gen

variable (m : (ℓ : Loc nD τ sig) → Buf (Elt Ideal) ℓ)

theorem w0 : ∀ t : Fin cfg0.N, win0_0.index t = ![win0_2.index t 0, 0] := (by decide +kernel : ∀ t : Fin grid0.N, _)
theorem w1 : ∀ t : Fin cfg0.N, win0_1.index t = ![win0_2.index t 1, 0] := (by decide +kernel : ∀ t : Fin grid0.N, _)

/-- The place of a result block's entry in the result. -/
theorem e0 (t : Fin cfg0.N) (y : S1088x512.Idx) : ((win0_2.blk t).view.emb y 0 : ℕ) = win0_2.index t 0 * 1088 + (y 0 : ℕ) := by blk_simp
theorem e1 (t : Fin cfg0.N) (y : S1088x512.Idx) : ((win0_2.blk t).view.emb y 1 : ℕ) = win0_2.index t 1 * 512 + (y 1 : ℕ) := by blk_simp

/-- The result. -/
def G (c : Dev nD) : (⟨S4352x1024, .f32⟩ : BufTy).Contents (Elt Ideal) :=
  fun i => gradN (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (cols_block (φ₁ := .bf16) (φ₂ := .bf16) (iblk m c 0 t) (iblk m c 1 t) y).trans ?_
  unfold G gradN
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩)
    (Cert.Reference18Ideal.Value.run m ρ)

/-- Kernel and reference end with equal results over the extended reals. -/
theorem algebraic : Cert.algebraic_Kernel18Ideal_Reference18Ideal (hKernel18Ideal := Cert.Kernel18Ideal.Gen.facts)
    (hReference18Ideal := Cert.Reference18Ideal.Gen.facts) := by
  intro m ρ m' ρ' _ hag
  refine ⟨G m, ?_, ?_⟩
  · exact (θ_run _ _ _).mono (fun r h c => ⟨(h c).1.trans (final m c), (h c).2⟩) (Cert.Kernel18Ideal.Value.run_blocks m ρ)
  · refine (θ_run _ _ _).mono (fun r h c => ⟨(h c).1.trans ?_, (h c).2⟩) (Cert.Reference18Ideal.Value.run m' ρ')
    rw [(hag c).1, (hag c).2]
    exact host_gradN _ _ _

end Cert.Mm.P18

end
-- ==== Proof.Mm.Forward.lean ====
/- A projection's product itself, read at an index over the extended reals: it contracts the columns of the first operand
   with the rows of the second. -/
module

public import Idealize.ShloMosaic.Lib.MatmulPlain
public import Idealize.ShloMosaic.Lib.ValueIdx

@[expose] public section

noncomputable section

namespace Cert.Mm

open Idealize.ShloMosaic Idealize.ShloMosaic.ValueIdx
open scoped BigOperators

/-- The product: entry (i, j) is the sum over k of x[i,k] · w[k,j]. -/
def prod {K M N : ℕ} (x : (⟨2, ![M, K]⟩ : Shape).Idx → EReal) (w : (⟨2, ![K, N]⟩ : Shape).Idx → EReal) (i : Fin M) (j : Fin N) : EReal :=
  ∑ k : Fin K, x (ix2 i k) * w (ix2 k j)

/-- The product, added to the layer's input. -/
def prodAdd {K M N : ℕ} (x : (⟨2, ![M, K]⟩ : Shape).Idx → EReal) (w : (⟨2, ![K, N]⟩ : Shape).Idx → EReal)
    (r : (⟨2, ![M, N]⟩ : Shape).Idx → EReal) (i : (⟨2, ![M, N]⟩ : Shape).Idx) : EReal :=
  r i + prod x w (i 0) (i 1)

/-- A block's product, onto a zero accumulator. -/
theorem prod_block {K M N : ℕ} {φ₁ φ₂ : FTy} (x : FVec Ideal ⟨2, ![M, K]⟩ φ₁) (w : FVec Ideal ⟨2, ![K, N]⟩ φ₂)
    (j : (⟨2, ![M, N]⟩ : Shape).Idx) :
    FloatOps.matmul (DotDims.plain M K N) none x w (constant (F := Ideal) ⟨2, ![M, N]⟩ .f32 0x00000000#32) j
      = prod x w (j 0) (j 1) := by
  obtain ⟨a, b, rfl⟩ : ∃ a b, j = ix2 a b := ⟨j 0, j 1, eq_ix2 j⟩
  rw [Ideal.matmul_plain_apply]; show Ideal.ofBits .f32 0x00000000#32 + _ = _
  rw [Ideal.ofBits_zero_f32, zero_add]; rfl

/-- The reference's product. -/
theorem host_prod {K M N : ℕ} (x : FVec Ideal ⟨2, ![M, K]⟩ .bf16) (w : FVec Ideal ⟨2, ![K, N]⟩ .bf16)
    (h : FTy.bits .bf16 < FTy.bits .f32) :
    Host.dotGeneral (DotDims.plain M K N) none (extf .f32 x h) (extf .f32 w h) = fun i => prod x w (i 0) (i 1) := by
  funext i
  obtain ⟨a, b, rfl⟩ : ∃ a b, i = ix2 a b := ⟨i 0, i 1, eq_ix2 i⟩
  have e : Host.dotGeneral (DotDims.plain M K N) none (extf .f32 x h) (extf .f32 w h) (ix2 a b)
      = FloatOps.matmul (DotDims.plain M K N) none (extf .f32 x h) (extf .f32 w h) (fun _ => (0 : EReal)) (ix2 a b) := by
    rw [Ideal.matmul_apply]; show FloatOps.dotGeneral _ none _ _ _ (ix2 a b) = _
    rw [Ideal.dotGeneral_apply, zero_add]
  rw [e, Ideal.matmul_plain_apply, zero_add]
  rfl

end Cert.Mm

end
-- ==== Proof.Mm.P19.lean ====
/- The projection of width 2048
   (`Kernel19`): the kernel's array and the reference's result, entry by entry the sum over the contracted axis. -/
module

public import proofs.«01_k».proof.Defs
public import proofs.«01_k».proof.Proof.Mm.Forward
public import proofs.«01_k».proof.Proof.Gen.Kernel19Ideal.Value
public import proofs.«01_k».proof.Proof.Gen.Reference19Ideal.Run
public import Idealize.ShloMosaic.Lib.Pipeline.ValueKit
public import Idealize.ShloMosaic.Lib.Quiescent

@[expose] public section

set_option maxRecDepth 16384

noncomputable section

namespace Cert.Mm.P19

open Idealize.ShloMosaic Idealize.ShloMosaic.TcCoe Idealize.ShloMosaic.ValueIdx Idealize.SL.Sem
open Cert.Kernel19Ideal Cert.Kernel19Ideal.Gen

variable (m : (ℓ : Loc nD τ sig) → Buf (Elt Ideal) ℓ)

theorem w0 : ∀ t : Fin cfg0.N, win0_0.index t = ![win0_2.index t 0, 0] := (by decide +kernel : ∀ t : Fin grid0.N, _)
theorem w1 : ∀ t : Fin cfg0.N, win0_1.index t = ![0, win0_2.index t 1] := (by decide +kernel : ∀ t : Fin grid0.N, _)

/-- The place of a result block's entry in the result. -/
theorem e0 (t : Fin cfg0.N) (y : S1088x512.Idx) : ((win0_2.blk t).view.emb y 0 : ℕ) = win0_2.index t 0 * 1088 + (y 0 : ℕ) := by blk_simp
theorem e1 (t : Fin cfg0.N) (y : S1088x512.Idx) : ((win0_2.blk t).view.emb y 1 : ℕ) = win0_2.index t 1 * 512 + (y 1 : ℕ) := by blk_simp

/-- The result. -/
def G (c : Dev nD) : (⟨S4352x2048, .f32⟩ : BufTy).Contents (Elt Ideal) :=
  fun i => prod (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (prod_block (φ₁ := .bf16) (φ₂ := .bf16) (iblk m c 0 t) (iblk m c 1 t) y).trans ?_
  unfold G prod
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run m ρ)

/-- Kernel and reference end with equal results over the extended reals. -/
theorem algebraic : Cert.algebraic_Kernel19Ideal_Reference19Ideal (hKernel19Ideal := Cert.Kernel19Ideal.Gen.facts)
    (hReference19Ideal := Cert.Reference19Ideal.Gen.facts) := by
  intro m ρ m' ρ' _ hag
  refine ⟨G m, ?_, ?_⟩
  · exact (θ_run _ _ _).mono (fun r h c => ⟨(h c).1.trans (final m c), (h c).2⟩) (Cert.Kernel19Ideal.Value.run_blocks m ρ)
  · refine (θ_run _ _ _).mono (fun r h c => ⟨(h c).1.trans ?_, (h c).2⟩) (Cert.Reference19Ideal.Value.run m' ρ')
    rw [(hag c).1, (hag c).2]
    exact host_prod _ _ _

end Cert.Mm.P19

end
-- ==== Proof.Mm.P20.lean ====
/- The projection of width 3072
   (`Kernel20`): the kernel's array and the reference's result, entry by entry the sum over the contracted axis. -/
module

public import proofs.«01_k».proof.Defs
public import proofs.«01_k».proof.Proof.Mm.Forward
public import proofs.«01_k».proof.Proof.Gen.Kernel20Ideal.Value
public import proofs.«01_k».proof.Proof.Gen.Reference20Ideal.Run
public import Idealize.ShloMosaic.Lib.Pipeline.ValueKit
public import Idealize.ShloMosaic.Lib.Quiescent

@[expose] public section

set_option maxRecDepth 16384

noncomputable section

namespace Cert.Mm.P20

open Idealize.ShloMosaic Idealize.ShloMosaic.TcCoe Idealize.ShloMosaic.ValueIdx Idealize.SL.Sem
open Cert.Kernel20Ideal Cert.Kernel20Ideal.Gen

variable (m : (ℓ : Loc nD τ sig) → Buf (Elt Ideal) ℓ)

theorem w0 : ∀ t : Fin cfg0.N, win0_0.index t = ![win0_2.index t 0, 0] := (by decide +kernel : ∀ t : Fin grid0.N, _)
theorem w1 : ∀ t : Fin cfg0.N, win0_1.index t = ![0, win0_2.index t 1] := (by decide +kernel : ∀ t : Fin grid0.N, _)

/-- The place of a result block's entry in the result. -/
theorem e0 (t : Fin cfg0.N) (y : S1088x512.Idx) : ((win0_2.blk t).view.emb y 0 : ℕ) = win0_2.index t 0 * 1088 + (y 0 : ℕ) := by blk_simp
theorem e1 (t : Fin cfg0.N) (y : S1088x512.Idx) : ((win0_2.blk t).view.emb y 1 : ℕ) = win0_2.index t 1 * 512 + (y 1 : ℕ) := by blk_simp

/-- The result. -/
def G (c : Dev nD) : (⟨S4352x3072, .f32⟩ : BufTy).Contents (Elt Ideal) :=
  fun i => prod (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (prod_block (φ₁ := .bf16) (φ₂ := .bf16) (iblk m c 0 t) (iblk m c 1 t) y).trans ?_
  unfold G prod
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference20Ideal (hReference20Ideal := Cert.Reference20Ideal.Gen.facts) := fun m ρ _ =>
  (θ_run Cert.Reference20Ideal.defs _ _).mono (fun r h => ⟨fun c => (h c).2, sem_eq_zero_of_no_sems (by decide) r.2⟩)
    (Cert.Reference20Ideal.Value.run m ρ)

/-- Kernel and reference end with equal results over the extended reals. -/
theorem algebraic : Cert.algebraic_Kernel20Ideal_Reference20Ideal (hKernel20Ideal := Cert.Kernel20Ideal.Gen.facts)
    (hReference20Ideal := Cert.Reference20Ideal.Gen.facts) := by
  intro m ρ m' ρ' _ hag
  refine ⟨G m, ?_, ?_⟩
  · exact (θ_run _ _ _).mono (fun r h c => ⟨(h c).1.trans (final m c), (h c).2⟩) (Cert.Kernel20Ideal.Value.run_blocks m ρ)
  · refine (θ_run _ _ _).mono (fun r h c => ⟨(h c).1.trans ?_, (h c).2⟩) (Cert.Reference20Ideal.Value.run m' ρ')
    rw [(hag c).1, (hag c).2]
    exact host_prod _ _ _

end Cert.Mm.P20

end
-- ==== Proof.Mm.P21.lean ====
/- The projection of width 6144
   (`Kernel21`): the kernel's array and the reference's result, entry by entry the sum over the contracted axis. -/
module

public import proofs.«01_k».proof.Defs
public import proofs.«01_k».proof.Proof.Mm.Forward
public import proofs.«01_k».proof.Proof.Gen.Kernel21Ideal.Value
public import proofs.«01_k».proof.Proof.Gen.Reference21Ideal.Run
public import Idealize.ShloMosaic.Lib.Pipeline.ValueKit
public import Idealize.ShloMosaic.Lib.Quiescent

@[expose] public section

set_option maxRecDepth 16384

noncomputable section

namespace Cert.Mm.P21

open Idealize.ShloMosaic Idealize.ShloMosaic.TcCoe Idealize.ShloMosaic.ValueIdx Idealize.SL.Sem
open Cert.Kernel21Ideal Cert.Kernel21Ideal.Gen

variable (m : (ℓ : Loc nD τ sig) → Buf (Elt Ideal) ℓ)

theorem w0 : ∀ t : Fin cfg0.N, win0_0.index t = ![win0_2.index t 0, 0] := (by decide +kernel : ∀ t : Fin grid0.N, _)
theorem w1 : ∀ t : Fin cfg0.N, win0_1.index t = ![0, win0_2.index t 1] := (by decide +kernel : ∀ t : Fin grid0.N, _)

/-- The place of a result block's entry in the result. -/
theorem e0 (t : Fin cfg0.N) (y : S1088x512.Idx) : ((win0_2.blk t).view.emb y 0 : ℕ) = win0_2.index t 0 * 1088 + (y 0 : ℕ) := by blk_simp
theorem e1 (t : Fin cfg0.N) (y : S1088x512.Idx) : ((win0_2.blk t).view.emb y 1 : ℕ) = win0_2.index t 1 * 512 + (y 1 : ℕ) := by blk_simp

/-- The result. -/
def G (c : Dev nD) : (⟨S4352x6144, .f32⟩ : BufTy).Contents (Elt Ideal) :=
  fun i => prod (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (prod_block (φ₁ := .bf16) (φ₂ := .bf16) (iblk m c 0 t) (iblk m c 1 t) y).trans ?_
  unfold G prod
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference21Ideal (hReference21Ideal := Cert.Reference21Ideal.Gen.facts) := fun m ρ _ =>
  (θ_run Cert.Reference21Ideal.defs _ _).mono (fun r h => ⟨fun c => (h c).2, sem_eq_zero_of_no_sems (by decide) r.2⟩)
    (Cert.Reference21Ideal.Value.run m ρ)

/-- Kernel and reference end with equal results over the extended reals. -/
theorem algebraic : Cert.algebraic_Kernel21Ideal_Reference21Ideal (hKernel21Ideal := Cert.Kernel21Ideal.Gen.facts)
    (hReference21Ideal := Cert.Reference21Ideal.Gen.facts) := by
  intro m ρ m' ρ' _ hag
  refine ⟨G m, ?_, ?_⟩
  · exact (θ_run _ _ _).mono (fun r h c => ⟨(h c).1.trans (final m c), (h c).2⟩) (Cert.Kernel21Ideal.Value.run_blocks m ρ)
  · refine (θ_run _ _ _).mono (fun r h c => ⟨(h c).1.trans ?_, (h c).2⟩) (Cert.Reference21Ideal.Value.run m' ρ')
    rw [(hag c).1, (hag c).2]
    exact host_prod _ _ _

end Cert.Mm.P21

end
-- ==== Proof.Mm.P22.lean ====
/- The projection of width 4096
   (`Kernel22`): the kernel's array and the reference's result, entry by entry the sum over the contracted axis. -/
module

public import proofs.«01_k».proof.Defs
public import proofs.«01_k».proof.Proof.Mm.Forward
public import proofs.«01_k».proof.Proof.Gen.Kernel22Ideal.Value
public import proofs.«01_k».proof.Proof.Gen.Reference22Ideal.Run
public import Idealize.ShloMosaic.Lib.Pipeline.ValueKit
public import Idealize.ShloMosaic.Lib.Quiescent

@[expose] public section

set_option maxRecDepth 16384

noncomputable section

namespace Cert.Mm.P22

open Idealize.ShloMosaic Idealize.ShloMosaic.TcCoe Idealize.ShloMosaic.ValueIdx Idealize.SL.Sem
open Cert.Kernel22Ideal Cert.Kernel22Ideal.Gen

variable (m : (ℓ : Loc nD τ sig) → Buf (Elt Ideal) ℓ)

theorem w0 : ∀ t : Fin cfg0.N, win0_0.index t = ![win0_2.index t 0, 0] := (by decide +kernel : ∀ t : Fin grid0.N, _)
theorem w1 : ∀ t : Fin cfg0.N, win0_1.index t = ![0, win0_2.index t 1] := (by decide +kernel : ∀ t : Fin grid0.N, _)

/-- The place of a result block's entry in the result. -/
theorem e0 (t : Fin cfg0.N) (y : S1088x512.Idx) : ((win0_2.blk t).view.emb y 0 : ℕ) = win0_2.index t 0 * 1088 + (y 0 : ℕ) := by blk_simp
theorem e1 (t : Fin cfg0.N) (y : S1088x512.Idx) : ((win0_2.blk t).view.emb y 1 : ℕ) = win0_2.index t 1 * 512 + (y 1 : ℕ) := by blk_simp

/-- The result. -/
def G (c : Dev nD) : (⟨S4352x4096, .f32⟩ : BufTy).Contents (Elt Ideal) :=
  fun i => prod (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (prod_block (φ₁ := .bf16) (φ₂ := .bf16) (iblk m c 0 t) (iblk m c 1 t) y).trans ?_
  unfold G prod
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference22Ideal (hReference22Ideal := Cert.Reference22Ideal.Gen.facts) := fun m ρ _ =>
  (θ_run Cert.Reference22Ideal.defs _ _).mono (fun r h => ⟨fun c => (h c).2, sem_eq_zero_of_no_sems (by decide) r.2⟩)
    (Cert.Reference22Ideal.Value.run m ρ)

/-- Kernel and reference end with equal results over the extended reals. -/
theorem algebraic : Cert.algebraic_Kernel22Ideal_Reference22Ideal (hKernel22Ideal := Cert.Kernel22Ideal.Gen.facts)
    (hReference22Ideal := Cert.Reference22Ideal.Gen.facts) := by
  intro m ρ m' ρ' _ hag
  refine ⟨G m, ?_, ?_⟩
  · exact (θ_run _ _ _).mono (fun r h c => ⟨(h c).1.trans (final m c), (h c).2⟩) (Cert.Kernel22Ideal.Value.run_blocks m ρ)
  · refine (θ_run _ _ _).mono (fun r h c => ⟨(h c).1.trans ?_, (h c).2⟩) (Cert.Reference22Ideal.Value.run m' ρ')
    rw [(hag c).1, (hag c).2]
    exact host_prod _ _ _

end Cert.Mm.P22

end
-- ==== Proof.Mm.P23.lean ====
/- The output projection from 4096 columns, added to the layer's input
   (`Kernel23`): the kernel's array and the reference's result, entry by entry the sum over the contracted axis plus the entry that it is added to. -/
module

public import proofs.«01_k».proof.Defs
public import proofs.«01_k».proof.Proof.Mm.Forward
public import proofs.«01_k».proof.Proof.Gen.Kernel23Ideal.Value
public import proofs.«01_k».proof.Proof.Gen.Reference23Ideal.Run
public import Idealize.ShloMosaic.Lib.Pipeline.ValueKit
public import Idealize.ShloMosaic.Lib.Quiescent

@[expose] public section

set_option maxRecDepth 16384

noncomputable section

namespace Cert.Mm.P23

open Idealize.ShloMosaic Idealize.ShloMosaic.TcCoe Idealize.ShloMosaic.ValueIdx Idealize.SL.Sem
open Cert.Kernel23Ideal Cert.Kernel23Ideal.Gen

variable (m : (ℓ : Loc nD τ sig) → Buf (Elt Ideal) ℓ)

theorem w0 : ∀ t : Fin cfg0.N, win0_0.index t = ![win0_3.index t 0, 0] := (by decide +kernel : ∀ t : Fin grid0.N, _)
theorem w1 : ∀ t : Fin cfg0.N, win0_1.index t = ![0, win0_3.index t 1] := (by decide +kernel : ∀ t : Fin grid0.N, _)
theorem w2 : ∀ t : Fin cfg0.N, win0_2.index t = win0_3.index t := (by decide +kernel : ∀ t : Fin grid0.N, _)

/-- The place of a result block's entry in the result. -/
theorem e0 (t : Fin cfg0.N) (y : S1088x512.Idx) : ((win0_3.blk t).view.emb y 0 : ℕ) = win0_3.index t 0 * 1088 + (y 0 : ℕ) := by blk_simp
theorem e1 (t : Fin cfg0.N) (y : S1088x512.Idx) : ((win0_3.blk t).view.emb y 1 : ℕ) = win0_3.index t 1 * 512 + (y 1 : ℕ) := by blk_simp

/-- The result. -/
def G (c : Dev nD) : (⟨S4352x2048, .f32⟩ : BufTy).Contents (Elt Ideal) :=
  prodAdd (m ((c.tc : Thread nD τ).loc main_arg0)) (m ((c.tc : Thread nD τ).loc main_arg1)) (m ((c.tc : Thread nD τ).loc main_arg2))

theorem final (c : Dev nD) : (dats m 0 c).arrAt 3 cfg0.N = G m c := by
  refine (dats m 0 c).arrAt_eq_of_covers 3 _ (by decide +kernel) fun t _ y => ?_
  blk_simp
  rw [after0_3]
  frame_out
  refine (congrArg (fun a : EReal => a + iblk m c 2 t y) (prod_block (φ₁ := .bf16) (φ₂ := .bf16) (iblk m c 0 t) (iblk m c 1 t) y)).trans ?_
  unfold G prodAdd prod
  refine (add_comm _ _).trans (congrArg₂ (· + ·) ?_ (Finset.sum_congr rfl fun k _ => congrArg₂ (· * ·) ?_ ?_))
  · blk_ext [iblk, V, w2 t]
  · blk_ext [iblk, V, w0 t]
    exact (e0 t y).symm
  · blk_ext [iblk, V, w1 t]
    exact (e1 t y).symm

/-- The reference's frame. -/
theorem frameR : Cert.quiescent_Reference23Ideal (hReference23Ideal := Cert.Reference23Ideal.Gen.facts) := fun m ρ _ =>
  (θ_run Cert.Reference23Ideal.defs _ _).mono (fun r h => ⟨fun c => (h c).2, sem_eq_zero_of_no_sems (by decide) r.2⟩)
    (Cert.Reference23Ideal.Value.run m ρ)

/-- Kernel and reference end with equal results over the extended reals. -/
theorem algebraic : Cert.algebraic_Kernel23Ideal_Reference23Ideal (hKernel23Ideal := Cert.Kernel23Ideal.Gen.facts)
    (hReference23Ideal := Cert.Reference23Ideal.Gen.facts) := by
  intro m ρ m' ρ' _ hag
  refine ⟨G m, ?_, ?_⟩
  · exact (θ_run _ _ _).mono (fun r h c => ⟨(h c).1.trans (final m c), (h c).2⟩) (Cert.Kernel23Ideal.Value.run_blocks m ρ)
  · refine (θ_run _ _ _).mono (fun r h c => ⟨(h c).1.trans ?_, (h c).2⟩) (Cert.Reference23Ideal.Value.run m' ρ')
    rw [(hag c).1, (hag c).2.1, (hag c).2.2]
    exact congrArg (addf _) (host_prod _ _ _)

end Cert.Mm.P23

end
-- ==== Proof.Mm.P24.lean ====
/- The output projection from 3072 columns, added to the layer's input
   (`Kernel24`): the kernel's array and the reference's result, entry by entry the sum over the contracted axis plus the entry that it is added to. -/
module

public import proofs.«01_k».proof.Defs
public import proofs.«01_k».proof.Proof.Mm.Forward
public import proofs.«01_k».proof.Proof.Gen.Kernel24Ideal.Value
public import proofs.«01_k».proof.Proof.Gen.Reference24Ideal.Run
public import Idealize.ShloMosaic.Lib.Pipeline.ValueKit
public import Idealize.ShloMosaic.Lib.Quiescent

@[expose] public section

set_option maxRecDepth 16384

noncomputable section

namespace Cert.Mm.P24

open Idealize.ShloMosaic Idealize.ShloMosaic.TcCoe Idealize.ShloMosaic.ValueIdx Idealize.SL.Sem
open Cert.Kernel24Ideal Cert.Kernel24Ideal.Gen

variable (m : (ℓ : Loc nD τ sig) → Buf (Elt Ideal) ℓ)

theorem w0 : ∀ t : Fin cfg0.N, win0_0.index t = ![win0_3.index t 0, 0] := (by decide +kernel : ∀ t : Fin grid0.N, _)
theorem w1 : ∀ t : Fin cfg0.N, win0_1.index t = ![0, win0_3.index t 1] := (by decide +kernel : ∀ t : Fin grid0.N, _)
theorem w2 : ∀ t : Fin cfg0.N, win0_2.index t = win0_3.index t := (by decide +kernel : ∀ t : Fin grid0.N, _)

/-- The place of a result block's entry in the result. -/
theorem e0 (t : Fin cfg0.N) (y : S1088x512.Idx) : ((win0_3.blk t).view.emb y 0 : ℕ) = win0_3.index t 0 * 1088 + (y 0 : ℕ) := by blk_simp
theorem e1 (t : Fin cfg0.N) (y : S1088x512.Idx) : ((win0_3.blk t).view.emb y 1 : ℕ) = win0_3.index t 1 * 512 + (y 1 : ℕ) := by blk_simp

/-- The result. -/
def G (c : Dev nD) : (⟨S4352x2048, .f32⟩ : BufTy).Contents (Elt Ideal) :=
  prodAdd (m ((c.tc : Thread nD τ).loc main_arg0)) (m ((c.tc : Thread nD τ).loc main_arg1)) (m ((c.tc : Thread nD τ).loc main_arg2))

theorem final (c : Dev nD) : (dats m 0 c).arrAt 3 cfg0.N = G m c := by
  refine (dats m 0 c).arrAt_eq_of_covers 3 _ (by decide +kernel) fun t _ y => ?_
  blk_simp
  rw [after0_3]
  frame_out
  refine (congrArg (fun a : EReal => a + iblk m c 2 t y) (prod_block (φ₁ := .bf16) (φ₂ := .bf16) (iblk m c 0 t) (iblk m c 1 t) y)).trans ?_
  unfold G prodAdd prod
  refine (add_comm _ _).trans (congrArg₂ (· + ·) ?_ (Finset.sum_congr rfl fun k _ => congrArg₂ (· * ·) ?_ ?_))
  · blk_ext [iblk, V, w2 t]
  · blk_ext [iblk, V, w0 t]
    exact (e0 t y).symm
  · blk_ext [iblk, V, w1 t]
    exact (e1 t y).symm

/-- The reference's frame. -/
theorem frameR : Cert.quiescent_Reference24Ideal (hReference24Ideal := Cert.Reference24Ideal.Gen.facts) := fun m ρ _ =>
  (θ_run Cert.Reference24Ideal.defs _ _).mono (fun r h => ⟨fun c => (h c).2, sem_eq_zero_of_no_sems (by decide) r.2⟩)
    (Cert.Reference24Ideal.Value.run m ρ)

/-- Kernel and reference end with equal results over the extended reals. -/
theorem algebraic : Cert.algebraic_Kernel24Ideal_Reference24Ideal (hKernel24Ideal := Cert.Kernel24Ideal.Gen.facts)
    (hReference24Ideal := Cert.Reference24Ideal.Gen.facts) := by
  intro m ρ m' ρ' _ hag
  refine ⟨G m, ?_, ?_⟩
  · exact (θ_run _ _ _).mono (fun r h c => ⟨(h c).1.trans (final m c), (h c).2⟩) (Cert.Kernel24Ideal.Value.run_blocks m ρ)
  · refine (θ_run _ _ _).mono (fun r h c => ⟨(h c).1.trans ?_, (h c).2⟩) (Cert.Reference24Ideal.Value.run m' ρ')
    rw [(hag c).1, (hag c).2.1, (hag c).2.2]
    exact congrArg (addf _) (host_prod _ _ _)

end Cert.Mm.P24

end
-- ==== Proof.Mm.P25.lean ====
/- The output projection from 1024 columns, added to the layer's input
   (`Kernel25`): the kernel's array and the reference's result, entry by entry the sum over the contracted axis plus the entry that it is added to. -/
module

public import proofs.«01_k».proof.Defs
public import proofs.«01_k».proof.Proof.Mm.Forward
public import proofs.«01_k».proof.Proof.Gen.Kernel25Ideal.Value
public import proofs.«01_k».proof.Proof.Gen.Reference25Ideal.Run
public import Idealize.ShloMosaic.Lib.Pipeline.ValueKit
public import Idealize.ShloMosaic.Lib.Quiescent

@[expose] public section

set_option maxRecDepth 16384

noncomputable section

namespace Cert.Mm.P25

open Idealize.ShloMosaic Idealize.ShloMosaic.TcCoe Idealize.ShloMosaic.ValueIdx Idealize.SL.Sem
open Cert.Kernel25Ideal Cert.Kernel25Ideal.Gen

variable (m : (ℓ : Loc nD τ sig) → Buf (Elt Ideal) ℓ)

theorem w0 : ∀ t : Fin cfg0.N, win0_0.index t = ![win0_3.index t 0, 0] := (by decide +kernel : ∀ t : Fin grid0.N, _)
theorem w1 : ∀ t : Fin cfg0.N, win0_1.index t = ![0, win0_3.index t 1] := (by decide +kernel : ∀ t : Fin grid0.N, _)
theorem w2 : ∀ t : Fin cfg0.N, win0_2.index t = win0_3.index t := (by decide +kernel : ∀ t : Fin grid0.N, _)

/-- The place of a result block's entry in the result. -/
theorem e0 (t : Fin cfg0.N) (y : S1088x512.Idx) : ((win0_3.blk t).view.emb y 0 : ℕ) = win0_3.index t 0 * 1088 + (y 0 : ℕ) := by blk_simp
theorem e1 (t : Fin cfg0.N) (y : S1088x512.Idx) : ((win0_3.blk t).view.emb y 1 : ℕ) = win0_3.index t 1 * 512 + (y 1 : ℕ) := by blk_simp

/-- The result. -/
def G (c : Dev nD) : (⟨S4352x2048, .f32⟩ : BufTy).Contents (Elt Ideal) :=
  prodAdd (m ((c.tc : Thread nD τ).loc main_arg0)) (m ((c.tc : Thread nD τ).loc main_arg1)) (m ((c.tc : Thread nD τ).loc main_arg2))

theorem final (c : Dev nD) : (dats m 0 c).arrAt 3 cfg0.N = G m c := by
  refine (dats m 0 c).arrAt_eq_of_covers 3 _ (by decide +kernel) fun t _ y => ?_
  blk_simp
  rw [after0_3]
  frame_out
  refine (congrArg (fun a : EReal => a + iblk m c 2 t y) (prod_block (φ₁ := .bf16) (φ₂ := .bf16) (iblk m c 0 t) (iblk m c 1 t) y)).trans ?_
  unfold G prodAdd prod
  refine (add_comm _ _).trans (congrArg₂ (· + ·) ?_ (Finset.sum_congr rfl fun k _ => congrArg₂ (· * ·) ?_ ?_))
  · blk_ext [iblk, V, w2 t]
  · blk_ext [iblk, V, w0 t]
    exact (e0 t y).symm
  · blk_ext [iblk, V, w1 t]
    exact (e1 t y).symm

/-- The reference's frame. -/
theorem frameR : Cert.quiescent_Reference25Ideal (hReference25Ideal := Cert.Reference25Ideal.Gen.facts) := fun m ρ _ =>
  (θ_run Cert.Reference25Ideal.defs _ _).mono (fun r h => ⟨fun c => (h c).2, sem_eq_zero_of_no_sems (by decide) r.2⟩)
    (Cert.Reference25Ideal.Value.run m ρ)

/-- Kernel and reference end with equal results over the extended reals. -/
theorem algebraic : Cert.algebraic_Kernel25Ideal_Reference25Ideal (hKernel25Ideal := Cert.Kernel25Ideal.Gen.facts)
    (hReference25Ideal := Cert.Reference25Ideal.Gen.facts) := by
  intro m ρ m' ρ' _ hag
  refine ⟨G m, ?_, ?_⟩
  · exact (θ_run _ _ _).mono (fun r h c => ⟨(h c).1.trans (final m c), (h c).2⟩) (Cert.Kernel25Ideal.Value.run_blocks m ρ)
  · refine (θ_run _ _ _).mono (fun r h c => ⟨(h c).1.trans ?_, (h c).2⟩) (Cert.Reference25Ideal.Value.run m' ρ')
    rw [(hag c).1, (hag c).2.1, (hag c).2.2]
    exact congrArg (addf _) (host_prod _ _ _)

end Cert.Mm.P25

end
-- ==== Proof.Mm.P26.lean ====
/- The gated linear unit
   (`Kernel26`): the kernel's array and the reference's result, entry by entry the sum over the contracted axis. -/
module

public import proofs.«01_k».proof.Defs
public import proofs.«01_k».proof.Proof.Mm.Forward
public import proofs.«01_k».proof.Proof.Gen.Kernel26Ideal.Value
public import proofs.«01_k».proof.Proof.Gen.Reference26Ideal.Run
public import Idealize.ShloMosaic.Lib.Pipeline.ValueKit
public import Idealize.ShloMosaic.Lib.Quiescent

@[expose] public section

set_option maxRecDepth 16384

noncomputable section

namespace Cert.Mm.P26

open Idealize.ShloMosaic Idealize.ShloMosaic.TcCoe Idealize.ShloMosaic.ValueIdx Idealize.SL.Sem
open Cert.Kernel26Ideal Cert.Kernel26Ideal.Gen

variable (m : (ℓ : Loc nD τ sig) → Buf (Elt Ideal) ℓ)

theorem w0 : ∀ t : Fin cfg0.N, win0_0.index t = ![win0_2.index t 0, 0] := (by decide +kernel : ∀ t : Fin grid0.N, _)
theorem w1 : ∀ t : Fin cfg0.N, win0_1.index t = ![0, win0_2.index t 1] := (by decide +kernel : ∀ t : Fin grid0.N, _)

/-- The place of a result block's entry in the result. -/
theorem e0 (t : Fin cfg0.N) (y : S1088x512.Idx) : ((win0_2.blk t).view.emb y 0 : ℕ) = win0_2.index t 0 * 1088 + (y 0 : ℕ) := by blk_simp
theorem e1 (t : Fin cfg0.N) (y : S1088x512.Idx) : ((win0_2.blk t).view.emb y 1 : ℕ) = win0_2.index t 1 * 512 + (y 1 : ℕ) := by blk_simp

/-- The result. -/
def G (c : Dev nD) : (⟨S4352x1024, .f32⟩ : BufTy).Contents (Elt Ideal) :=
  fun i => prod (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (prod_block (φ₁ := .bf16) (φ₂ := .bf16) (iblk m c 0 t) (iblk m c 1 t) y).trans ?_
  unfold G prod
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference26Ideal (hReference26Ideal := Cert.Reference26Ideal.Gen.facts) := fun m ρ _ =>
  (θ_run Cert.Reference26Ideal.defs _ _).mono (fun r h => ⟨fun c => (h c).2, sem_eq_zero_of_no_sems (by decide) r.2⟩)
    (Cert.Reference26Ideal.Value.run m ρ)

/-- Kernel and reference end with equal results over the extended reals. -/
theorem algebraic : Cert.algebraic_Kernel26Ideal_Reference26Ideal (hKernel26Ideal := Cert.Kernel26Ideal.Gen.facts)
    (hReference26Ideal := Cert.Reference26Ideal.Gen.facts) := by
  intro m ρ m' ρ' _ hag
  refine ⟨G m, ?_, ?_⟩
  · exact (θ_run _ _ _).mono (fun r h c => ⟨(h c).1.trans (final m c), (h c).2⟩) (Cert.Kernel26Ideal.Value.run_blocks m ρ)
  · refine (θ_run _ _ _).mono (fun r h c => ⟨(h c).1.trans ?_, (h c).2⟩) (Cert.Reference26Ideal.Value.run m' ρ')
    rw [(hag c).1, (hag c).2]
    exact host_prod _ _ _

end Cert.Mm.P26

end
-- ==== Proof.Mm.P27.lean ====
/- The projection of the step sizes, its weight padded to 128 columns (`Kernel27`): the kernel's array and the reference's
   result, entry by entry the sum over the contracted axis. -/
module

public import proofs.«01_k».proof.Defs
public import proofs.«01_k».proof.Proof.Mm.Forward
public import proofs.«01_k».proof.Proof.Gen.Kernel27Ideal.Value
public import proofs.«01_k».proof.Proof.Gen.Reference27Ideal.Run
public import Idealize.ShloMosaic.Lib.Pipeline.ValueKit
public import Idealize.ShloMosaic.Lib.Quiescent

@[expose] public section

set_option maxRecDepth 16384

noncomputable section

namespace Cert.Mm.P27

open Idealize.ShloMosaic Idealize.ShloMosaic.TcCoe Idealize.ShloMosaic.ValueIdx Idealize.SL.Sem
open Cert.Kernel27Ideal Cert.Kernel27Ideal.Gen

variable (m : (ℓ : Loc nD τ sig) → Buf (Elt Ideal) ℓ)

theorem w0 : ∀ t : Fin cfg0.N, win0_0.index t = ![win0_2.index t 0, 0] := (by decide +kernel : ∀ t : Fin grid0.N, _)
theorem w1 : ∀ t : Fin cfg0.N, win0_1.index t = ![0, win0_2.index t 1] := (by decide +kernel : ∀ t : Fin grid0.N, _)

/-- The place of a result block's entry in the result. -/
theorem e0 (t : Fin cfg0.N) (y : S1088x128.Idx) : ((win0_2.blk t).view.emb y 0 : ℕ) = win0_2.index t 0 * 1088 + (y 0 : ℕ) := by blk_simp
theorem e1 (t : Fin cfg0.N) (y : S1088x128.Idx) : ((win0_2.blk t).view.emb y 1 : ℕ) = win0_2.index t 1 * 128 + (y 1 : ℕ) := by blk_simp

/-- The result. -/
def G (c : Dev nD) : (⟨S4352x128, .f32⟩ : BufTy).Contents (Elt Ideal) :=
  fun i => prod (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (prod_block (φ₁ := .bf16) (φ₂ := .bf16) (iblk m c 0 t) (iblk m c 1 t) y).trans ?_
  unfold G prod
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference27Ideal (hReference27Ideal := Cert.Reference27Ideal.Gen.facts) := fun m ρ _ =>
  (θ_run Cert.Reference27Ideal.defs _ _).mono (fun r h => ⟨fun c => (h c).2, sem_eq_zero_of_no_sems (by decide) r.2⟩)
    (Cert.Reference27Ideal.Value.run m ρ)

/-- Kernel and reference end with equal results over the extended reals. -/
theorem algebraic : Cert.algebraic_Kernel27Ideal_Reference27Ideal (hKernel27Ideal := Cert.Kernel27Ideal.Gen.facts)
    (hReference27Ideal := Cert.Reference27Ideal.Gen.facts) := by
  intro m ρ m' ρ' _ hag
  refine ⟨G m, ?_, ?_⟩
  · exact (θ_run _ _ _).mono (fun r h c => ⟨(h c).1.trans (final m c), (h c).2⟩) (Cert.Kernel27Ideal.Value.run_blocks m ρ)
  · refine (θ_run _ _ _).mono (fun r h c => ⟨(h c).1.trans ?_, (h c).2⟩) (Cert.Reference27Ideal.Value.run m' ρ')
    rw [(hag c).1, (hag c).2]
    exact host_prod _ _ _

end Cert.Mm.P27

end
-- ==== Proof.Mm.P28.lean ====
/- The gradient of the input of the projection of the step sizes, added to an earlier gradient (`Kernel28`): the kernel's
   array and the reference's result, entry by entry the sum over the 128 columns plus the entry that it is added to. -/
module

public import proofs.«01_k».proof.Defs
public import proofs.«01_k».proof.Proof.Mm.Product
public import proofs.«01_k».proof.Proof.Gen.Kernel28Ideal.Value
public import proofs.«01_k».proof.Proof.Gen.Reference28Ideal.Run
public import Idealize.ShloMosaic.Lib.Pipeline.ValueKit
public import Idealize.ShloMosaic.Lib.Quiescent

@[expose] public section

set_option maxRecDepth 16384

noncomputable section

namespace Cert.Mm.P28

open Idealize.ShloMosaic Idealize.ShloMosaic.TcCoe Idealize.ShloMosaic.ValueIdx Idealize.SL.Sem
open Cert.Kernel28Ideal Cert.Kernel28Ideal.Gen

variable (m : (ℓ : Loc nD τ sig) → Buf (Elt Ideal) ℓ)

theorem w0 : ∀ t : Fin cfg0.N, win0_0.index t = ![win0_3.index t 0, 0] := (by decide +kernel : ∀ t : Fin grid0.N, _)
theorem w1 : ∀ t : Fin cfg0.N, win0_1.index t = ![win0_3.index t 1, 0] := (by decide +kernel : ∀ t : Fin grid0.N, _)
theorem w2 : ∀ t : Fin cfg0.N, win0_2.index t = win0_3.index t := (by decide +kernel : ∀ t : Fin grid0.N, _)

/-- The place of a result block's entry in the result. -/
theorem e0 (t : Fin cfg0.N) (y : S1088x512.Idx) : ((win0_3.blk t).view.emb y 0 : ℕ) = win0_3.index t 0 * 1088 + (y 0 : ℕ) := by blk_simp
theorem e1 (t : Fin cfg0.N) (y : S1088x512.Idx) : ((win0_3.blk t).view.emb y 1 : ℕ) = win0_3.index t 1 * 512 + (y 1 : ℕ) := by blk_simp

/-- The result. -/
def G (c : Dev nD) : (⟨S4352x2048, .f32⟩ : BufTy).Contents (Elt Ideal) :=
  gradNadd (m ((c.tc : Thread nD τ).loc main_arg0)) (m ((c.tc : Thread nD τ).loc main_arg1)) (m ((c.tc : Thread nD τ).loc main_arg2))

theorem final (c : Dev nD) : (dats m 0 c).arrAt 3 cfg0.N = G m c := by
  refine (dats m 0 c).arrAt_eq_of_covers 3 _ (by decide +kernel) fun t _ y => ?_
  blk_simp
  rw [after0_3]
  frame_out
  refine (congrArg (fun a : EReal => a + iblk m c 2 t y) (cols_block (φ₁ := .bf16) (φ₂ := .bf16) (iblk m c 0 t) (iblk m c 1 t) y)).trans ?_
  unfold G gradNadd gradN
  refine (add_comm _ _).trans (congrArg₂ (· + ·) ?_ (Finset.sum_congr rfl fun k _ => congrArg₂ (· * ·) ?_ ?_))
  · blk_ext [iblk, V, w2 t]
  · blk_ext [iblk, V, w0 t]
    exact (e0 t y).symm
  · blk_ext [iblk, V, w1 t]
    exact (e1 t y).symm

/-- The reference's frame. -/
theorem frameR : Cert.quiescent_Reference28Ideal (hReference28Ideal := Cert.Reference28Ideal.Gen.facts) := fun m ρ _ =>
  (θ_run Cert.Reference28Ideal.defs _ _).mono (fun r h => ⟨fun c => (h c).2, sem_eq_zero_of_no_sems (by decide) r.2⟩)
    (Cert.Reference28Ideal.Value.run m ρ)

/-- Kernel and reference end with equal results over the extended reals. -/
theorem algebraic : Cert.algebraic_Kernel28Ideal_Reference28Ideal (hKernel28Ideal := Cert.Kernel28Ideal.Gen.facts)
    (hReference28Ideal := Cert.Reference28Ideal.Gen.facts) := by
  intro m ρ m' ρ' _ hag
  refine ⟨G m, ?_, ?_⟩
  · exact (θ_run _ _ _).mono (fun r h c => ⟨(h c).1.trans (final m c), (h c).2⟩) (Cert.Kernel28Ideal.Value.run_blocks m ρ)
  · refine (θ_run _ _ _).mono (fun r h c => ⟨(h c).1.trans ?_, (h c).2⟩) (Cert.Reference28Ideal.Value.run m' ρ')
    rw [(hag c).1, (hag c).2.1, (hag c).2.2]
    exact congrArg (addf _) (host_gradN _ _ _)

end Cert.Mm.P28

end
-- ==== Proof.Mm.P29.lean ====
/- The gradient of the weight of the projection of the step sizes (`Kernel29`): the kernel's array and the reference's
   result, entry by entry the sum over the rows. -/
module

public import proofs.«01_k».proof.Defs
public import proofs.«01_k».proof.Proof.Mm.Product
public import proofs.«01_k».proof.Proof.Gen.Kernel29Ideal.Value
public import proofs.«01_k».proof.Proof.Gen.Reference29Ideal.Run
public import Idealize.ShloMosaic.Lib.Pipeline.ValueKit
public import Idealize.ShloMosaic.Lib.Quiescent

@[expose] public section

set_option maxRecDepth 16384

noncomputable section

namespace Cert.Mm.P29

open Idealize.ShloMosaic Idealize.ShloMosaic.TcCoe Idealize.ShloMosaic.ValueIdx Idealize.SL.Sem
open Cert.Kernel29Ideal Cert.Kernel29Ideal.Gen

variable (m : (ℓ : Loc nD τ sig) → Buf (Elt Ideal) ℓ)

theorem w0 : ∀ t : Fin cfg0.N, win0_0.index t = ![0, win0_2.index t 0] := (by decide +kernel : ∀ t : Fin grid0.N, _)
theorem w1 : ∀ t : Fin cfg0.N, win0_1.index t = ![0, win0_2.index t 1] := (by decide +kernel : ∀ t : Fin grid0.N, _)

/-- The place of a result block's entry in the result. -/
theorem e0 (t : Fin cfg0.N) (y : S1024x128.Idx) : ((win0_2.blk t).view.emb y 0 : ℕ) = win0_2.index t 0 * 1024 + (y 0 : ℕ) := by blk_simp
theorem e1 (t : Fin cfg0.N) (y : S1024x128.Idx) : ((win0_2.blk t).view.emb y 1 : ℕ) = win0_2.index t 1 * 128 + (y 1 : ℕ) := by blk_simp

/-- The result. -/
def G (c : Dev nD) : (⟨S2048x128, .bf16⟩ : BufTy).Contents (Elt Ideal) := fun i =>
  gradW (m ((c.tc : Thread nD τ).loc main_arg0)) (m ((c.tc : Thread nD τ).loc main_arg1)) (i 0) (i 1)

theorem final (c : Dev nD) : (dats m 0 c).arrAt 2 cfg0.N = G m c := by
  refine (dats m 0 c).arrAt_eq_of_covers 2 _ (by decide +kernel) fun t _ y => ?_
  blk_simp
  rw [after0_2]
  frame_out
  refine (rows_block (φ₁ := .bf16) (φ₂ := .bf16) (iblk m c 0 t) (iblk m c 1 t) y).trans ?_
  unfold G gradW
  refine Finset.sum_congr rfl fun k _ => ?_
  congr 1
  · blk_ext [iblk, V, w0 t]
    exact (e0 t y).symm
  · blk_ext [iblk, V, w1 t]
    exact (e1 t y).symm

/-- The reference's frame. -/
theorem frameR : Cert.quiescent_Reference29Ideal (hReference29Ideal := Cert.Reference29Ideal.Gen.facts) := fun m ρ _ =>
  (θ_run Cert.Reference29Ideal.defs _ _).mono (fun r h => ⟨fun c => (h c).2, sem_eq_zero_of_no_sems (by decide) r.2⟩)
    (Cert.Reference29Ideal.Value.run m ρ)

/-- Kernel and reference end with equal results over the extended reals. -/
theorem algebraic : Cert.algebraic_Kernel29Ideal_Reference29Ideal (hKernel29Ideal := Cert.Kernel29Ideal.Gen.facts)
    (hReference29Ideal := Cert.Reference29Ideal.Gen.facts) := by
  intro m ρ m' ρ' _ hag
  refine ⟨G m, ?_, ?_⟩
  · exact (θ_run _ _ _).mono (fun r h c => ⟨(h c).1.trans (final m c), (h c).2⟩) (Cert.Kernel29Ideal.Value.run_blocks m ρ)
  · refine (θ_run _ _ _).mono (fun r h c => ⟨(h c).1.trans ?_, (h c).2⟩) (Cert.Reference29Ideal.Value.run m' ρ')
    rw [(hag c).1, (hag c).2]
    exact host_gradW _ _ _ _

end Cert.Mm.P29

end
-- ==== Proof.Norm.P30.lean ====
/- The RMS norm itself (`Kernel30`): the kernel's array and the reference's result, row by row. -/
module

public import proofs.«01_k».proof.Defs
public import proofs.«01_k».proof.Proof.Norm.Row
public import proofs.«01_k».proof.Proof.Gen.Kernel30Ideal.Value
public import proofs.«01_k».proof.Proof.Gen.Reference30Ideal.Run
public import Idealize.ShloMosaic.Lib.Pipeline.ValueKit
public import Idealize.ShloMosaic.Lib.Quiescent

@[expose] public section

set_option maxRecDepth 16384

noncomputable section

namespace Cert.Norm.P30

open Idealize.ShloMosaic Idealize.ShloMosaic.TcCoe Idealize.SL.Sem
open Cert.Kernel30Ideal Cert.Kernel30Ideal.Gen
open scoped BigOperators

variable (m : (ℓ : Loc nD τ sig) → Buf (Elt Ideal) ℓ)

/-- A row's norm. -/
def nr (a g : Row) (j : Fin 2048) : EReal := (a j * rs a) * g j

theorem w0 : ∀ t : Fin cfg0.N, win0_0.index t = ![win0_2.index t 0, 0] := (by decide +kernel : ∀ t : Fin grid0.N, _)
theorem w1 : ∀ t : Fin cfg0.N, win0_1.index t = ![0, 0] := (by decide +kernel : ∀ t : Fin grid0.N, _)
theorem w2 : ∀ t : Fin cfg0.N, win0_2.index t 1 = 0 := (by decide +kernel : ∀ t : Fin grid0.N, _)

/-- The place of a result block's entry in the result. -/
theorem e0 (t : Fin cfg0.N) (y : S256x2048.Idx) : ((win0_2.blk t).view.emb y 0 : ℕ) = win0_2.index t 0 * 256 + (y 0 : ℕ) := by blk_simp
theorem e1 (t : Fin cfg0.N) (y : S256x2048.Idx) : ((win0_2.blk t).view.emb y 1 : ℕ) = (y 1 : ℕ) := by
  refine Eq.trans (b := win0_2.index t 1 * 2048 + (y 1 : ℕ)) (by blk_simp) ?_
  rw [w2 t]
  exact (congrArg (· + (y 1 : ℕ)) (Nat.zero_mul 2048)).trans (Nat.zero_add _)

/-- What the kernel computes of a block. -/
theorem k_nr (x : FVec Ideal S256x2048 .f32) (g : FVec Ideal S1x2048 .f32) (y : S256x2048.Idx) :
    k0_pay1 (F := Ideal) x g y = nr (row x (y 0)) (row g 0) (y 1) := by
  obtain ⟨r, j, rfl⟩ : ∃ r j, y = ix2 r j := ⟨y 0, y 1, (eta y).symm⟩
  pointwise [k0_pay1]
  rfl

/-- The result. -/
def G (c : Dev nD) : (⟨S4352x2048, .bf16⟩ : BufTy).Contents (Elt Ideal) := fun i =>
  nr (row (M := 4352) (m ((c.tc : Thread nD τ).loc main_arg0)) (i 0)) (row (M := 1) (m ((c.tc : Thread nD τ).loc main_arg1)) 0) (i 1)

/-- The reference's result, in its own operations. -/
theorem r_nr (x : FVec Ideal S4352x2048 .f32) (g : FVec Ideal S1x2048 .f32) (i : S4352x2048.Idx) :
    (mulf (mulf x (broadcastInDim Cert.Reference14Ideal.S4352x2048 ![0, 1] Cert.Reference14Ideal.Gen.facts.bcast_S4352x1_S4352x2048_0_1 (rRs x)))
      (broadcastInDim Cert.Reference14Ideal.S4352x2048 ![0, 1] Cert.Reference14Ideal.Gen.facts.bcast_S1x2048_S4352x2048_0_1 g)) i = nr (row x (i 0)) (row g 0) (i 1) := by
  obtain ⟨r, j, rfl⟩ : ∃ r j, i = ix2 r j := ⟨i 0, i 1, (eta i).symm⟩
  pointwise
  rw [r_rs]
  rfl

theorem final (c : Dev nD) : (dats m 0 c).arrAt 2 cfg0.N = G m c := by
  refine (dats m 0 c).arrAt_eq_of_covers 2 _ (by decide +kernel) fun t _ y => ?_
  blk_simp
  rw [after0_2]
  frame_out
  refine (k_nr (iblk m c 0 t) (iblk m c 1 t) y).trans ?_
  unfold G
  refine (congrArg₂ (fun a b : Row => nr a b (y 1)) ?_ ?_).trans (congrArg (nr _ _) (Fin.ext (e1 t y).symm))
  · funext k
    show iblk m c 0 t (ix2 (y 0) k) = m ((c.tc : Thread nD τ).loc main_arg0) (ix2 ((win0_2.blk t).view.emb y 0) k)
    blk_ext [iblk, V, w0 t]
  · funext k
    show iblk m c 1 t (ix2 0 k) = m ((c.tc : Thread nD τ).loc main_arg1) (ix2 0 k)
    blk_ext [iblk, V, w1 t]

/-- The reference's frame. -/
theorem frameR : Cert.quiescent_Reference30Ideal (hReference30Ideal := Cert.Reference30Ideal.Gen.facts) := fun m ρ _ =>
  (θ_run Cert.Reference30Ideal.defs _ _).mono (fun r h => ⟨fun c => (h c).2, sem_eq_zero_of_no_sems (by decide) r.2⟩)
    (Cert.Reference30Ideal.Value.run m ρ)

/-- Kernel and reference end with equal results over the extended reals. -/
theorem algebraic : Cert.algebraic_Kernel30Ideal_Reference30Ideal (hKernel30Ideal := Cert.Kernel30Ideal.Gen.facts)
    (hReference30Ideal := Cert.Reference30Ideal.Gen.facts) := by
  intro m ρ m' ρ' _ hag
  refine ⟨G m, ?_, ?_⟩
  · exact (θ_run _ _ _).mono (fun r h c => ⟨(h c).1.trans (final m c), (h c).2⟩) (Cert.Kernel30Ideal.Value.run_blocks m ρ)
  · refine (θ_run _ _ _).mono (fun r h c => ⟨(h c).1.trans ?_, (h c).2⟩) (Cert.Reference30Ideal.Value.run m' ρ')
    rw [(hag c).1, (hag c).2]
    exact funext fun i => r_nr _ _ i

end Cert.Norm.P30

end
-- ==== Proof.lean ====
/- The proof of the certificate's claims: the frames of the kernel at both float values and of the reference, and the
   equality of the five claimed results over the extended reals; then the same of the norm, of its
   backward pass and of the products. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Bits.Frame
public import proofs.«01_k».proof.Proof.Algebraic
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Mm.P2
public import proofs.«01_k».proof.Proof.Mm.P3
public import proofs.«01_k».proof.Proof.Mm.P4
public import proofs.«01_k».proof.Proof.Mm.P5
public import proofs.«01_k».proof.Proof.Mm.P6
public import proofs.«01_k».proof.Proof.Mm.P7
public import proofs.«01_k».proof.Proof.Mm.P8
public import proofs.«01_k».proof.Proof.Mm.P9
public import proofs.«01_k».proof.Proof.Mm.P10
public import proofs.«01_k».proof.Proof.Mm.P11
public import proofs.«01_k».proof.Proof.Mm.P12
public import proofs.«01_k».proof.Proof.Mm.P13
public import proofs.«01_k».proof.Proof.Gen.Kernel14.Frame
public import proofs.«01_k».proof.Proof.Norm.P14
public import proofs.«01_k».proof.Proof.Gen.Kernel15.Frame
public import proofs.«01_k».proof.Proof.Mm.P15
public import proofs.«01_k».proof.Proof.Gen.Kernel16.Frame
public import proofs.«01_k».proof.Proof.Mm.P16
public import proofs.«01_k».proof.Proof.Gen.Kernel17.Frame
public import proofs.«01_k».proof.Proof.Mm.P17
public import proofs.«01_k».proof.Proof.Gen.Kernel18.Frame
public import proofs.«01_k».proof.Proof.Mm.P18
public import proofs.«01_k».proof.Proof.Gen.Kernel19.Frame
public import proofs.«01_k».proof.Proof.Mm.P19
public import proofs.«01_k».proof.Proof.Gen.Kernel20.Frame
public import proofs.«01_k».proof.Proof.Mm.P20
public import proofs.«01_k».proof.Proof.Gen.Kernel21.Frame
public import proofs.«01_k».proof.Proof.Mm.P21
public import proofs.«01_k».proof.Proof.Gen.Kernel22.Frame
public import proofs.«01_k».proof.Proof.Mm.P22
public import proofs.«01_k».proof.Proof.Gen.Kernel23.Frame
public import proofs.«01_k».proof.Proof.Mm.P23
public import proofs.«01_k».proof.Proof.Gen.Kernel24.Frame
public import proofs.«01_k».proof.Proof.Mm.P24
public import proofs.«01_k».proof.Proof.Gen.Kernel25.Frame
public import proofs.«01_k».proof.Proof.Mm.P25
public import proofs.«01_k».proof.Proof.Gen.Kernel26.Frame
public import proofs.«01_k».proof.Proof.Mm.P26
public import proofs.«01_k».proof.Proof.Gen.Kernel27.Frame
public import proofs.«01_k».proof.Proof.Mm.P27
public import proofs.«01_k».proof.Proof.Gen.Kernel28.Frame
public import proofs.«01_k».proof.Proof.Mm.P28
public import proofs.«01_k».proof.Proof.Gen.Kernel29.Frame
public import proofs.«01_k».proof.Proof.Mm.P29
public import proofs.«01_k».proof.Proof.Gen.Kernel30.Frame
public import proofs.«01_k».proof.Proof.Norm.P30
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Pre_finite.facts,
  fun m ρ _ => Cert.Bits.Body.frame (F := Bits) m ρ,
  fun m ρ _ => Cert.Body.frame m ρ, fun m ρ _ => Cert.Body.frame m ρ,
  Cert.Alg.frameR, fun m ρ _ => Cert.Alg.frameR m ρ trivial,
  fun m ρ _ => Cert.Kernel2.Gen.frame m ρ, fun m ρ _ => Cert.Kernel2Ideal.Gen.frame m ρ, Cert.Mm.P2.frameR,
  fun m ρ _ => Cert.Kernel3.Gen.frame m ρ, fun m ρ _ => Cert.Kernel3Ideal.Gen.frame m ρ, Cert.Mm.P3.frameR,
  fun m ρ _ => Cert.Kernel4.Gen.frame m ρ, fun m ρ _ => Cert.Kernel4Ideal.Gen.frame m ρ, Cert.Mm.P4.frameR,
  fun m ρ _ => Cert.Kernel5.Gen.frame m ρ, fun m ρ _ => Cert.Kernel5Ideal.Gen.frame m ρ, Cert.Mm.P5.frameR,
  fun m ρ _ => Cert.Kernel6.Gen.frame m ρ, fun m ρ _ => Cert.Kernel6Ideal.Gen.frame m ρ, Cert.Mm.P6.frameR,
  fun m ρ _ => Cert.Kernel7.Gen.frame m ρ, fun m ρ _ => Cert.Kernel7Ideal.Gen.frame m ρ, Cert.Mm.P7.frameR,
  fun m ρ _ => Cert.Kernel8.Gen.frame m ρ, fun m ρ _ => Cert.Kernel8Ideal.Gen.frame m ρ, Cert.Mm.P8.frameR,
  fun m ρ _ => Cert.Kernel9.Gen.frame m ρ, fun m ρ _ => Cert.Kernel9Ideal.Gen.frame m ρ, Cert.Mm.P9.frameR,
  fun m ρ _ => Cert.Kernel10.Gen.frame m ρ, fun m ρ _ => Cert.Kernel10Ideal.Gen.frame m ρ, Cert.Mm.P10.frameR,
  fun m ρ _ => Cert.Kernel11.Gen.frame m ρ, fun m ρ _ => Cert.Kernel11Ideal.Gen.frame m ρ, Cert.Mm.P11.frameR,
  fun m ρ _ => Cert.Kernel12.Gen.frame m ρ, fun m ρ _ => Cert.Kernel12Ideal.Gen.frame m ρ, Cert.Mm.P12.frameR,
  fun m ρ _ => Cert.Kernel13.Gen.frame m ρ, fun m ρ _ => Cert.Kernel13Ideal.Gen.frame m ρ, Cert.Mm.P13.frameR,
  fun m ρ _ => Cert.Kernel14.Gen.frame m ρ, fun m ρ _ => Cert.Kernel14Ideal.Gen.frame m ρ, Cert.Norm.P14.frameR,
  fun m ρ _ => Cert.Kernel15.Gen.frame m ρ, fun m ρ _ => Cert.Kernel15Ideal.Gen.frame m ρ, Cert.Mm.P15.frameR,
  fun m ρ _ => Cert.Kernel16.Gen.frame m ρ, fun m ρ _ => Cert.Kernel16Ideal.Gen.frame m ρ, Cert.Mm.P16.frameR,
  fun m ρ _ => Cert.Kernel17.Gen.frame m ρ, fun m ρ _ => Cert.Kernel17Ideal.Gen.frame m ρ, Cert.Mm.P17.frameR,
  fun m ρ _ => Cert.Kernel18.Gen.frame m ρ, fun m ρ _ => Cert.Kernel18Ideal.Gen.frame m ρ, Cert.Mm.P18.frameR,
  fun m ρ _ => Cert.Kernel19.Gen.frame m ρ, fun m ρ _ => Cert.Kernel19Ideal.Gen.frame m ρ, Cert.Mm.P19.frameR,
  fun m ρ _ => Cert.Kernel20.Gen.frame m ρ, fun m ρ _ => Cert.Kernel20Ideal.Gen.frame m ρ, Cert.Mm.P20.frameR,
  fun m ρ _ => Cert.Kernel21.Gen.frame m ρ, fun m ρ _ => Cert.Kernel21Ideal.Gen.frame m ρ, Cert.Mm.P21.frameR,
  fun m ρ _ => Cert.Kernel22.Gen.frame m ρ, fun m ρ _ => Cert.Kernel22Ideal.Gen.frame m ρ, Cert.Mm.P22.frameR,
  fun m ρ _ => Cert.Kernel23.Gen.frame m ρ, fun m ρ _ => Cert.Kernel23Ideal.Gen.frame m ρ, Cert.Mm.P23.frameR,
  fun m ρ _ => Cert.Kernel24.Gen.frame m ρ, fun m ρ _ => Cert.Kernel24Ideal.Gen.frame m ρ, Cert.Mm.P24.frameR,
  fun m ρ _ => Cert.Kernel25.Gen.frame m ρ, fun m ρ _ => Cert.Kernel25Ideal.Gen.frame m ρ, Cert.Mm.P25.frameR,
  fun m ρ _ => Cert.Kernel26.Gen.frame m ρ, fun m ρ _ => Cert.Kernel26Ideal.Gen.frame m ρ, Cert.Mm.P26.frameR,
  fun m ρ _ => Cert.Kernel27.Gen.frame m ρ, fun m ρ _ => Cert.Kernel27Ideal.Gen.frame m ρ, Cert.Mm.P27.frameR,
  fun m ρ _ => Cert.Kernel28.Gen.frame m ρ, fun m ρ _ => Cert.Kernel28Ideal.Gen.frame m ρ, Cert.Mm.P28.frameR,
  fun m ρ _ => Cert.Kernel29.Gen.frame m ρ, fun m ρ _ => Cert.Kernel29Ideal.Gen.frame m ρ, Cert.Mm.P29.frameR,
  fun m ρ _ => Cert.Kernel30.Gen.frame m ρ, fun m ρ _ => Cert.Kernel30Ideal.Gen.frame m ρ, Cert.Norm.P30.frameR,
  trivial, Cert.Alg.algebraic,
  trivial, Cert.Mm.P2.algebraic,
  trivial, Cert.Mm.P3.algebraic,
  trivial, Cert.Mm.P4.algebraic,
  trivial, Cert.Mm.P5.algebraic,
  trivial, Cert.Mm.P6.algebraic,
  trivial, Cert.Mm.P7.algebraic,
  trivial, Cert.Mm.P8.algebraic,
  trivial, Cert.Mm.P9.algebraic,
  trivial, Cert.Mm.P10.algebraic,
  trivial, Cert.Mm.P11.algebraic,
  trivial, Cert.Mm.P12.algebraic,
  trivial, Cert.Mm.P13.algebraic,
  trivial, Cert.Norm.P14.algebraic,
  trivial, Cert.Mm.P15.algebraic,
  trivial, Cert.Mm.P16.algebraic,
  trivial, Cert.Mm.P17.algebraic,
  trivial, Cert.Mm.P18.algebraic,
  trivial, Cert.Mm.P19.algebraic,
  trivial, Cert.Mm.P20.algebraic,
  trivial, Cert.Mm.P21.algebraic,
  trivial, Cert.Mm.P22.algebraic,
  trivial, Cert.Mm.P23.algebraic,
  trivial, Cert.Mm.P24.algebraic,
  trivial, Cert.Mm.P25.algebraic,
  trivial, Cert.Mm.P26.algebraic,
  trivial, Cert.Mm.P27.algebraic,
  trivial, Cert.Mm.P28.algebraic,
  trivial, Cert.Mm.P29.algebraic,
  trivial, Cert.Norm.P30.algebraic⟩

end Cert.Proof

end
